-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v55) = v0 c
          ∧ r.2.mem ((c.tc : Thread Cert.Reference4Ideal.nD Cert.Reference4Ideal.τ).loc Cert.Reference4Ideal.main_v58) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S8x4096x8192 : Shape := ⟨3, ![8, 4096, 8192]⟩
abbrev S8x256x8192 : Shape := ⟨3, ![8, 256, 8192]⟩
abbrev S16x15x31 : Shape := ⟨3, ![16, 15, 31]⟩
abbrev S8x5x640x256 : Shape := ⟨4, ![8, 5, 640, 256]⟩
abbrev S_ : Shape := ⟨0, ![]⟩
abbrev S8x5x640x256x1 : Shape := ⟨5, ![8, 5, 640, 256, 1]⟩
abbrev S8x5x640x256x3 : Shape := ⟨5, ![8, 5, 640, 256, 3]⟩
abbrev S8x4096x1024 : Shape := ⟨3, ![8, 4096, 1024]⟩
abbrev S1x4096x128 : Shape := ⟨3, ![1, 4096, 128]⟩
abbrev S1x256x128 : Shape := ⟨3, ![1, 256, 128]⟩
abbrev S1x5x640x256 : Shape := ⟨4, ![1, 5, 640, 256]⟩
abbrev S32x128x128 : Shape := ⟨3, ![32, 128, 128]⟩
abbrev S2x128x128 : Shape := ⟨3, ![2, 128, 128]⟩
abbrev S896x256 : Shape := ⟨2, ![896, 256]⟩
abbrev S1x128x128 : Shape := ⟨3, ![1, 128, 128]⟩
abbrev S128x128 : Shape := ⟨2, ![128, 128]⟩
abbrev S256x128 : Shape := ⟨2, ![256, 128]⟩
abbrev S1x640x128 : Shape := ⟨3, ![1, 640, 128]⟩
abbrev S640x128 : Shape := ⟨2, ![640, 128]⟩
abbrev S896x128 : Shape := ⟨2, ![896, 128]⟩
abbrev S1x1x640x256 : Shape := ⟨4, ![1, 1, 640, 256]⟩
abbrev S640x256 : Shape := ⟨2, ![640, 256]⟩
abbrev S256x256 : Shape := ⟨2, ![256, 256]⟩
abbrev S256 : Shape := ⟨1, ![256]⟩
abbrev S1x256 : Shape := ⟨2, ![1, 256]⟩
abbrev S128x896 : Shape := ⟨2, ![128, 896]⟩
abbrev S128x256 : Shape := ⟨2, ![128, 256]⟩

abbrev nBuf : Space → Nat
  | .hbm => 126
  | .vmem => 22
  | .smem => 0
  | _ => 0

abbrev bufTy : (tb : Table) → Fin (tcTables nBuf tb) → BufTy
  | .hbm, ⟨0, _⟩ => ⟨S8x4096x8192, .bf16⟩
  | .hbm, ⟨1, _⟩ => ⟨S8x256x8192, .bf16⟩
  | .hbm, ⟨2, _⟩ => ⟨S16x15x31, .f32⟩
  | .hbm, ⟨3, _⟩ => ⟨S8x5x640x256, .i32⟩
  | .hbm, ⟨4, _⟩ => ⟨S8x5x640x256, .i32⟩
  | .hbm, ⟨5, _⟩ => ⟨S8x5x640x256, .i32⟩
  | .hbm, ⟨6, _⟩ => ⟨S8x5x640x256, .i32⟩
  | .hbm, ⟨7, _⟩ => ⟨S_, .i32⟩
  | .hbm, ⟨8, _⟩ => ⟨S8x5x640x256, .i32⟩
  | .hbm, ⟨9, _⟩ => ⟨S8x5x640x256, .i1⟩
  | .hbm, ⟨10, _⟩ => ⟨S_, .i32⟩
  | .hbm, ⟨11, _⟩ => ⟨S8x5x640x256, .i32⟩
  | .hbm, ⟨12, _⟩ => ⟨S8x5x640x256, .i32⟩
  | .hbm, ⟨13, _⟩ => ⟨S8x5x640x256, .i32⟩
  | .hbm, ⟨14, _⟩ => ⟨S_, .i32⟩
  | .hbm, ⟨15, _⟩ => ⟨S8x5x640x256, .i32⟩
  | .hbm, ⟨16, _⟩ => ⟨S8x5x640x256, .i32⟩
  | .hbm, ⟨17, _⟩ => ⟨S_, .i32⟩
  | .hbm, ⟨18, _⟩ => ⟨S8x5x640x256, .i32⟩
  | .hbm, ⟨19, _⟩ => ⟨S8x5x640x256, .i32⟩
  | .hbm, ⟨20, _⟩ => ⟨S_, .i32⟩
  | .hbm, ⟨21, _⟩ => ⟨S8x5x640x256, .i32⟩
  | .hbm, ⟨22, _⟩ => ⟨S8x5x640x256, .i32⟩
  | .hbm, ⟨23, _⟩ => ⟨S_, .i32⟩
  | .hbm, ⟨24, _⟩ => ⟨S8x5x640x256, .i32⟩
  | .hbm, ⟨25, _⟩ => ⟨S8x5x640x256, .i32⟩
  | .hbm, ⟨26, _⟩ => ⟨S_, .i32⟩
  | .hbm, ⟨27, _⟩ => ⟨S8x5x640x256, .i32⟩
  | .hbm, ⟨28, _⟩ => ⟨S8x5x640x256, .i32⟩
  | .hbm, ⟨29, _⟩ => ⟨S8x5x640x256, .i32⟩
  | .hbm, ⟨30, _⟩ => ⟨S_, .i32⟩
  | .hbm, ⟨31, _⟩ => ⟨S8x5x640x256, .i32⟩
  | .hbm, ⟨32, _⟩ => ⟨S8x5x640x256, .i32⟩
  | .hbm, ⟨33, _⟩ => ⟨S_, .i32⟩
  | .hbm, ⟨34, _⟩ => ⟨S8x5x640x256, .i32⟩
  | .hbm, ⟨35, _⟩ => ⟨S8x5x640x256, .i32⟩
  | .hbm, ⟨36, _⟩ => ⟨S_, .i32⟩
  | .hbm, ⟨37, _⟩ => ⟨S8x5x640x256, .i32⟩
  | .hbm, ⟨38, _⟩ => ⟨S8x5x640x256, .i32⟩
  | .hbm, ⟨39, _⟩ => ⟨S_, .i32⟩
  | .hbm, ⟨40, _⟩ => ⟨S8x5x640x256, .i32⟩
  | .hbm, ⟨41, _⟩ => ⟨S8x5x640x256, .i32⟩
  | .hbm, ⟨42, _⟩ => ⟨S8x5x640x256, .i32⟩
  | .hbm, ⟨43, _⟩ => ⟨S_, .i32⟩
  | .hbm, ⟨44, _⟩ => ⟨S8x5x640x256, .i32⟩
  | .hbm, ⟨45, _⟩ => ⟨S8x5x640x256, .i32⟩
  | .hbm, ⟨46, _⟩ => ⟨S_, .i32⟩
  | .hbm, ⟨47, _⟩ => ⟨S8x5x640x256, .i32⟩
  | .hbm, ⟨48, _⟩ => ⟨S8x5x640x256, .i32⟩
  | .hbm, ⟨49, _⟩ => ⟨S_, .i32⟩
  | .hbm, ⟨50, _⟩ => ⟨S8x5x640x256, .i32⟩
  | .hbm, ⟨51, _⟩ => ⟨S8x5x640x256, .i32⟩
  | .hbm, ⟨52, _⟩ => ⟨S8x5x640x256, .i32⟩
  | .hbm, ⟨53, _⟩ => ⟨S_, .i32⟩
  | .hbm, ⟨54, _⟩ => ⟨S8x5x640x256, .i32⟩
  | .hbm, ⟨55, _⟩ => ⟨S8x5x640x256, .i32⟩
  | .hbm, ⟨56, _⟩ => ⟨S_, .i32⟩
  | .hbm, ⟨57, _⟩ => ⟨S8x5x640x256, .i32⟩
  | .hbm, ⟨58, _⟩ => ⟨S8x5x640x256, .i32⟩
  | .hbm, ⟨59, _⟩ => ⟨S_, .i32⟩
  | .hbm, ⟨60, _⟩ => ⟨S8x5x640x256, .i32⟩
  | .hbm, ⟨61, _⟩ => ⟨S8x5x640x256, .i32⟩
  | .hbm, ⟨62, _⟩ => ⟨S_, .i32⟩
  | .hbm, ⟨63, _⟩ => ⟨S8x5x640x256, .i32⟩
  | .hbm, ⟨64, _⟩ => ⟨S8x5x640x256, .i32⟩
  | .hbm, ⟨65, _⟩ => ⟨S_, .i32⟩
  | .hbm, ⟨66, _⟩ => ⟨S8x5x640x256, .i32⟩
  | .hbm, ⟨67, _⟩ => ⟨S8x5x640x256, .i32⟩
  | .hbm, ⟨68, _⟩ => ⟨S_, .i32⟩
  | .hbm, ⟨69, _⟩ => ⟨S8x5x640x256, .i32⟩
  | .hbm, ⟨70, _⟩ => ⟨S8x5x640x256, .i32⟩
  | .hbm, ⟨71, _⟩ => ⟨S8x5x640x256, .i1⟩
  | .hbm, ⟨72, _⟩ => ⟨S_, .i32⟩
  | .hbm, ⟨73, _⟩ => ⟨S8x5x640x256, .i32⟩
  | .hbm, ⟨74, _⟩ => ⟨S8x5x640x256, .i32⟩
  | .hbm, ⟨75, _⟩ => ⟨S8x5x640x256, .i1⟩
  | .hbm, ⟨76, _⟩ => ⟨S8x5x640x256, .i1⟩
  | .hbm, ⟨77, _⟩ => ⟨S8x5x640x256, .i1⟩
  | .hbm, ⟨78, _⟩ => ⟨S8x5x640x256, .i1⟩
  | .hbm, ⟨79, _⟩ => ⟨S_, .i32⟩
  | .hbm, ⟨80, _⟩ => ⟨S8x5x640x256, .i32⟩
  | .hbm, ⟨81, _⟩ => ⟨S8x5x640x256, .i32⟩
  | .hbm, ⟨82, _⟩ => ⟨S8x5x640x256, .i1⟩
  | .hbm, ⟨83, _⟩ => ⟨S8x5x640x256, .i1⟩
  | .hbm, ⟨84, _⟩ => ⟨S8x5x640x256, .i32⟩
  | .hbm, ⟨85, _⟩ => ⟨S_, .i32⟩
  | .hbm, ⟨86, _⟩ => ⟨S8x5x640x256, .i32⟩
  | .hbm, ⟨87, _⟩ => ⟨S8x5x640x256, .i32⟩
  | .hbm, ⟨88, _⟩ => ⟨S8x5x640x256, .i32⟩
  | .hbm, ⟨89, _⟩ => ⟨S_, .i32⟩
  | .hbm, ⟨90, _⟩ => ⟨S8x5x640x256, .i32⟩
  | .hbm, ⟨91, _⟩ => ⟨S8x5x640x256, .i32⟩
  | .hbm, ⟨92, _⟩ => ⟨S_, .i32⟩
  | .hbm, ⟨93, _⟩ => ⟨S8x5x640x256, .i32⟩
  | .hbm, ⟨94, _⟩ => ⟨S8x5x640x256, .i1⟩
  | .hbm, ⟨95, _⟩ => ⟨S_, .i32⟩
  | .hbm, ⟨96, _⟩ => ⟨S8x5x640x256, .i32⟩
  | .hbm, ⟨97, _⟩ => ⟨S8x5x640x256, .i32⟩
  | .hbm, ⟨98, _⟩ => ⟨S8x5x640x256, .i32⟩
  | .hbm, ⟨99, _⟩ => ⟨S_, .i32⟩
  | .hbm, ⟨100, _⟩ => ⟨S8x5x640x256, .i32⟩
  | .hbm, ⟨101, _⟩ => ⟨S8x5x640x256, .i1⟩
  | .hbm, ⟨102, _⟩ => ⟨S_, .i32⟩
  | .hbm, ⟨103, _⟩ => ⟨S8x5x640x256, .i32⟩
  | .hbm, ⟨104, _⟩ => ⟨S8x5x640x256, .i32⟩
  | .hbm, ⟨105, _⟩ => ⟨S8x5x640x256, .i32⟩
  | .hbm, ⟨106, _⟩ => ⟨S_, .i32⟩
  | .hbm, ⟨107, _⟩ => ⟨S8x5x640x256, .i32⟩
  | .hbm, ⟨108, _⟩ => ⟨S8x5x640x256, .i1⟩
  | .hbm, ⟨109, _⟩ => ⟨S_, .i32⟩
  | .hbm, ⟨110, _⟩ => ⟨S8x5x640x256, .i32⟩
  | .hbm, ⟨111, _⟩ => ⟨S8x5x640x256, .i32⟩
  | .hbm, ⟨112, _⟩ => ⟨S8x5x640x256, .i32⟩
  | .hbm, ⟨113, _⟩ => ⟨S8x5x640x256x1, .i32⟩
  | .hbm, ⟨114, _⟩ => ⟨S8x5x640x256x1, .i32⟩
  | .hbm, ⟨115, _⟩ => ⟨S8x5x640x256x1, .i32⟩
  | .hbm, ⟨116, _⟩ => ⟨S8x5x640x256x3, .i32⟩
  | .hbm, ⟨117, _⟩ => ⟨S8x5x640x256, .f32⟩
  | .hbm, ⟨118, _⟩ => ⟨S_, .f32⟩
  | .hbm, ⟨119, _⟩ => ⟨S_, .f32⟩
  | .hbm, ⟨120, _⟩ => ⟨S8x5x640x256, .f32⟩
  | .hbm, ⟨121, _⟩ => ⟨S8x5x640x256, .f32⟩
  | .hbm, ⟨122, _⟩ => ⟨S_, .f32⟩
  | .hbm, ⟨123, _⟩ => ⟨S8x5x640x256, .f32⟩
  | .hbm, ⟨124, _⟩ => ⟨S8x5x640x256, .f32⟩
  | .hbm, ⟨125, _⟩ => ⟨S8x4096x1024, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x4096x128, .bf16⟩
  | .local _ .vmem, ⟨11, _⟩ => ⟨S1x4096x128, .bf16⟩
  | .local _ .vmem, ⟨12, _⟩ => ⟨S1x5x640x256, .f32⟩
  | .local _ .vmem, ⟨13, _⟩ => ⟨S1x5x640x256, .f32⟩
  | .local _ .vmem, ⟨14, _⟩ => ⟨S1x4096x128, .bf16⟩
  | .local _ .vmem, ⟨15, _⟩ => ⟨S1x4096x128, .bf16⟩
  | .local _ .vmem, ⟨16, _⟩ => ⟨S32x128x128, .bf16⟩
  | .local _ .vmem, ⟨17, _⟩ => ⟨S2x128x128, .bf16⟩
  | .local _ .vmem, ⟨18, _⟩ => ⟨S896x256, .f32⟩
  | .local _ .vmem, ⟨19, _⟩ => ⟨S896x256, .f32⟩
  | .local _ .vmem, ⟨20, _⟩ => ⟨S896x256, .bf16⟩
  | .local _ .vmem, ⟨21, _⟩ => ⟨S896x256, .bf16⟩
  | _, _ => ⟨S8x4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_c_4 : Ref sig .tc := ⟨.hbm, 23, rfl⟩
abbrev main_v15 : Ref sig .tc := ⟨.hbm, 24, rfl⟩
abbrev main_v16 : Ref sig .tc := ⟨.hbm, 25, rfl⟩
abbrev main_c_5 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_6 : Ref sig .tc := ⟨.hbm, 30, rfl⟩
abbrev main_v20 : Ref sig .tc := ⟨.hbm, 31, rfl⟩
abbrev main_v21 : Ref sig .tc := ⟨.hbm, 32, rfl⟩
abbrev main_c_7 : Ref sig .tc := ⟨.hbm, 33, rfl⟩
abbrev main_v22 : Ref sig .tc := ⟨.hbm, 34, rfl⟩
abbrev main_v23 : Ref sig .tc := ⟨.hbm, 35, rfl⟩
abbrev main_c_8 : Ref sig .tc := ⟨.hbm, 36, rfl⟩
abbrev main_v24 : Ref sig .tc := ⟨.hbm, 37, rfl⟩
abbrev main_v25 : Ref sig .tc := ⟨.hbm, 38, rfl⟩
abbrev main_c_9 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_10 : Ref sig .tc := ⟨.hbm, 43, rfl⟩
abbrev main_v29 : Ref sig .tc := ⟨.hbm, 44, rfl⟩
abbrev main_v30 : Ref sig .tc := ⟨.hbm, 45, rfl⟩
abbrev main_c_11 : Ref sig .tc := ⟨.hbm, 46, rfl⟩
abbrev main_v31 : Ref sig .tc := ⟨.hbm, 47, rfl⟩
abbrev main_v32 : Ref sig .tc := ⟨.hbm, 48, rfl⟩
abbrev main_c_12 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_13 : Ref sig .tc := ⟨.hbm, 53, rfl⟩
abbrev main_v36 : Ref sig .tc := ⟨.hbm, 54, rfl⟩
abbrev main_v37 : Ref sig .tc := ⟨.hbm, 55, rfl⟩
abbrev main_c_14 : Ref sig .tc := ⟨.hbm, 56, rfl⟩
abbrev main_v38 : Ref sig .tc := ⟨.hbm, 57, rfl⟩
abbrev main_v39 : Ref sig .tc := ⟨.hbm, 58, rfl⟩
abbrev main_c_15 : Ref sig .tc := ⟨.hbm, 59, rfl⟩
abbrev main_v40 : Ref sig .tc := ⟨.hbm, 60, rfl⟩
abbrev main_v41 : Ref sig .tc := ⟨.hbm, 61, rfl⟩
abbrev main_c_16 : Ref sig .tc := ⟨.hbm, 62, rfl⟩
abbrev main_v42 : Ref sig .tc := ⟨.hbm, 63, rfl⟩
abbrev main_v43 : Ref sig .tc := ⟨.hbm, 64, rfl⟩
abbrev main_c_17 : Ref sig .tc := ⟨.hbm, 65, rfl⟩
abbrev main_v44 : Ref sig .tc := ⟨.hbm, 66, rfl⟩
abbrev main_v45 : Ref sig .tc := ⟨.hbm, 67, rfl⟩
abbrev main_c_18 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_19 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_20 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_21 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_22 : Ref sig .tc := ⟨.hbm, 89, rfl⟩
abbrev main_v63 : Ref sig .tc := ⟨.hbm, 90, rfl⟩
abbrev main_v64 : Ref sig .tc := ⟨.hbm, 91, rfl⟩
abbrev main_c_23 : Ref sig .tc := ⟨.hbm, 92, rfl⟩
abbrev main_v65 : Ref sig .tc := ⟨.hbm, 93, rfl⟩
abbrev main_v66 : Ref sig .tc := ⟨.hbm, 94, rfl⟩
abbrev main_c_24 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_25 : Ref sig .tc := ⟨.hbm, 99, rfl⟩
abbrev main_v70 : Ref sig .tc := ⟨.hbm, 100, rfl⟩
abbrev main_v71 : Ref sig .tc := ⟨.hbm, 101, rfl⟩
abbrev main_c_26 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_27 : Ref sig .tc := ⟨.hbm, 106, rfl⟩
abbrev main_v75 : Ref sig .tc := ⟨.hbm, 107, rfl⟩
abbrev main_v76 : Ref sig .tc := ⟨.hbm, 108, rfl⟩
abbrev main_c_28 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_29 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 8, 1], ![false, false, false]⟩

def k0_mult1 (i : grid0.Coords) : BitVec 32 :=
  let c54_i32 : BitVec 32 := 54#32
  let c0_i32_9 : BitVec 32 := 0#32
  let c2_i32 : BitVec 32 := 2#32
  let arg2 : BitVec 32 := BitVec.ofNat 32 (i 2).val
  let c32_i32 : BitVec 32 := 32#32
  let v9 : BitVec 32 := Scalar.muli arg2 c32_i32
  let c0_i32_8 : BitVec 32 := 0#32
  let v10 : BitVec 32 := Scalar.addi v9 c0_i32_8
  let v11 : BitVec 32 := Scalar.muli c2_i32 v10
  let c4_i32 : BitVec 32 := 4#32
  let v12 : BitVec 32 := Scalar.subi v11 c4_i32
  let v13 : BitVec 32 := Scalar.maxsi c0_i32_9 v12
  let v14 : BitVec 32 := Scalar.minsi c54_i32 v13
  let c64_i32 : BitVec 32 := 64#32
  let v23 : BitVec 32 := Scalar.muli v14 c64_i32
  v23
def k0_off1 (i : grid0.Coords) (c0_i32_8 : BitVec 32) : Fin 3 → Nat :=
  let c0_15 : Index := 0#32
  let c54_i32 : BitVec 32 := 54#32
  let c0_i32_9 : BitVec 32 := 0#32
  let c2_i32 : BitVec 32 := 2#32
  let arg2 : BitVec 32 := BitVec.ofNat 32 (i 2).val
  let c32_i32 : BitVec 32 := 32#32
  let v9 : BitVec 32 := Scalar.muli arg2 c32_i32
  let v10 : BitVec 32 := Scalar.addi v9 c0_i32_8
  let v11 : BitVec 32 := Scalar.muli c2_i32 v10
  let c4_i32 : BitVec 32 := 4#32
  let v12 : BitVec 32 := Scalar.subi v11 c4_i32
  let v13 : BitVec 32 := Scalar.maxsi c0_i32_9 v12
  let v14 : BitVec 32 := Scalar.minsi c54_i32 v13
  let c64_i32 : BitVec 32 := 64#32
  let v23 : BitVec 32 := Scalar.muli v14 c64_i32
  let v24 : BitVec 32 := v23
  let v25 : Index := Scalar.indexCast v24
  let c0_16 : Index := 0#32
  ![0, v25.toNat, 0]
def k0_off2 (i : grid0.Coords) (c0_i32_8 : BitVec 32) : Fin 4 → Nat :=
  let c0_20 : Index := 0#32
  let arg2 : BitVec 32 := BitVec.ofNat 32 (i 2).val
  let c32_i32 : BitVec 32 := 32#32
  let v9 : BitVec 32 := Scalar.muli arg2 c32_i32
  let v10 : BitVec 32 := Scalar.addi v9 c0_i32_8
  let c0_i32_10 : BitVec 32 := 0#32
  let v15 : BitVec 1 := Scalar.cmpi .eq v10 c0_i32_10
  let c0_i32_14 : BitVec 32 := 0#32
  let c1_i32 : BitVec 32 := 1#32
  let v16 : BitVec 1 := Scalar.cmpi .eq v10 c1_i32
  let c1_i32_13 : BitVec 32 := 1#32
  let c30_i32 : BitVec 32 := 30#32
  let v17 : BitVec 1 := Scalar.cmpi .eq v10 c30_i32
  let c3_i32 : BitVec 32 := 3#32
  let c31_i32 : BitVec 32 := 31#32
  let v18 : BitVec 1 := Scalar.cmpi .eq v10 c31_i32
  let c4_i32_11 : BitVec 32 := 4#32
  let c2_i32_12 : BitVec 32 := 2#32
  let v19 : BitVec 32 := Scalar.select v18 c4_i32_11 c2_i32_12
  let v20 : BitVec 32 := Scalar.select v17 c3_i32 v19
  let v21 : BitVec 32 := Scalar.select v16 c1_i32_13 v20
  let v22 : BitVec 32 := Scalar.select v15 c0_i32_14 v21
  let v31 : Index := Scalar.indexCast v22
  let c0_21 : Index := 0#32
  let c0_22 : Index := 0#32
  ![0, v31.toNat, 0, 0]
def k0_mult2 (i : grid0.Coords) : BitVec 32 :=
  let c54_i32_32 : BitVec 32 := 54#32
  let c0_i32_31 : BitVec 32 := 0#32
  let c2_i32_29 : BitVec 32 := 2#32
  let arg2 : BitVec 32 := BitVec.ofNat 32 (i 2).val
  let c32_i32_27 : BitVec 32 := 32#32
  let v49 : BitVec 32 := Scalar.muli arg2 c32_i32_27
  let c1_i32_28 : BitVec 32 := 1#32
  let v50 : BitVec 32 := Scalar.addi v49 c1_i32_28
  let v51 : BitVec 32 := Scalar.muli c2_i32_29 v50
  let c4_i32_30 : BitVec 32 := 4#32
  let v52 : BitVec 32 := Scalar.subi v51 c4_i32_30
  let v53 : BitVec 32 := Scalar.maxsi c0_i32_31 v52
  let v54 : BitVec 32 := Scalar.minsi c54_i32_32 v53
  let c64_i32_42 : BitVec 32 := 64#32
  let v63 : BitVec 32 := Scalar.muli v54 c64_i32_42
  v63
def k0_mult3 (i : grid0.Coords) : BitVec 32 :=
  let c54_i32_67 : BitVec 32 := 54#32
  let c0_i32_66 : BitVec 32 := 0#32
  let c2_i32_64 : BitVec 32 := 2#32
  let arg2 : BitVec 32 := BitVec.ofNat 32 (i 2).val
  let c32_i32_62 : BitVec 32 := 32#32
  let v103 : BitVec 32 := Scalar.muli arg2 c32_i32_62
  let c2_i32_63 : BitVec 32 := 2#32
  let v104 : BitVec 32 := Scalar.addi v103 c2_i32_63
  let v105 : BitVec 32 := Scalar.muli c2_i32_64 v104
  let c4_i32_65 : BitVec 32 := 4#32
  let v106 : BitVec 32 := Scalar.subi v105 c4_i32_65
  let v107 : BitVec 32 := Scalar.maxsi c0_i32_66 v106
  let v108 : BitVec 32 := Scalar.minsi c54_i32_67 v107
  let c64_i32_77 : BitVec 32 := 64#32
  let v117 : BitVec 32 := Scalar.muli v108 c64_i32_77
  v117
def k0_off3 (i : grid0.Coords) (c0_i32_98 : BitVec 32) (c0_i32_110 : BitVec 32) : Fin 3 → Nat :=
  let c54_i32_102 : BitVec 32 := 54#32
  let c0_i32_101 : BitVec 32 := 0#32
  let c2_i32_99 : BitVec 32 := 2#32
  let arg2 : BitVec 32 := BitVec.ofNat 32 (i 2).val
  let c32_i32_97 : BitVec 32 := 32#32
  let v157 : BitVec 32 := Scalar.muli arg2 c32_i32_97
  let v158 : BitVec 32 := Scalar.addi v157 c0_i32_98
  let v159 : BitVec 32 := Scalar.muli c2_i32_99 v158
  let c4_i32_100 : BitVec 32 := 4#32
  let v160 : BitVec 32 := Scalar.subi v159 c4_i32_100
  let v161 : BitVec 32 := Scalar.maxsi c0_i32_101 v160
  let v162 : BitVec 32 := Scalar.minsi c54_i32_102 v161
  let c0_i32_104 : BitVec 32 := 0#32
  let v164 : BitVec 1 := Scalar.cmpi .sgt v162 c0_i32_104
  let v165 : BitVec 32 := Scalar.extui v164
  let c0_i32_105 : BitVec 32 := 0#32
  let v166 : BitVec 1 := Scalar.cmpi .slt v162 c0_i32_105
  let v167 : BitVec 32 := Scalar.extui v166
  let v168 : BitVec 32 := Scalar.subi v165 v167
  let c2_i32_103 : BitVec 32 := 2#32
  let c0_i32_106 : BitVec 32 := 0#32
  let v169 : BitVec 1 := Scalar.cmpi .sgt c2_i32_103 c0_i32_106
  let v170 : BitVec 32 := Scalar.extui v169
  let c0_i32_107 : BitVec 32 := 0#32
  let v171 : BitVec 1 := Scalar.cmpi .slt c2_i32_103 c0_i32_107
  let v172 : BitVec 32 := Scalar.extui v171
  let v173 : BitVec 32 := Scalar.subi v170 v172
  let v174 : BitVec 1 := Scalar.cmpi .ne v168 v173
  let v175 : BitVec 32 := Scalar.remsi v162 c2_i32_103
  let c0_i32_108 : BitVec 32 := 0#32
  let v176 : BitVec 1 := Scalar.cmpi .ne v175 c0_i32_108
  let v177 : BitVec 1 := Scalar.andi v174 v176
  let v163 : BitVec 32 := Scalar.divsi v162 c2_i32_103
  let c1_i32_109 : BitVec 32 := 1#32
  let v178 : BitVec 32 := Scalar.subi v163 c1_i32_109
  let v179 : BitVec 32 := Scalar.select v177 v178 v163
  let v180 : BitVec 32 := Scalar.addi v179 c0_i32_110
  let v181 : Index := Scalar.indexCast v180
  let c0_111 : Index := 0#32
  let c0_112 : Index := 0#32
  ![v181.toNat, 0, 0]
def k0_mult4 (i : grid0.Coords) : BitVec 32 :=
  let c54_i32_143 : BitVec 32 := 54#32
  let c0_i32_142 : BitVec 32 := 0#32
  let c2_i32_140 : BitVec 32 := 2#32
  let arg2 : BitVec 32 := BitVec.ofNat 32 (i 2).val
  let c32_i32_138 : BitVec 32 := 32#32
  let v228 : BitVec 32 := Scalar.muli arg2 c32_i32_138
  let c3_i32_139 : BitVec 32 := 3#32
  let v229 : BitVec 32 := Scalar.addi v228 c3_i32_139
  let v230 : BitVec 32 := Scalar.muli c2_i32_140 v229
  let c4_i32_141 : BitVec 32 := 4#32
  let v231 : BitVec 32 := Scalar.subi v230 c4_i32_141
  let v232 : BitVec 32 := Scalar.maxsi c0_i32_142 v231
  let v233 : BitVec 32 := Scalar.minsi c54_i32_143 v232
  let c64_i32_153 : BitVec 32 := 64#32
  let v242 : BitVec 32 := Scalar.muli v233 c64_i32_153
  v242
def k0_mult5 (i : grid0.Coords) : BitVec 32 :=
  let c54_i32_219 : BitVec 32 := 54#32
  let c0_i32_218 : BitVec 32 := 0#32
  let c2_i32_216 : BitVec 32 := 2#32
  let arg2 : BitVec 32 := BitVec.ofNat 32 (i 2).val
  let c32_i32_214 : BitVec 32 := 32#32
  let v353 : BitVec 32 := Scalar.muli arg2 c32_i32_214
  let c4_i32_215 : BitVec 32 := 4#32
  let v354 : BitVec 32 := Scalar.addi v353 c4_i32_215
  let v355 : BitVec 32 := Scalar.muli c2_i32_216 v354
  let c4_i32_217 : BitVec 32 := 4#32
  let v356 : BitVec 32 := Scalar.subi v355 c4_i32_217
  let v357 : BitVec 32 := Scalar.maxsi c0_i32_218 v356
  let v358 : BitVec 32 := Scalar.minsi c54_i32_219 v357
  let c64_i32_229 : BitVec 32 := 64#32
  let v367 : BitVec 32 := Scalar.muli v358 c64_i32_229
  v367
def k0_mult6 (i : grid0.Coords) : BitVec 32 :=
  let c54_i32_294 : BitVec 32 := 54#32
  let c0_i32_293 : BitVec 32 := 0#32
  let c2_i32_291 : BitVec 32 := 2#32
  let arg2 : BitVec 32 := BitVec.ofNat 32 (i 2).val
  let c32_i32_290 : BitVec 32 := 32#32
  let v478 : BitVec 32 := Scalar.muli arg2 c32_i32_290
  let c5_i32 : BitVec 32 := 5#32
  let v479 : BitVec 32 := Scalar.addi v478 c5_i32
  let v480 : BitVec 32 := Scalar.muli c2_i32_291 v479
  let c4_i32_292 : BitVec 32 := 4#32
  let v481 : BitVec 32 := Scalar.subi v480 c4_i32_292
  let v482 : BitVec 32 := Scalar.maxsi c0_i32_293 v481
  let v483 : BitVec 32 := Scalar.minsi c54_i32_294 v482
  let c64_i32_304 : BitVec 32 := 64#32
  let v492 : BitVec 32 := Scalar.muli v483 c64_i32_304
  v492
def k0_mult7 (i : grid0.Coords) : BitVec 32 :=
  let c54_i32_369 : BitVec 32 := 54#32
  let c0_i32_368 : BitVec 32 := 0#32
  let c2_i32_366 : BitVec 32 := 2#32
  let arg2 : BitVec 32 := BitVec.ofNat 32 (i 2).val
  let c32_i32_365 : BitVec 32 := 32#32
  let v603 : BitVec 32 := Scalar.muli arg2 c32_i32_365
  let c6_i32 : BitVec 32 := 6#32
  let v604 : BitVec 32 := Scalar.addi v603 c6_i32
  let v605 : BitVec 32 := Scalar.muli c2_i32_366 v604
  let c4_i32_367 : BitVec 32 := 4#32
  let v606 : BitVec 32 := Scalar.subi v605 c4_i32_367
  let v607 : BitVec 32 := Scalar.maxsi c0_i32_368 v606
  let v608 : BitVec 32 := Scalar.minsi c54_i32_369 v607
  let c64_i32_379 : BitVec 32 := 64#32
  let v617 : BitVec 32 := Scalar.muli v608 c64_i32_379
  v617
def k0_mult8 (i : grid0.Coords) : BitVec 32 :=
  let c54_i32_444 : BitVec 32 := 54#32
  let c0_i32_443 : BitVec 32 := 0#32
  let c2_i32_441 : BitVec 32 := 2#32
  let arg2 : BitVec 32 := BitVec.ofNat 32 (i 2).val
  let c32_i32_440 : BitVec 32 := 32#32
  let v728 : BitVec 32 := Scalar.muli arg2 c32_i32_440
  let c7_i32 : BitVec 32 := 7#32
  let v729 : BitVec 32 := Scalar.addi v728 c7_i32
  let v730 : BitVec 32 := Scalar.muli c2_i32_441 v729
  let c4_i32_442 : BitVec 32 := 4#32
  let v731 : BitVec 32 := Scalar.subi v730 c4_i32_442
  let v732 : BitVec 32 := Scalar.maxsi c0_i32_443 v731
  let v733 : BitVec 32 := Scalar.minsi c54_i32_444 v732
  let c64_i32_454 : BitVec 32 := 64#32
  let v742 : BitVec 32 := Scalar.muli v733 c64_i32_454
  v742
def k0_mult9 (i : grid0.Coords) : BitVec 32 :=
  let c54_i32_519 : BitVec 32 := 54#32
  let c0_i32_518 : BitVec 32 := 0#32
  let c2_i32_516 : BitVec 32 := 2#32
  let arg2 : BitVec 32 := BitVec.ofNat 32 (i 2).val
  let c32_i32_515 : BitVec 32 := 32#32
  let v853 : BitVec 32 := Scalar.muli arg2 c32_i32_515
  let c8_i32 : BitVec 32 := 8#32
  let v854 : BitVec 32 := Scalar.addi v853 c8_i32
  let v855 : BitVec 32 := Scalar.muli c2_i32_516 v854
  let c4_i32_517 : BitVec 32 := 4#32
  let v856 : BitVec 32 := Scalar.subi v855 c4_i32_517
  let v857 : BitVec 32 := Scalar.maxsi c0_i32_518 v856
  let v858 : BitVec 32 := Scalar.minsi c54_i32_519 v857
  let c64_i32_529 : BitVec 32 := 64#32
  let v867 : BitVec 32 := Scalar.muli v858 c64_i32_529
  v867
def k0_mult10 (i : grid0.Coords) : BitVec 32 :=
  let c54_i32_594 : BitVec 32 := 54#32
  let c0_i32_593 : BitVec 32 := 0#32
  let c2_i32_591 : BitVec 32 := 2#32
  let arg2 : BitVec 32 := BitVec.ofNat 32 (i 2).val
  let c32_i32_590 : BitVec 32 := 32#32
  let v978 : BitVec 32 := Scalar.muli arg2 c32_i32_590
  let c9_i32 : BitVec 32 := 9#32
  let v979 : BitVec 32 := Scalar.addi v978 c9_i32
  let v980 : BitVec 32 := Scalar.muli c2_i32_591 v979
  let c4_i32_592 : BitVec 32 := 4#32
  let v981 : BitVec 32 := Scalar.subi v980 c4_i32_592
  let v982 : BitVec 32 := Scalar.maxsi c0_i32_593 v981
  let v983 : BitVec 32 := Scalar.minsi c54_i32_594 v982
  let c64_i32_604 : BitVec 32 := 64#32
  let v992 : BitVec 32 := Scalar.muli v983 c64_i32_604
  v992
def k0_mult11 (i : grid0.Coords) : BitVec 32 :=
  let c54_i32_669 : BitVec 32 := 54#32
  let c0_i32_668 : BitVec 32 := 0#32
  let c2_i32_666 : BitVec 32 := 2#32
  let arg2 : BitVec 32 := BitVec.ofNat 32 (i 2).val
  let c32_i32_665 : BitVec 32 := 32#32
  let v1103 : BitVec 32 := Scalar.muli arg2 c32_i32_665
  let c10_i32 : BitVec 32 := 10#32
  let v1104 : BitVec 32 := Scalar.addi v1103 c10_i32
  let v1105 : BitVec 32 := Scalar.muli c2_i32_666 v1104
  let c4_i32_667 : BitVec 32 := 4#32
  let v1106 : BitVec 32 := Scalar.subi v1105 c4_i32_667
  let v1107 : BitVec 32 := Scalar.maxsi c0_i32_668 v1106
  let v1108 : BitVec 32 := Scalar.minsi c54_i32_669 v1107
  let c64_i32_679 : BitVec 32 := 64#32
  let v1117 : BitVec 32 := Scalar.muli v1108 c64_i32_679
  v1117
def k0_mult12 (i : grid0.Coords) : BitVec 32 :=
  let c54_i32_744 : BitVec 32 := 54#32
  let c0_i32_743 : BitVec 32 := 0#32
  let c2_i32_741 : BitVec 32 := 2#32
  let arg2 : BitVec 32 := BitVec.ofNat 32 (i 2).val
  let c32_i32_740 : BitVec 32 := 32#32
  let v1228 : BitVec 32 := Scalar.muli arg2 c32_i32_740
  let c11_i32 : BitVec 32 := 11#32
  let v1229 : BitVec 32 := Scalar.addi v1228 c11_i32
  let v1230 : BitVec 32 := Scalar.muli c2_i32_741 v1229
  let c4_i32_742 : BitVec 32 := 4#32
  let v1231 : BitVec 32 := Scalar.subi v1230 c4_i32_742
  let v1232 : BitVec 32 := Scalar.maxsi c0_i32_743 v1231
  let v1233 : BitVec 32 := Scalar.minsi c54_i32_744 v1232
  let c64_i32_754 : BitVec 32 := 64#32
  let v1242 : BitVec 32 := Scalar.muli v1233 c64_i32_754
  v1242
def k0_mult13 (i : grid0.Coords) : BitVec 32 :=
  let c54_i32_819 : BitVec 32 := 54#32
  let c0_i32_818 : BitVec 32 := 0#32
  let c2_i32_816 : BitVec 32 := 2#32
  let arg2 : BitVec 32 := BitVec.ofNat 32 (i 2).val
  let c32_i32_815 : BitVec 32 := 32#32
  let v1353 : BitVec 32 := Scalar.muli arg2 c32_i32_815
  let c12_i32 : BitVec 32 := 12#32
  let v1354 : BitVec 32 := Scalar.addi v1353 c12_i32
  let v1355 : BitVec 32 := Scalar.muli c2_i32_816 v1354
  let c4_i32_817 : BitVec 32 := 4#32
  let v1356 : BitVec 32 := Scalar.subi v1355 c4_i32_817
  let v1357 : BitVec 32 := Scalar.maxsi c0_i32_818 v1356
  let v1358 : BitVec 32 := Scalar.minsi c54_i32_819 v1357
  let c64_i32_829 : BitVec 32 := 64#32
  let v1367 : BitVec 32 := Scalar.muli v1358 c64_i32_829
  v1367
def k0_mult14 (i : grid0.Coords) : BitVec 32 :=
  let c54_i32_894 : BitVec 32 := 54#32
  let c0_i32_893 : BitVec 32 := 0#32
  let c2_i32_891 : BitVec 32 := 2#32
  let arg2 : BitVec 32 := BitVec.ofNat 32 (i 2).val
  let c32_i32_890 : BitVec 32 := 32#32
  let v1478 : BitVec 32 := Scalar.muli arg2 c32_i32_890
  let c13_i32 : BitVec 32 := 13#32
  let v1479 : BitVec 32 := Scalar.addi v1478 c13_i32
  let v1480 : BitVec 32 := Scalar.muli c2_i32_891 v1479
  let c4_i32_892 : BitVec 32 := 4#32
  let v1481 : BitVec 32 := Scalar.subi v1480 c4_i32_892
  let v1482 : BitVec 32 := Scalar.maxsi c0_i32_893 v1481
  let v1483 : BitVec 32 := Scalar.minsi c54_i32_894 v1482
  let c64_i32_904 : BitVec 32 := 64#32
  let v1492 : BitVec 32 := Scalar.muli v1483 c64_i32_904
  v1492
def k0_mult15 (i : grid0.Coords) : BitVec 32 :=
  let c54_i32_969 : BitVec 32 := 54#32
  let c0_i32_968 : BitVec 32 := 0#32
  let c2_i32_966 : BitVec 32 := 2#32
  let arg2 : BitVec 32 := BitVec.ofNat 32 (i 2).val
  let c32_i32_965 : BitVec 32 := 32#32
  let v1603 : BitVec 32 := Scalar.muli arg2 c32_i32_965
  let c14_i32 : BitVec 32 := 14#32
  let v1604 : BitVec 32 := Scalar.addi v1603 c14_i32
  let v1605 : BitVec 32 := Scalar.muli c2_i32_966 v1604
  let c4_i32_967 : BitVec 32 := 4#32
  let v1606 : BitVec 32 := Scalar.subi v1605 c4_i32_967
  let v1607 : BitVec 32 := Scalar.maxsi c0_i32_968 v1606
  let v1608 : BitVec 32 := Scalar.minsi c54_i32_969 v1607
  let c64_i32_979 : BitVec 32 := 64#32
  let v1617 : BitVec 32 := Scalar.muli v1608 c64_i32_979
  v1617
def k0_mult16 (i : grid0.Coords) : BitVec 32 :=
  let c54_i32_1044 : BitVec 32 := 54#32
  let c0_i32_1043 : BitVec 32 := 0#32
  let c2_i32_1041 : BitVec 32 := 2#32
  let arg2 : BitVec 32 := BitVec.ofNat 32 (i 2).val
  let c32_i32_1040 : BitVec 32 := 32#32
  let v1728 : BitVec 32 := Scalar.muli arg2 c32_i32_1040
  let c15_i32 : BitVec 32 := 15#32
  let v1729 : BitVec 32 := Scalar.addi v1728 c15_i32
  let v1730 : BitVec 32 := Scalar.muli c2_i32_1041 v1729
  let c4_i32_1042 : BitVec 32 := 4#32
  let v1731 : BitVec 32 := Scalar.subi v1730 c4_i32_1042
  let v1732 : BitVec 32 := Scalar.maxsi c0_i32_1043 v1731
  let v1733 : BitVec 32 := Scalar.minsi c54_i32_1044 v1732
  let c64_i32_1054 : BitVec 32 := 64#32
  let v1742 : BitVec 32 := Scalar.muli v1733 c64_i32_1054
  v1742
def k0_mult17 (i : grid0.Coords) : BitVec 32 :=
  let c54_i32_1119 : BitVec 32 := 54#32
  let c0_i32_1118 : BitVec 32 := 0#32
  let c2_i32_1116 : BitVec 32 := 2#32
  let arg2 : BitVec 32 := BitVec.ofNat 32 (i 2).val
  let c32_i32_1115 : BitVec 32 := 32#32
  let v1853 : BitVec 32 := Scalar.muli arg2 c32_i32_1115
  let c16_i32 : BitVec 32 := 16#32
  let v1854 : BitVec 32 := Scalar.addi v1853 c16_i32
  let v1855 : BitVec 32 := Scalar.muli c2_i32_1116 v1854
  let c4_i32_1117 : BitVec 32 := 4#32
  let v1856 : BitVec 32 := Scalar.subi v1855 c4_i32_1117
  let v1857 : BitVec 32 := Scalar.maxsi c0_i32_1118 v1856
  let v1858 : BitVec 32 := Scalar.minsi c54_i32_1119 v1857
  let c64_i32_1129 : BitVec 32 := 64#32
  let v1867 : BitVec 32 := Scalar.muli v1858 c64_i32_1129
  v1867
def k0_mult18 (i : grid0.Coords) : BitVec 32 :=
  let c54_i32_1194 : BitVec 32 := 54#32
  let c0_i32_1193 : BitVec 32 := 0#32
  let c2_i32_1191 : BitVec 32 := 2#32
  let arg2 : BitVec 32 := BitVec.ofNat 32 (i 2).val
  let c32_i32_1190 : BitVec 32 := 32#32
  let v1978 : BitVec 32 := Scalar.muli arg2 c32_i32_1190
  let c17_i32 : BitVec 32 := 17#32
  let v1979 : BitVec 32 := Scalar.addi v1978 c17_i32
  let v1980 : BitVec 32 := Scalar.muli c2_i32_1191 v1979
  let c4_i32_1192 : BitVec 32 := 4#32
  let v1981 : BitVec 32 := Scalar.subi v1980 c4_i32_1192
  let v1982 : BitVec 32 := Scalar.maxsi c0_i32_1193 v1981
  let v1983 : BitVec 32 := Scalar.minsi c54_i32_1194 v1982
  let c64_i32_1204 : BitVec 32 := 64#32
  let v1992 : BitVec 32 := Scalar.muli v1983 c64_i32_1204
  v1992
def k0_mult19 (i : grid0.Coords) : BitVec 32 :=
  let c54_i32_1269 : BitVec 32 := 54#32
  let c0_i32_1268 : BitVec 32 := 0#32
  let c2_i32_1266 : BitVec 32 := 2#32
  let arg2 : BitVec 32 := BitVec.ofNat 32 (i 2).val
  let c32_i32_1265 : BitVec 32 := 32#32
  let v2103 : BitVec 32 := Scalar.muli arg2 c32_i32_1265
  let c18_i32 : BitVec 32 := 18#32
  let v2104 : BitVec 32 := Scalar.addi v2103 c18_i32
  let v2105 : BitVec 32 := Scalar.muli c2_i32_1266 v2104
  let c4_i32_1267 : BitVec 32 := 4#32
  let v2106 : BitVec 32 := Scalar.subi v2105 c4_i32_1267
  let v2107 : BitVec 32 := Scalar.maxsi c0_i32_1268 v2106
  let v2108 : BitVec 32 := Scalar.minsi c54_i32_1269 v2107
  let c64_i32_1279 : BitVec 32 := 64#32
  let v2117 : BitVec 32 := Scalar.muli v2108 c64_i32_1279
  v2117
def k0_mult20 (i : grid0.Coords) : BitVec 32 :=
  let c54_i32_1344 : BitVec 32 := 54#32
  let c0_i32_1343 : BitVec 32 := 0#32
  let c2_i32_1341 : BitVec 32 := 2#32
  let arg2 : BitVec 32 := BitVec.ofNat 32 (i 2).val
  let c32_i32_1340 : BitVec 32 := 32#32
  let v2228 : BitVec 32 := Scalar.muli arg2 c32_i32_1340
  let c19_i32 : BitVec 32 := 19#32
  let v2229 : BitVec 32 := Scalar.addi v2228 c19_i32
  let v2230 : BitVec 32 := Scalar.muli c2_i32_1341 v2229
  let c4_i32_1342 : BitVec 32 := 4#32
  let v2231 : BitVec 32 := Scalar.subi v2230 c4_i32_1342
  let v2232 : BitVec 32 := Scalar.maxsi c0_i32_1343 v2231
  let v2233 : BitVec 32 := Scalar.minsi c54_i32_1344 v2232
  let c64_i32_1354 : BitVec 32 := 64#32
  let v2242 : BitVec 32 := Scalar.muli v2233 c64_i32_1354
  v2242
def k0_mult21 (i : grid0.Coords) : BitVec 32 :=
  let c54_i32_1419 : BitVec 32 := 54#32
  let c0_i32_1418 : BitVec 32 := 0#32
  let c2_i32_1416 : BitVec 32 := 2#32
  let arg2 : BitVec 32 := BitVec.ofNat 32 (i 2).val
  let c32_i32_1415 : BitVec 32 := 32#32
  let v2353 : BitVec 32 := Scalar.muli arg2 c32_i32_1415
  let c20_i32 : BitVec 32 := 20#32
  let v2354 : BitVec 32 := Scalar.addi v2353 c20_i32
  let v2355 : BitVec 32 := Scalar.muli c2_i32_1416 v2354
  let c4_i32_1417 : BitVec 32 := 4#32
  let v2356 : BitVec 32 := Scalar.subi v2355 c4_i32_1417
  let v2357 : BitVec 32 := Scalar.maxsi c0_i32_1418 v2356
  let v2358 : BitVec 32 := Scalar.minsi c54_i32_1419 v2357
  let c64_i32_1429 : BitVec 32 := 64#32
  let v2367 : BitVec 32 := Scalar.muli v2358 c64_i32_1429
  v2367
def k0_mult22 (i : grid0.Coords) : BitVec 32 :=
  let c54_i32_1494 : BitVec 32 := 54#32
  let c0_i32_1493 : BitVec 32 := 0#32
  let c2_i32_1491 : BitVec 32 := 2#32
  let arg2 : BitVec 32 := BitVec.ofNat 32 (i 2).val
  let c32_i32_1490 : BitVec 32 := 32#32
  let v2478 : BitVec 32 := Scalar.muli arg2 c32_i32_1490
  let c21_i32 : BitVec 32 := 21#32
  let v2479 : BitVec 32 := Scalar.addi v2478 c21_i32
  let v2480 : BitVec 32 := Scalar.muli c2_i32_1491 v2479
  let c4_i32_1492 : BitVec 32 := 4#32
  let v2481 : BitVec 32 := Scalar.subi v2480 c4_i32_1492
  let v2482 : BitVec 32 := Scalar.maxsi c0_i32_1493 v2481
  let v2483 : BitVec 32 := Scalar.minsi c54_i32_1494 v2482
  let c64_i32_1504 : BitVec 32 := 64#32
  let v2492 : BitVec 32 := Scalar.muli v2483 c64_i32_1504
  v2492
def k0_mult23 (i : grid0.Coords) : BitVec 32 :=
  let c54_i32_1569 : BitVec 32 := 54#32
  let c0_i32_1568 : BitVec 32 := 0#32
  let c2_i32_1566 : BitVec 32 := 2#32
  let arg2 : BitVec 32 := BitVec.ofNat 32 (i 2).val
  let c32_i32_1565 : BitVec 32 := 32#32
  let v2603 : BitVec 32 := Scalar.muli arg2 c32_i32_1565
  let c22_i32 : BitVec 32 := 22#32
  let v2604 : BitVec 32 := Scalar.addi v2603 c22_i32
  let v2605 : BitVec 32 := Scalar.muli c2_i32_1566 v2604
  let c4_i32_1567 : BitVec 32 := 4#32
  let v2606 : BitVec 32 := Scalar.subi v2605 c4_i32_1567
  let v2607 : BitVec 32 := Scalar.maxsi c0_i32_1568 v2606
  let v2608 : BitVec 32 := Scalar.minsi c54_i32_1569 v2607
  let c64_i32_1579 : BitVec 32 := 64#32
  let v2617 : BitVec 32 := Scalar.muli v2608 c64_i32_1579
  v2617
def k0_mult24 (i : grid0.Coords) : BitVec 32 :=
  let c54_i32_1644 : BitVec 32 := 54#32
  let c0_i32_1643 : BitVec 32 := 0#32
  let c2_i32_1641 : BitVec 32 := 2#32
  let arg2 : BitVec 32 := BitVec.ofNat 32 (i 2).val
  let c32_i32_1640 : BitVec 32 := 32#32
  let v2728 : BitVec 32 := Scalar.muli arg2 c32_i32_1640
  let c23_i32 : BitVec 32 := 23#32
  let v2729 : BitVec 32 := Scalar.addi v2728 c23_i32
  let v2730 : BitVec 32 := Scalar.muli c2_i32_1641 v2729
  let c4_i32_1642 : BitVec 32 := 4#32
  let v2731 : BitVec 32 := Scalar.subi v2730 c4_i32_1642
  let v2732 : BitVec 32 := Scalar.maxsi c0_i32_1643 v2731
  let v2733 : BitVec 32 := Scalar.minsi c54_i32_1644 v2732
  let c64_i32_1654 : BitVec 32 := 64#32
  let v2742 : BitVec 32 := Scalar.muli v2733 c64_i32_1654
  v2742
def k0_mult25 (i : grid0.Coords) : BitVec 32 :=
  let c54_i32_1719 : BitVec 32 := 54#32
  let c0_i32_1718 : BitVec 32 := 0#32
  let c2_i32_1716 : BitVec 32 := 2#32
  let arg2 : BitVec 32 := BitVec.ofNat 32 (i 2).val
  let c32_i32_1715 : BitVec 32 := 32#32
  let v2853 : BitVec 32 := Scalar.muli arg2 c32_i32_1715
  let c24_i32 : BitVec 32 := 24#32
  let v2854 : BitVec 32 := Scalar.addi v2853 c24_i32
  let v2855 : BitVec 32 := Scalar.muli c2_i32_1716 v2854
  let c4_i32_1717 : BitVec 32 := 4#32
  let v2856 : BitVec 32 := Scalar.subi v2855 c4_i32_1717
  let v2857 : BitVec 32 := Scalar.maxsi c0_i32_1718 v2856
  let v2858 : BitVec 32 := Scalar.minsi c54_i32_1719 v2857
  let c64_i32_1729 : BitVec 32 := 64#32
  let v2867 : BitVec 32 := Scalar.muli v2858 c64_i32_1729
  v2867
def k0_mult26 (i : grid0.Coords) : BitVec 32 :=
  let c54_i32_1794 : BitVec 32 := 54#32
  let c0_i32_1793 : BitVec 32 := 0#32
  let c2_i32_1791 : BitVec 32 := 2#32
  let arg2 : BitVec 32 := BitVec.ofNat 32 (i 2).val
  let c32_i32_1790 : BitVec 32 := 32#32
  let v2978 : BitVec 32 := Scalar.muli arg2 c32_i32_1790
  let c25_i32 : BitVec 32 := 25#32
  let v2979 : BitVec 32 := Scalar.addi v2978 c25_i32
  let v2980 : BitVec 32 := Scalar.muli c2_i32_1791 v2979
  let c4_i32_1792 : BitVec 32 := 4#32
  let v2981 : BitVec 32 := Scalar.subi v2980 c4_i32_1792
  let v2982 : BitVec 32 := Scalar.maxsi c0_i32_1793 v2981
  let v2983 : BitVec 32 := Scalar.minsi c54_i32_1794 v2982
  let c64_i32_1804 : BitVec 32 := 64#32
  let v2992 : BitVec 32 := Scalar.muli v2983 c64_i32_1804
  v2992
def k0_mult27 (i : grid0.Coords) : BitVec 32 :=
  let c54_i32_1869 : BitVec 32 := 54#32
  let c0_i32_1868 : BitVec 32 := 0#32
  let c2_i32_1866 : BitVec 32 := 2#32
  let arg2 : BitVec 32 := BitVec.ofNat 32 (i 2).val
  let c32_i32_1865 : BitVec 32 := 32#32
  let v3103 : BitVec 32 := Scalar.muli arg2 c32_i32_1865
  let c26_i32 : BitVec 32 := 26#32
  let v3104 : BitVec 32 := Scalar.addi v3103 c26_i32
  let v3105 : BitVec 32 := Scalar.muli c2_i32_1866 v3104
  let c4_i32_1867 : BitVec 32 := 4#32
  let v3106 : BitVec 32 := Scalar.subi v3105 c4_i32_1867
  let v3107 : BitVec 32 := Scalar.maxsi c0_i32_1868 v3106
  let v3108 : BitVec 32 := Scalar.minsi c54_i32_1869 v3107
  let c64_i32_1879 : BitVec 32 := 64#32
  let v3117 : BitVec 32 := Scalar.muli v3108 c64_i32_1879
  v3117
def k0_mult28 (i : grid0.Coords) : BitVec 32 :=
  let c54_i32_1944 : BitVec 32 := 54#32
  let c0_i32_1943 : BitVec 32 := 0#32
  let c2_i32_1941 : BitVec 32 := 2#32
  let arg2 : BitVec 32 := BitVec.ofNat 32 (i 2).val
  let c32_i32_1940 : BitVec 32 := 32#32
  let v3228 : BitVec 32 := Scalar.muli arg2 c32_i32_1940
  let c27_i32 : BitVec 32 := 27#32
  let v3229 : BitVec 32 := Scalar.addi v3228 c27_i32
  let v3230 : BitVec 32 := Scalar.muli c2_i32_1941 v3229
  let c4_i32_1942 : BitVec 32 := 4#32
  let v3231 : BitVec 32 := Scalar.subi v3230 c4_i32_1942
  let v3232 : BitVec 32 := Scalar.maxsi c0_i32_1943 v3231
  let v3233 : BitVec 32 := Scalar.minsi c54_i32_1944 v3232
  let c64_i32_1954 : BitVec 32 := 64#32
  let v3242 : BitVec 32 := Scalar.muli v3233 c64_i32_1954
  v3242
def k0_mult29 (i : grid0.Coords) : BitVec 32 :=
  let c54_i32_2019 : BitVec 32 := 54#32
  let c0_i32_2018 : BitVec 32 := 0#32
  let c2_i32_2016 : BitVec 32 := 2#32
  let arg2 : BitVec 32 := BitVec.ofNat 32 (i 2).val
  let c32_i32_2015 : BitVec 32 := 32#32
  let v3353 : BitVec 32 := Scalar.muli arg2 c32_i32_2015
  let c28_i32 : BitVec 32 := 28#32
  let v3354 : BitVec 32 := Scalar.addi v3353 c28_i32
  let v3355 : BitVec 32 := Scalar.muli c2_i32_2016 v3354
  let c4_i32_2017 : BitVec 32 := 4#32
  let v3356 : BitVec 32 := Scalar.subi v3355 c4_i32_2017
  let v3357 : BitVec 32 := Scalar.maxsi c0_i32_2018 v3356
  let v3358 : BitVec 32 := Scalar.minsi c54_i32_2019 v3357
  let c64_i32_2029 : BitVec 32 := 64#32
  let v3367 : BitVec 32 := Scalar.muli v3358 c64_i32_2029
  v3367
def k0_mult30 (i : grid0.Coords) : BitVec 32 :=
  let c54_i32_2094 : BitVec 32 := 54#32
  let c0_i32_2093 : BitVec 32 := 0#32
  let c2_i32_2091 : BitVec 32 := 2#32
  let arg2 : BitVec 32 := BitVec.ofNat 32 (i 2).val
  let c32_i32_2090 : BitVec 32 := 32#32
  let v3478 : BitVec 32 := Scalar.muli arg2 c32_i32_2090
  let c29_i32 : BitVec 32 := 29#32
  let v3479 : BitVec 32 := Scalar.addi v3478 c29_i32
  let v3480 : BitVec 32 := Scalar.muli c2_i32_2091 v3479
  let c4_i32_2092 : BitVec 32 := 4#32
  let v3481 : BitVec 32 := Scalar.subi v3480 c4_i32_2092
  let v3482 : BitVec 32 := Scalar.maxsi c0_i32_2093 v3481
  let v3483 : BitVec 32 := Scalar.minsi c54_i32_2094 v3482
  let c64_i32_2104 : BitVec 32 := 64#32
  let v3492 : BitVec 32 := Scalar.muli v3483 c64_i32_2104
  v3492
def k0_mult31 (i : grid0.Coords) : BitVec 32 :=
  let c54_i32_2170 : BitVec 32 := 54#32
  let c0_i32_2169 : BitVec 32 := 0#32
  let c2_i32_2167 : BitVec 32 := 2#32
  let arg2 : BitVec 32 := BitVec.ofNat 32 (i 2).val
  let c32_i32_2165 : BitVec 32 := 32#32
  let v3603 : BitVec 32 := Scalar.muli arg2 c32_i32_2165
  let c30_i32_2166 : BitVec 32 := 30#32
  let v3604 : BitVec 32 := Scalar.addi v3603 c30_i32_2166
  let v3605 : BitVec 32 := Scalar.muli c2_i32_2167 v3604
  let c4_i32_2168 : BitVec 32 := 4#32
  let v3606 : BitVec 32 := Scalar.subi v3605 c4_i32_2168
  let v3607 : BitVec 32 := Scalar.maxsi c0_i32_2169 v3606
  let v3608 : BitVec 32 := Scalar.minsi c54_i32_2170 v3607
  let c64_i32_2180 : BitVec 32 := 64#32
  let v3617 : BitVec 32 := Scalar.muli v3608 c64_i32_2180
  v3617
def k0_mult32 (i : grid0.Coords) : BitVec 32 :=
  let c54_i32_2246 : BitVec 32 := 54#32
  let c0_i32_2245 : BitVec 32 := 0#32
  let c2_i32_2243 : BitVec 32 := 2#32
  let arg2 : BitVec 32 := BitVec.ofNat 32 (i 2).val
  let c32_i32_2241 : BitVec 32 := 32#32
  let v3728 : BitVec 32 := Scalar.muli arg2 c32_i32_2241
  let c31_i32_2242 : BitVec 32 := 31#32
  let v3729 : BitVec 32 := Scalar.addi v3728 c31_i32_2242
  let v3730 : BitVec 32 := Scalar.muli c2_i32_2243 v3729
  let c4_i32_2244 : BitVec 32 := 4#32
  let v3731 : BitVec 32 := Scalar.subi v3730 c4_i32_2244
  let v3732 : BitVec 32 := Scalar.maxsi c0_i32_2245 v3731
  let v3733 : BitVec 32 := Scalar.minsi c54_i32_2246 v3732
  let c64_i32_2256 : BitVec 32 := 64#32
  let v3742 : BitVec 32 := Scalar.muli v3733 c64_i32_2256
  v3742
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  ![arg1.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c48_i32 : BitVec 32 := 48#32
  let v0 : BitVec 32 := Scalar.addi c48_i32 arg0
  let c0_i32 : BitVec 32 := 0#32
  let c0_i32_0 : BitVec 32 := 0#32
  ![arg1.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg0
  let c0_i32 : BitVec 32 := 0#32
  let c0_i32_0 : BitVec 32 := 0#32
  ![arg1.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c48_i32 : BitVec 32 := 48#32
  let v0 : BitVec 32 := Scalar.addi c48_i32 arg0
  let c0_i32 : BitVec 32 := 0#32
  let c0_i32_0 : BitVec 32 := 0#32
  ![arg1.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c56_i32 : BitVec 32 := 56#32
  let v0 : BitVec 32 := Scalar.addi c56_i32 arg0
  let c0_i32 : BitVec 32 := 0#32
  ![arg1.toNat, arg2.toNat, v0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x5x640x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S8x4096x8192 : Shape := ⟨3, ![8, 4096, 8192]⟩
abbrev S8x256x8192 : Shape := ⟨3, ![8, 256, 8192]⟩
abbrev S16x15x31 : Shape := ⟨3, ![16, 15, 31]⟩
abbrev S8x4096x1024 : Shape := ⟨3, ![8, 4096, 1024]⟩
abbrev S8x4096x16x64 : Shape := ⟨4, ![8, 4096, 16, 64]⟩
abbrev S_ : Shape := ⟨0, ![]⟩
abbrev S8x256x1024 : Shape := ⟨3, ![8, 256, 1024]⟩
abbrev S8x256x16x64 : Shape := ⟨4, ![8, 256, 16, 64]⟩
abbrev S4096x128 : Shape := ⟨2, ![4096, 128]⟩
abbrev S4096x128x1 : Shape := ⟨3, ![4096, 128, 1]⟩
abbrev S8x4096x128x16x64 : Shape := ⟨5, ![8, 4096, 128, 16, 64]⟩
abbrev S4096x128x2 : Shape := ⟨3, ![4096, 128, 2]⟩
abbrev S16x4096x128 : Shape := ⟨3, ![16, 4096, 128]⟩
abbrev S8x16x4096x128 : Shape := ⟨4, ![8, 16, 4096, 128]⟩
abbrev S1x16x4096x128 : Shape := ⟨4, ![1, 16, 4096, 128]⟩
abbrev S8x16x4096x256 : Shape := ⟨4, ![8, 16, 4096, 256]⟩
abbrev S8x16x4096x384 : Shape := ⟨4, ![8, 16, 4096, 384]⟩
abbrev S8x16x4096 : Shape := ⟨3, ![8, 16, 4096]⟩
abbrev S8x16x4096x1 : Shape := ⟨4, ![8, 16, 4096, 1]⟩
abbrev S8x16x64x4096 : Shape := ⟨4, ![8, 16, 64, 4096]⟩

abbrev nBuf : Space → Nat
  | .hbm => 144
  | .vmem => 0
  | .smem => 0
  | _ => 0

abbrev hbmTy0_0 (i : Nat) : BufTy := match i % 128 with
  | 0 => ⟨S8x4096x8192, .bf16⟩
  | 1 => ⟨S8x256x8192, .bf16⟩
  | 2 => ⟨S16x15x31, .f32⟩
  | 3 => ⟨S8x4096x8192, .f32⟩
  | 4 => ⟨S8x256x8192, .f32⟩
  | 5 => ⟨S8x4096x1024, .f32⟩
  | 6 => ⟨S8x4096x16x64, .f32⟩
  | 7 => ⟨S_, .f32⟩
  | 8 => ⟨S_, .f32⟩
  | 9 => ⟨S8x4096x16x64, .f32⟩
  | 10 => ⟨S8x4096x16x64, .f32⟩
  | 11 => ⟨S8x4096x1024, .f32⟩
  | 12 => ⟨S8x4096x16x64, .f32⟩
  | 13 => ⟨S8x4096x1024, .f32⟩
  | 14 => ⟨S8x4096x16x64, .f32⟩
  | 15 => ⟨S8x256x1024, .f32⟩
  | 16 => ⟨S8x256x16x64, .f32⟩
  | 17 => ⟨S8x256x1024, .f32⟩
  | 18 => ⟨S8x256x16x64, .f32⟩
  | 19 => ⟨S4096x128, .i32⟩
  | 20 => ⟨S4096x128, .i32⟩
  | 21 => ⟨S_, .i32⟩
  | 22 => ⟨S4096x128, .i32⟩
  | 23 => ⟨S4096x128, .i32⟩
  | 24 => ⟨S_, .i32⟩
  | 25 => ⟨S4096x128, .i32⟩
  | 26 => ⟨S4096x128, .i32⟩
  | 27 => ⟨S_, .i32⟩
  | 28 => ⟨S4096x128, .i32⟩
  | 29 => ⟨S4096x128, .i32⟩
  | 30 => ⟨S_, .i32⟩
  | 31 => ⟨S_, .i32⟩
  | 32 => ⟨S_, .i32⟩
  | 33 => ⟨S4096x128, .i32⟩
  | 34 => ⟨S4096x128, .i32⟩
  | 35 => ⟨S_, .i32⟩
  | 36 => ⟨S4096x128, .i32⟩
  | 37 => ⟨S4096x128, .i32⟩
  | 38 => ⟨S_, .i32⟩
  | 39 => ⟨S4096x128, .i32⟩
  | 40 => ⟨S4096x128, .i32⟩
  | 41 => ⟨S4096x128, .i32⟩
  | 42 => ⟨S_, .i32⟩
  | 43 => ⟨S4096x128, .i32⟩
  | 44 => ⟨S4096x128, .i32⟩
  | 45 => ⟨S_, .i32⟩
  | 46 => ⟨S_, .i32⟩
  | 47 => ⟨S_, .i32⟩
  | 48 => ⟨S4096x128, .i32⟩
  | 49 => ⟨S4096x128, .i32⟩
  | 50 => ⟨S_, .i32⟩
  | 51 => ⟨S4096x128, .i32⟩
  | 52 => ⟨S4096x128, .i32⟩
  | 53 => ⟨S_, .i32⟩
  | 54 => ⟨S4096x128, .i32⟩
  | 55 => ⟨S4096x128, .i32⟩
  | 56 => ⟨S4096x128, .i32⟩
  | 57 => ⟨S_, .i32⟩
  | 58 => ⟨S4096x128, .i32⟩
  | 59 => ⟨S4096x128, .i32⟩
  | 60 => ⟨S4096x128, .i32⟩
  | 61 => ⟨S_, .i32⟩
  | 62 => ⟨S4096x128, .i32⟩
  | 63 => ⟨S4096x128, .i1⟩
  | 64 => ⟨S_, .i32⟩
  | 65 => ⟨S4096x128, .i32⟩
  | 66 => ⟨S4096x128, .i32⟩
  | 67 => ⟨S4096x128, .i32⟩
  | 68 => ⟨S4096x128x1, .i32⟩
  | 69 => ⟨S8x4096x128x16x64, .f32⟩
  | 70 => ⟨S_, .i32⟩
  | 71 => ⟨S4096x128, .i32⟩
  | 72 => ⟨S4096x128, .i1⟩
  | 73 => ⟨S_, .i32⟩
  | 74 => ⟨S4096x128, .i32⟩
  | 75 => ⟨S4096x128, .i32⟩
  | 76 => ⟨S4096x128, .i32⟩
  | 77 => ⟨S4096x128x1, .i32⟩
  | 78 => ⟨S8x4096x128x16x64, .f32⟩
  | 79 => ⟨S4096x128, .i32⟩
  | 80 => ⟨S_, .i32⟩
  | 81 => ⟨S4096x128, .i32⟩
  | 82 => ⟨S4096x128, .i32⟩
  | 83 => ⟨S4096x128, .i32⟩
  | 84 => ⟨S_, .i32⟩
  | 85 => ⟨S4096x128, .i32⟩
  | 86 => ⟨S4096x128, .i32⟩
  | 87 => ⟨S_, .i32⟩
  | 88 => ⟨S4096x128, .i32⟩
  | 89 => ⟨S4096x128, .i1⟩
  | 90 => ⟨S_, .i32⟩
  | 91 => ⟨S4096x128, .i32⟩
  | 92 => ⟨S4096x128, .i32⟩
  | 93 => ⟨S4096x128, .i32⟩
  | 94 => ⟨S_, .i32⟩
  | 95 => ⟨S4096x128, .i32⟩
  | 96 => ⟨S4096x128, .i1⟩
  | 97 => ⟨S_, .i32⟩
  | 98 => ⟨S4096x128, .i32⟩
  | 99 => ⟨S4096x128, .i32⟩
  | 100 => ⟨S4096x128, .i32⟩
  | 101 => ⟨S4096x128x1, .i32⟩
  | 102 => ⟨S4096x128x1, .i32⟩
  | 103 => ⟨S4096x128x2, .i32⟩
  | 104 => ⟨S16x4096x128, .f32⟩
  | 105 => ⟨S8x16x4096x128, .f32⟩
  | 106 => ⟨S1x16x4096x128, .f32⟩
  | 107 => ⟨S8x16x4096x128, .f32⟩
  | 108 => ⟨S8x16x4096x128, .f32⟩
  | 109 => ⟨S8x16x4096x256, .f32⟩
  | 110 => ⟨S8x16x4096x384, .f32⟩
  | 111 => ⟨S_, .f32⟩
  | 112 => ⟨S8x16x4096, .f32⟩
  | 113 => ⟨S8x16x4096x1, .f32⟩
  | 114 => ⟨S8x16x4096x384, .f32⟩
  | 115 => ⟨S8x16x4096x384, .f32⟩
  | 116 => ⟨S8x16x4096x384, .f32⟩
  | 117 => ⟨S_, .f32⟩
  | 118 => ⟨S8x16x4096, .f32⟩
  | 119 => ⟨S8x16x4096x1, .f32⟩
  | 120 => ⟨S_, .f32⟩
  | 121 => ⟨S8x16x4096x1, .f32⟩
  | 122 => ⟨S8x16x4096x1, .f32⟩
  | 123 => ⟨S8x16x4096x384, .f32⟩
  | 124 => ⟨S8x16x4096x384, .f32⟩
  | 125 => ⟨S8x16x4096x128, .f32⟩
  | 126 => ⟨S8x4096x16x64, .f32⟩
  | 127 => ⟨S8x16x4096x256, .f32⟩
  | _ => ⟨S8x4096x8192, .bf16⟩

abbrev hbmTy0_1 (i : Nat) : BufTy := match i % 128 with
  | 0 => ⟨S8x16x64x4096, .f32⟩
  | 1 => ⟨S8x4096x16x64, .f32⟩
  | 2 => ⟨S8x4096x16x64, .f32⟩
  | 3 => ⟨S8x4096x1024, .f32⟩
  | 4 => ⟨S8x4096x1024, .f32⟩
  | 5 => ⟨S8x4096x1024, .f32⟩
  | 6 => ⟨S8x4096x1024, .f32⟩
  | 7 => ⟨S_, .f32⟩
  | 8 => ⟨S8x4096x1024, .f32⟩
  | 9 => ⟨S8x4096x1024, .f32⟩
  | 10 => ⟨S_, .f32⟩
  | 11 => ⟨S8x4096x1024, .f32⟩
  | 12 => ⟨S8x4096x1024, .f32⟩
  | 13 => ⟨S8x4096x1024, .f32⟩
  | 14 => ⟨S8x4096x1024, .f32⟩
  | 15 => ⟨S8x4096x1024, .bf16⟩
  | _ => ⟨S8x4096x8192, .bf16⟩

abbrev hbmTy (i : Nat) : BufTy := match i / 128 with
  | 0 => hbmTy0_0 i
  | 1 => hbmTy0_1 i
  | _ => ⟨S8x4096x8192, .bf16⟩

abbrev bufTy : (tb : Table) → Fin (tcTables nBuf tb) → BufTy
  | .hbm, ⟨i, _⟩ => hbmTy i
  | _, _ => ⟨S8x4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c : Ref sig .tc := ⟨.hbm, 21, rfl⟩
abbrev main_v17 : Ref sig .tc := ⟨.hbm, 22, rfl⟩
abbrev main_v18 : Ref sig .tc := ⟨.hbm, 23, rfl⟩
abbrev main_c_0 : Ref sig .tc := ⟨.hbm, 24, rfl⟩
abbrev main_v19 : Ref sig .tc := ⟨.hbm, 25, rfl⟩
abbrev main_v20 : Ref sig .tc := ⟨.hbm, 26, rfl⟩
abbrev main_c_1 : Ref sig .tc := ⟨.hbm, 27, rfl⟩
abbrev main_v21 : Ref sig .tc := ⟨.hbm, 28, rfl⟩
abbrev main_v22 : Ref sig .tc := ⟨.hbm, 29, rfl⟩
abbrev main_c_2 : Ref sig .tc := ⟨.hbm, 30, rfl⟩
abbrev main_c_3 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_c_7 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v29 : Ref sig .tc := ⟨.hbm, 52, rfl⟩
abbrev main_c_8 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_9 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_10 : Ref sig .tc := ⟨.hbm, 61, rfl⟩
abbrev main_v36 : Ref sig .tc := ⟨.hbm, 62, rfl⟩
abbrev main_v37 : Ref sig .tc := ⟨.hbm, 63, rfl⟩
abbrev main_c_11 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_12 : Ref sig .tc := ⟨.hbm, 70, rfl⟩
abbrev main_v43 : Ref sig .tc := ⟨.hbm, 71, rfl⟩
abbrev main_v44 : Ref sig .tc := ⟨.hbm, 72, rfl⟩
abbrev main_c_13 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_14 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_c_15 : Ref sig .tc := ⟨.hbm, 84, rfl⟩
abbrev main_v54 : Ref sig .tc := ⟨.hbm, 85, rfl⟩
abbrev main_v55 : Ref sig .tc := ⟨.hbm, 86, rfl⟩
abbrev main_c_16 : Ref sig .tc := ⟨.hbm, 87, rfl⟩
abbrev main_v56 : Ref sig .tc := ⟨.hbm, 88, rfl⟩
abbrev main_v57 : Ref sig .tc := ⟨.hbm, 89, rfl⟩
abbrev main_c_17 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_c_18 : Ref sig .tc := ⟨.hbm, 94, rfl⟩
abbrev main_v61 : Ref sig .tc := ⟨.hbm, 95, rfl⟩
abbrev main_v62 : Ref sig .tc := ⟨.hbm, 96, rfl⟩
abbrev main_c_19 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_20 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_21 : Ref sig .tc := ⟨.hbm, 117, rfl⟩
abbrev main_v81 : Ref sig .tc := ⟨.hbm, 118, rfl⟩
abbrev main_v82 : Ref sig .tc := ⟨.hbm, 119, rfl⟩
abbrev main_cst_22 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_call2_v0 : Ref sig .tc := ⟨.hbm, 133, rfl⟩
abbrev main_call2_v1 : Ref sig .tc := ⟨.hbm, 134, rfl⟩
abbrev main_call2_cst : Ref sig .tc := ⟨.hbm, 135, rfl⟩
abbrev main_call2_v2 : Ref sig .tc := ⟨.hbm, 136, rfl⟩
abbrev main_call2_v3 : Ref sig .tc := ⟨.hbm, 137, rfl⟩
abbrev main_call2_cst_0 : Ref sig .tc := ⟨.hbm, 138, rfl⟩
abbrev main_call2_v4 : Ref sig .tc := ⟨.hbm, 139, rfl⟩
abbrev main_call2_v5 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x1x1024 : Shape := ⟨3, ![8, 1, 1024]⟩
abbrev S1x1024 : Shape := ⟨2, ![1, 1024]⟩
abbrev S1024x8192 : Shape := ⟨2, ![1024, 8192]⟩
abbrev S8x4096x8192 : Shape := ⟨3, ![8, 4096, 8192]⟩
abbrev S1x1024x1024 : Shape := ⟨3, ![1, 1024, 1024]⟩
abbrev S1x1x1024 : Shape := ⟨3, ![1, 1, 1024]⟩
abbrev S1024x2048 : Shape := ⟨2, ![1024, 2048]⟩
abbrev S1x1024x2048 : Shape := ⟨3, ![1, 1024, 2048]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1x1024, .f32⟩
  | .hbm, ⟨4, _⟩ => ⟨S1024x8192, .bf16⟩
  | .hbm, ⟨5, _⟩ => ⟨S8x4096x8192, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2048, .bf16⟩
  | .local _ .vmem, ⟨8, _⟩ => ⟨S1024x2048, .bf16⟩
  | .local _ .vmem, ⟨9, _⟩ => ⟨S1x1024x2048, .bf16⟩
  | .local _ .vmem, ⟨10, _⟩ => ⟨S1x1024x2048, .bf16⟩
  | .local _ .vmem, ⟨11, _⟩ => ⟨S1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference2Ideal.lean ====
abbrev S8x4096x1024 : Shape := ⟨3, ![8, 4096, 1024]⟩
abbrev S8x1x1024 : Shape := ⟨3, ![8, 1, 1024]⟩
abbrev S1x1024 : Shape := ⟨2, ![1, 1024]⟩
abbrev S1024x8192 : Shape := ⟨2, ![1024, 8192]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x8192 : Shape := ⟨3, ![8, 4096, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1x1024, .f32⟩
  | .hbm, ⟨4, _⟩ => ⟨S1024x8192, .bf16⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S1024x8192, .f32⟩
  | .hbm, ⟨29, _⟩ => ⟨S8x4096x8192, .f32⟩
  | .hbm, ⟨30, _⟩ => ⟨S8x4096x8192, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel3.lean ====
abbrev S8x4096x8192 : Shape := ⟨3, ![8, 4096, 8192]⟩
abbrev S8x4096x1024 : Shape := ⟨3, ![8, 4096, 1024]⟩
abbrev S3x1024 : Shape := ⟨2, ![3, 1024]⟩
abbrev S2048x1024 : Shape := ⟨2, ![2048, 1024]⟩
abbrev S8x1x1024 : Shape := ⟨3, ![8, 1, 1024]⟩
abbrev S1x512x1024 : Shape := ⟨3, ![1, 512, 1024]⟩
abbrev S1x16x1024 : Shape := ⟨3, ![1, 16, 1024]⟩
abbrev S1x1x1024 : Shape := ⟨3, ![1, 1, 1024]⟩
abbrev S512x1024 : Shape := ⟨2, ![512, 1024]⟩
abbrev S512x256 : Shape := ⟨2, ![512, 256]⟩
abbrev S1x512x256 : Shape := ⟨3, ![1, 512, 256]⟩
abbrev S1x16x256 : Shape := ⟨3, ![1, 16, 256]⟩
abbrev S16x256 : Shape := ⟨2, ![16, 256]⟩
abbrev S1x256 : Shape := ⟨2, ![1, 256]⟩
abbrev S1024x1024 : Shape := ⟨2, ![1024, 1024]⟩
abbrev S256x1024 : Shape := ⟨2, ![256, 1024]⟩
abbrev S1x1024 : Shape := ⟨2, ![1, 1024]⟩

abbrev nBuf : Space → Nat
  | .hbm => 7
  | .vmem => 28
  | .smem => 0
  | _ => 0

abbrev bufTy : (tb : Table) → Fin (tcTables nBuf tb) → BufTy
  | .hbm, ⟨0, _⟩ => ⟨S8x4096x8192, .bf16⟩
  | .hbm, ⟨1, _⟩ => ⟨S8x4096x1024, .bf16⟩
  | .hbm, ⟨2, _⟩ => ⟨S3x1024, .f32⟩
  | .hbm, ⟨3, _⟩ => ⟨S2048x1024, .bf16⟩
  | .hbm, ⟨4, _⟩ => ⟨S8x4096x1024, .f32⟩
  | .hbm, ⟨5, _⟩ => ⟨S8x1x1024, .f32⟩
  | .hbm, ⟨6, _⟩ => ⟨S8x4096x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x16x1024, .bf16⟩
  | .local _ .vmem, ⟨9, _⟩ => ⟨S1x16x1024, .bf16⟩
  | .local _ .vmem, ⟨10, _⟩ => ⟨S1x16x1024, .bf16⟩
  | .local _ .vmem, ⟨11, _⟩ => ⟨S1x16x1024, .bf16⟩
  | .local _ .vmem, ⟨12, _⟩ => ⟨S1x16x1024, .bf16⟩
  | .local _ .vmem, ⟨13, _⟩ => ⟨S1x16x1024, .bf16⟩
  | .local _ .vmem, ⟨14, _⟩ => ⟨S1x16x1024, .bf16⟩
  | .local _ .vmem, ⟨15, _⟩ => ⟨S1x16x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S3x1024, .f32⟩
  | .local _ .vmem, ⟨19, _⟩ => ⟨S2048x1024, .bf16⟩
  | .local _ .vmem, ⟨20, _⟩ => ⟨S1x512x1024, .f32⟩
  | .local _ .vmem, ⟨21, _⟩ => ⟨S1x512x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x512x1024, .f32⟩
  | .local _ .vmem, ⟨25, _⟩ => ⟨S1x512x1024, .f32⟩
  | .local _ .vmem, ⟨26, _⟩ => ⟨S512x1024, .f32⟩
  | .local _ .vmem, ⟨27, _⟩ => ⟨S512x1024, .bf16⟩
  | _, _ => ⟨S8x4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_5 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![arg0.toNat, v2.toNat, c2_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c1_i32_0 : BitVec 32 := 1#32
  let c0_i32 : BitVec 32 := 0#32
  ![arg0.toNat, v2.toNat, c1_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c2_i32 : BitVec 32 := 2#32
  let c0_i32 : BitVec 32 := 0#32
  ![arg0.toNat, v2.toNat, c2_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S3x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2048x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference3Ideal.lean ====
abbrev S8x4096x8192 : Shape := ⟨3, ![8, 4096, 8192]⟩
abbrev S8x4096x1024 : Shape := ⟨3, ![8, 4096, 1024]⟩
abbrev S3x1024 : Shape := ⟨2, ![3, 1024]⟩
abbrev S2048x1024 : Shape := ⟨2, ![2048, 1024]⟩
abbrev S8x1x1024 : Shape := ⟨3, ![8, 1, 1024]⟩
abbrev S_ : Shape := ⟨0, ![]⟩
abbrev S8x4098x1024 : Shape := ⟨3, ![8, 4098, 1024]⟩
abbrev S1x1024 : Shape := ⟨2, ![1, 1024]⟩
abbrev S1024 : Shape := ⟨1, ![1024]⟩
abbrev S1x1x1024 : Shape := ⟨3, ![1, 1, 1024]⟩
abbrev S8x4096x2048 : Shape := ⟨3, ![8, 4096, 2048]⟩

abbrev nBuf : Space → Nat
  | .hbm => 56
  | .vmem => 0
  | .smem => 0
  | _ => 0

abbrev bufTy : (tb : Table) → Fin (tcTables nBuf tb) → BufTy
  | .hbm, ⟨0, _⟩ => ⟨S8x4096x8192, .bf16⟩
  | .hbm, ⟨1, _⟩ => ⟨S8x4096x1024, .bf16⟩
  | .hbm, ⟨2, _⟩ => ⟨S3x1024, .f32⟩
  | .hbm, ⟨3, _⟩ => ⟨S2048x1024, .bf16⟩
  | .hbm, ⟨4, _⟩ => ⟨S8x4096x1024, .f32⟩
  | .hbm, ⟨5, _⟩ => ⟨S8x1x1024, .f32⟩
  | .hbm, ⟨6, _⟩ => ⟨S8x4096x8192, .f32⟩
  | .hbm, ⟨7, _⟩ => ⟨S8x4096x1024, .f32⟩
  | .hbm, ⟨8, _⟩ => ⟨S2048x1024, .f32⟩
  | .hbm, ⟨9, _⟩ => ⟨S8x4096x1024, .f32⟩
  | .hbm, ⟨10, _⟩ => ⟨S8x4096x1024, .f32⟩
  | .hbm, ⟨11, _⟩ => ⟨S8x4096x1024, .f32⟩
  | .hbm, ⟨12, _⟩ => ⟨S8x4096x1024, .f32⟩
  | .hbm, ⟨13, _⟩ => ⟨S_, .i32⟩
  | .hbm, ⟨14, _⟩ => ⟨S_, .f32⟩
  | .hbm, ⟨15, _⟩ => ⟨S8x4098x1024, .f32⟩
  | .hbm, ⟨16, _⟩ => ⟨S1x1024, .f32⟩
  | .hbm, ⟨17, _⟩ => ⟨S1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S_, .f32⟩
  | .hbm, ⟨23, _⟩ => ⟨S8x4096x1024, .f32⟩
  | .hbm, ⟨24, _⟩ => ⟨S8x4096x1024, .f32⟩
  | .hbm, ⟨25, _⟩ => ⟨S1x1024, .f32⟩
  | .hbm, ⟨26, _⟩ => ⟨S1024, .f32⟩
  | .hbm, ⟨27, _⟩ => ⟨S8x4096x1024, .f32⟩
  | .hbm, ⟨28, _⟩ => ⟨S1x1x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S1x1024, .f32⟩
  | .hbm, ⟨33, _⟩ => ⟨S1024, .f32⟩
  | .hbm, ⟨34, _⟩ => ⟨S8x4096x1024, .f32⟩
  | .hbm, ⟨35, _⟩ => ⟨S1x1x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S_, .f32⟩
  | .hbm, ⟨44, _⟩ => ⟨S8x4096x1024, .f32⟩
  | .hbm, ⟨45, _⟩ => ⟨S8x4096x1024, .f32⟩
  | .hbm, ⟨46, _⟩ => ⟨S_, .f32⟩
  | .hbm, ⟨47, _⟩ => ⟨S8x4096x1024, .f32⟩
  | .hbm, ⟨48, _⟩ => ⟨S8x4096x1024, .f32⟩
  | .hbm, ⟨49, _⟩ => ⟨S8x4096x1024, .f32⟩
  | .hbm, ⟨50, _⟩ => ⟨S8x4096x1024, .f32⟩
  | .hbm, ⟨51, _⟩ => ⟨S8x4096x2048, .f32⟩
  | .hbm, ⟨52, _⟩ => ⟨S8x4096x1024, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | _, _ => ⟨S8x4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]
-- ==== Kernel4.lean ====
abbrev S8x4096x1024 : Shape := ⟨3, ![8, 4096, 1024]⟩
abbrev S8x1x1024 : Shape := ⟨3, ![8, 1, 1024]⟩
abbrev S1x1024 : Shape := ⟨2, ![1, 1024]⟩
abbrev S1024x4096 : Shape := ⟨2, ![1024, 4096]⟩
abbrev S4x2048 : Shape := ⟨2, ![4, 2048]⟩
abbrev S2048 : Shape := ⟨1, ![2048]⟩
abbrev S1x2048 : Shape := ⟨2, ![1, 2048]⟩
abbrev S8x4096x2048 : Shape := ⟨3, ![8, 4096, 2048]⟩
abbrev S1x1024x1024 : Shape := ⟨3, ![1, 1024, 1024]⟩
abbrev S1x8x1024 : Shape := ⟨3, ![1, 8, 1024]⟩
abbrev S1x1x1024 : Shape := ⟨3, ![1, 1, 1024]⟩
abbrev S1x1024x2048 : Shape := ⟨3, ![1, 1024, 2048]⟩
abbrev S1040x1024 : Shape := ⟨2, ![1040, 1024]⟩
abbrev S1040x256 : Shape := ⟨2, ![1040, 256]⟩
abbrev S1024x1024 : Shape := ⟨2, ![1024, 1024]⟩
abbrev S1024 : Shape := ⟨1, ![1024]⟩
abbrev S1024x1 : Shape := ⟨2, ![1024, 1]⟩
abbrev S8x1024 : Shape := ⟨2, ![8, 1024]⟩
abbrev S16x1024 : Shape := ⟨2, ![16, 1024]⟩
abbrev S16 : Shape := ⟨1, ![16]⟩
abbrev S16x1 : Shape := ⟨2, ![16, 1]⟩
abbrev S1024x256 : Shape := ⟨2, ![1024, 256]⟩
abbrev S1x256 : Shape := ⟨2, ![1, 256]⟩
abbrev S1x1024x256 : Shape := ⟨3, ![1, 1024, 256]⟩

abbrev nBuf : Space → Nat
  | .hbm => 10
  | .vmem => 21
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1x1024, .f32⟩
  | .hbm, ⟨4, _⟩ => ⟨S1024x4096, .bf16⟩
  | .hbm, ⟨5, _⟩ => ⟨S4x2048, .f32⟩
  | .hbm, ⟨6, _⟩ => ⟨S2048, .f32⟩
  | .hbm, ⟨7, _⟩ => ⟨S1x2048, .f32⟩
  | .hbm, ⟨8, _⟩ => ⟨S8x4096x2048, .bf16⟩
  | .hbm, ⟨9, _⟩ => ⟨S8x4096x2048, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1024x4096, .bf16⟩
  | .local _ .vmem, ⟨12, _⟩ => ⟨S4x2048, .f32⟩
  | .local _ .vmem, ⟨13, _⟩ => ⟨S1x2048, .f32⟩
  | .local _ .vmem, ⟨14, _⟩ => ⟨S1x1024x2048, .bf16⟩
  | .local _ .vmem, ⟨15, _⟩ => ⟨S1x1024x2048, .bf16⟩
  | .local _ .vmem, ⟨16, _⟩ => ⟨S1x1024x2048, .bf16⟩
  | .local _ .vmem, ⟨17, _⟩ => ⟨S1x1024x2048, .bf16⟩
  | .local _ .vmem, ⟨18, _⟩ => ⟨S1040x1024, .bf16⟩
  | .local _ .vmem, ⟨19, _⟩ => ⟨S1040x256, .f32⟩
  | .local _ .vmem, ⟨20, _⟩ => ⟨S1040x256, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference4Ideal.lean ====
abbrev S8x4096x1024 : Shape := ⟨3, ![8, 4096, 1024]⟩
abbrev S8x1x1024 : Shape := ⟨3, ![8, 1, 1024]⟩
abbrev S1x1024 : Shape := ⟨2, ![1, 1024]⟩
abbrev S1024x4096 : Shape := ⟨2, ![1024, 4096]⟩
abbrev S4x2048 : Shape := ⟨2, ![4, 2048]⟩
abbrev S2048 : Shape := ⟨1, ![2048]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩
abbrev S8x4096x2048 : Shape := ⟨3, ![8, 4096, 2048]⟩
abbrev S8x4099x2048 : Shape := ⟨3, ![8, 4099, 2048]⟩
abbrev S1x2048 : Shape := ⟨2, ![1, 2048]⟩
abbrev S1x1x2048 : Shape := ⟨3, ![1, 1, 2048]⟩

abbrev nBuf : Space → Nat
  | .hbm => 81
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1x1024, .f32⟩
  | .hbm, ⟨4, _⟩ => ⟨S1024x4096, .bf16⟩
  | .hbm, ⟨5, _⟩ => ⟨S4x2048, .f32⟩
  | .hbm, ⟨6, _⟩ => ⟨S2048, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S_, .f32⟩
  | .hbm, ⟨24, _⟩ => ⟨S8x1x1024, .f32⟩
  | .hbm, ⟨25, _⟩ => ⟨S8x1x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S1024x4096, .f32⟩
  | .hbm, ⟨31, _⟩ => ⟨S8x4096x4096, .f32⟩
  | .hbm, ⟨32, _⟩ => ⟨S8x4096x2048, .f32⟩
  | .hbm, ⟨33, _⟩ => ⟨S_, .i32⟩
  | .hbm, ⟨34, _⟩ => ⟨S_, .f32⟩
  | .hbm, ⟨35, _⟩ => ⟨S8x4099x2048, .f32⟩
  | .hbm, ⟨36, _⟩ => ⟨S1x2048, .f32⟩
  | .hbm, ⟨37, _⟩ => ⟨S2048, .f32⟩
  | .hbm, ⟨38, _⟩ => ⟨S8x4096x2048, .f32⟩
  | .hbm, ⟨39, _⟩ => ⟨S1x1x2048, .f32⟩
  | .hbm, ⟨40, _⟩ => ⟨S8x4096x2048, .f32⟩
  | .hbm, ⟨41, _⟩ => ⟨S8x4096x2048, .f32⟩
  | .hbm, ⟨42, _⟩ => ⟨S_, .f32⟩
  | .hbm, ⟨43, _⟩ => ⟨S8x4096x2048, .f32⟩
  | .hbm, ⟨44, _⟩ => ⟨S8x4096x2048, .f32⟩
  | .hbm, ⟨45, _⟩ => ⟨S1x2048, .f32⟩
  | .hbm, ⟨46, _⟩ => ⟨S2048, .f32⟩
  | .hbm, ⟨47, _⟩ => ⟨S8x4096x2048, .f32⟩
  | .hbm, ⟨48, _⟩ => ⟨S1x1x2048, .f32⟩
  | .hbm, ⟨49, _⟩ => ⟨S8x4096x2048, .f32⟩
  | .hbm, ⟨50, _⟩ => ⟨S8x4096x2048, .f32⟩
  | .hbm, ⟨51, _⟩ => ⟨S8x4096x2048, .f32⟩
  | .hbm, ⟨52, _⟩ => ⟨S1x2048, .f32⟩
  | .hbm, ⟨53, _⟩ => ⟨S2048, .f32⟩
  | .hbm, ⟨54, _⟩ => ⟨S8x4096x2048, .f32⟩
  | .hbm, ⟨55, _⟩ => ⟨S1x1x2048, .f32⟩
  | .hbm, ⟨56, _⟩ => ⟨S8x4096x2048, .f32⟩
  | .hbm, ⟨57, _⟩ => ⟨S8x4096x2048, .f32⟩
  | .hbm, ⟨58, _⟩ => ⟨S8x4096x2048, .f32⟩
  | .hbm, ⟨59, _⟩ => ⟨S1x2048, .f32⟩
  | .hbm, ⟨60, _⟩ => ⟨S2048, .f32⟩
  | .hbm, ⟨61, _⟩ => ⟨S8x4096x2048, .f32⟩
  | .hbm, ⟨62, _⟩ => ⟨S1x1x2048, .f32⟩
  | .hbm, ⟨63, _⟩ => ⟨S8x4096x2048, .f32⟩
  | .hbm, ⟨64, _⟩ => ⟨S8x4096x2048, .f32⟩
  | .hbm, ⟨65, _⟩ => ⟨S8x4096x2048, .f32⟩
  | .hbm, ⟨66, _⟩ => ⟨S1x1x2048, .f32⟩
  | .hbm, ⟨67, _⟩ => ⟨S8x4096x2048, .f32⟩
  | .hbm, ⟨68, _⟩ => ⟨S8x4096x2048, .f32⟩
  | .hbm, ⟨69, _⟩ => ⟨S8x4096x2048, .bf16⟩
  | .hbm, ⟨70, _⟩ => ⟨S8x4096x2048, .f32⟩
  | .hbm, ⟨71, _⟩ => ⟨S8x4096x2048, .f32⟩
  | .hbm, ⟨72, _⟩ => ⟨S8x4096x2048, .f32⟩
  | .hbm, ⟨73, _⟩ => ⟨S_, .f32⟩
  | .hbm, ⟨74, _⟩ => ⟨S8x4096x2048, .f32⟩
  | .hbm, ⟨75, _⟩ => ⟨S8x4096x2048, .f32⟩
  | .hbm, ⟨76, _⟩ => ⟨S_, .f32⟩
  | .hbm, ⟨77, _⟩ => ⟨S8x4096x2048, .f32⟩
  | .hbm, ⟨78, _⟩ => ⟨S8x4096x2048, .f32⟩
  | .hbm, ⟨79, _⟩ => ⟨S8x4096x2048, .f32⟩
  | .hbm, ⟨80, _⟩ => ⟨S8x4096x2048, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_call1_v0 : Ref sig .tc := ⟨.hbm, 71, rfl⟩
abbrev main_call1_v1 : Ref sig .tc := ⟨.hbm, 72, rfl⟩
abbrev main_call1_cst : Ref sig .tc := ⟨.hbm, 73, rfl⟩
abbrev main_call1_v2 : Ref sig .tc := ⟨.hbm, 74, rfl⟩
abbrev main_call1_v3 : Ref sig .tc := ⟨.hbm, 75, rfl⟩
abbrev main_call1_cst_0 : Ref sig .tc := ⟨.hbm, 76, rfl⟩
abbrev main_call1_v4 : Ref sig .tc := ⟨.hbm, 77, rfl⟩
abbrev main_call1_v5 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== Kernel5.lean ====
abbrev S8x256x8192 : Shape := ⟨3, ![8, 256, 8192]⟩
abbrev S8x256x1024 : Shape := ⟨3, ![8, 256, 1024]⟩
abbrev S1x256x128 : Shape := ⟨3, ![1, 256, 128]⟩
abbrev S2x128x128 : Shape := ⟨3, ![2, 128, 128]⟩
abbrev S1x128x128 : Shape := ⟨3, ![1, 128, 128]⟩
abbrev S128x128 : Shape := ⟨2, ![128, 128]⟩
abbrev S128x256 : Shape := ⟨2, ![128, 256]⟩
abbrev S256x128 : Shape := ⟨2, ![256, 128]⟩
abbrev S512x128 : Shape := ⟨2, ![512, 128]⟩
abbrev S256x512 : Shape := ⟨2, ![256, 512]⟩
abbrev S512 : Shape := ⟨1, ![512]⟩
abbrev S1x512 : Shape := ⟨2, ![1, 512]⟩
abbrev S128x512 : Shape := ⟨2, ![128, 512]⟩

abbrev nBuf : Space → Nat
  | .hbm => 2
  | .vmem => 11
  | .smem => 0
  | _ => 0

abbrev bufTy : (tb : Table) → Fin (tcTables nBuf tb) → BufTy
  | .hbm, ⟨0, _⟩ => ⟨S8x256x8192, .bf16⟩
  | .hbm, ⟨1, _⟩ => ⟨S8x256x1024, .bf16⟩
  | .local _ .vmem, ⟨0, _⟩ => ⟨S1x256x128, .bf16⟩
  | .local _ .vmem, ⟨1, _⟩ => ⟨S1x256x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S2x128x128, .bf16⟩
  | _, _ => ⟨S8x256x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S8x256x8192 : Shape := ⟨3, ![8, 256, 8192]⟩
abbrev S8x256x1024 : Shape := ⟨3, ![8, 256, 1024]⟩
abbrev S8x256x16x64 : Shape := ⟨4, ![8, 256, 16, 64]⟩
abbrev S_ : Shape := ⟨0, ![]⟩
abbrev S8x16x256x256 : Shape := ⟨4, ![8, 16, 256, 256]⟩
abbrev S8x16x256 : Shape := ⟨3, ![8, 16, 256]⟩
abbrev S8x16x256x1 : Shape := ⟨4, ![8, 16, 256, 1]⟩
abbrev S8x16x64x256 : Shape := ⟨4, ![8, 16, 64, 256]⟩

abbrev nBuf : Space → Nat
  | .hbm => 42
  | .vmem => 0
  | .smem => 0
  | _ => 0

abbrev bufTy : (tb : Table) → Fin (tcTables nBuf tb) → BufTy
  | .hbm, ⟨0, _⟩ => ⟨S8x256x8192, .bf16⟩
  | .hbm, ⟨1, _⟩ => ⟨S8x256x8192, .f32⟩
  | .hbm, ⟨2, _⟩ => ⟨S8x256x1024, .f32⟩
  | .hbm, ⟨3, _⟩ => ⟨S8x256x16x64, .f32⟩
  | .hbm, ⟨4, _⟩ => ⟨S_, .f32⟩
  | .hbm, ⟨5, _⟩ => ⟨S_, .f32⟩
  | .hbm, ⟨6, _⟩ => ⟨S8x256x16x64, .f32⟩
  | .hbm, ⟨7, _⟩ => ⟨S8x256x16x64, .f32⟩
  | .hbm, ⟨8, _⟩ => ⟨S8x256x1024, .f32⟩
  | .hbm, ⟨9, _⟩ => ⟨S8x256x16x64, .f32⟩
  | .hbm, ⟨10, _⟩ => ⟨S8x256x1024, .f32⟩
  | .hbm, ⟨11, _⟩ => ⟨S8x256x16x64, .f32⟩
  | .hbm, ⟨12, _⟩ => ⟨S8x16x256x256, .f32⟩
  | .hbm, ⟨13, _⟩ => ⟨S_, .f32⟩
  | .hbm, ⟨14, _⟩ => ⟨S8x16x256, .f32⟩
  | .hbm, ⟨15, _⟩ => ⟨S8x16x256x1, .f32⟩
  | .hbm, ⟨16, _⟩ => ⟨S8x16x256x256, .f32⟩
  | .hbm, ⟨17, _⟩ => ⟨S8x16x256x256, .f32⟩
  | .hbm, ⟨18, _⟩ => ⟨S8x16x256x256, .f32⟩
  | .hbm, ⟨19, _⟩ => ⟨S_, .f32⟩
  | .hbm, ⟨20, _⟩ => ⟨S8x16x256, .f32⟩
  | .hbm, ⟨21, _⟩ => ⟨S8x16x256x1, .f32⟩
  | .hbm, ⟨22, _⟩ => ⟨S_, .f32⟩
  | .hbm, ⟨23, _⟩ => ⟨S8x16x256x1, .f32⟩
  | .hbm, ⟨24, _⟩ => ⟨S8x16x256x1, .f32⟩
  | .hbm, ⟨25, _⟩ => ⟨S8x16x256x256, .f32⟩
  | .hbm, ⟨26, _⟩ => ⟨S8x16x256x256, .f32⟩
  | .hbm, ⟨27, _⟩ => ⟨S8x16x64x256, .f32⟩
  | .hbm, ⟨28, _⟩ => ⟨S8x256x16x64, .f32⟩
  | .hbm, ⟨29, _⟩ => ⟨S8x256x1024, .f32⟩
  | .hbm, ⟨30, _⟩ => ⟨S8x256x1024, .f32⟩
  | .hbm, ⟨31, _⟩ => ⟨S8x256x1024, .f32⟩
  | .hbm, ⟨32, _⟩ => ⟨S8x256x1024, .f32⟩
  | .hbm, ⟨33, _⟩ => ⟨S_, .f32⟩
  | .hbm, ⟨34, _⟩ => ⟨S8x256x1024, .f32⟩
  | .hbm, ⟨35, _⟩ => ⟨S8x256x1024, .f32⟩
  | .hbm, ⟨36, _⟩ => ⟨S_, .f32⟩
  | .hbm, ⟨37, _⟩ => ⟨S8x256x1024, .f32⟩
  | .hbm, ⟨38, _⟩ => ⟨S8x256x1024, .f32⟩
  | .hbm, ⟨39, _⟩ => ⟨S8x256x1024, .f32⟩
  | .hbm, ⟨40, _⟩ => ⟨S8x256x1024, .f32⟩
  | .hbm, ⟨41, _⟩ => ⟨S8x256x1024, .bf16⟩
  | _, _ => ⟨S8x256x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_1 : Ref sig .tc := ⟨.hbm, 19, rfl⟩
abbrev main_v16 : Ref sig .tc := ⟨.hbm, 20, rfl⟩
abbrev main_v17 : Ref sig .tc := ⟨.hbm, 21, rfl⟩
abbrev main_cst_2 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Kernel6.lean ====
abbrev S8x1024 : Shape := ⟨2, ![8, 1024]⟩
abbrev S1024 : Shape := ⟨1, ![1024]⟩
abbrev S4x1024x3072 : Shape := ⟨3, ![4, 1024, 3072]⟩
abbrev S4x3072 : Shape := ⟨2, ![4, 3072]⟩
abbrev S_ : Shape := ⟨0, ![]⟩
abbrev S16x1024 : Shape := ⟨2, ![16, 1024]⟩
abbrev S1 : Shape := ⟨1, ![1]⟩
abbrev S4x1x3072 : Shape := ⟨3, ![4, 1, 3072]⟩
abbrev S4x16x3072 : Shape := ⟨3, ![4, 16, 3072]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024x1024 : Shape := ⟨2, ![1024, 1024]⟩
abbrev S1x1024 : Shape := ⟨2, ![1, 1024]⟩

abbrev nBuf : Space → Nat
  | .hbm => 14
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S4x1024x3072, .f32⟩
  | .hbm, ⟨3, _⟩ => ⟨S4x3072, .f32⟩
  | .hbm, ⟨4, _⟩ => ⟨S_, .f32⟩
  | .hbm, ⟨5, _⟩ => ⟨S16x1024, .f32⟩
  | .hbm, ⟨6, _⟩ => ⟨S_, .i32⟩
  | .hbm, ⟨7, _⟩ => ⟨S1, .i32⟩
  | .hbm, ⟨8, _⟩ => ⟨S16x1024, .f32⟩
  | .hbm, ⟨9, _⟩ => ⟨S_, .i32⟩
  | .hbm, ⟨10, _⟩ => ⟨S1, .i32⟩
  | .hbm, ⟨11, _⟩ => ⟨S16x1024, .f32⟩
  | .hbm, ⟨12, _⟩ => ⟨S4x1x3072, .f32⟩
  | .hbm, ⟨13, _⟩ => ⟨S4x16x3072, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8x1024 : Shape := ⟨2, ![8, 1024]⟩
abbrev S1024 : Shape := ⟨1, ![1024]⟩
abbrev S4x1024x3072 : Shape := ⟨3, ![4, 1024, 3072]⟩
abbrev S4x3072 : Shape := ⟨2, ![4, 3072]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S4x3072x16 : Shape := ⟨3, ![4, 3072, 16]⟩
abbrev S4x16x3072 : Shape := ⟨3, ![4, 16, 3072]⟩
abbrev S4x1x3072 : Shape := ⟨3, ![4, 1, 3072]⟩

abbrev nBuf : Space → Nat
  | .hbm => 22
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S4x1024x3072, .f32⟩
  | .hbm, ⟨3, _⟩ => ⟨S4x3072, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S4x3072x16, .f32⟩
  | .hbm, ⟨18, _⟩ => ⟨S4x16x3072, .f32⟩
  | .hbm, ⟨19, _⟩ => ⟨S4x1x3072, .f32⟩
  | .hbm, ⟨20, _⟩ => ⟨S4x16x3072, .f32⟩
  | .hbm, ⟨21, _⟩ => ⟨S4x16x3072, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Proof.KernelRuns.lean ====
/-
  What the run of the kernel's one case is stated over, as the idealized program's certificate states it: here for the program as it
  runs, whose offsets into the scratch of transposed values need their closed forms too.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 5).trans (((dats 0 c).arrAt_in 5 rfl _).trans ((hA c 5).trans (V_main_arg0 m c))),
      ((h c).1 4).trans (((dats 0 c).arrAt_in 4 rfl _).trans ((hA c 4).trans (V_main_arg1 m c))),
      ((h c).2 main_arg2 (Pipeline.mem_restRefs_of main_arg2 (by decide) (by decide))).trans (V_main_arg2 m c)⟩) h

abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    have e2 : (grid0.coords t 2).val = t.val / 1 % 1 := Pipeline.Grid.coords_val t 2 (by decide) rfl
    simp only [cond0_0, e0, e1, e2]
    word_cmp
   : ∀ t : Fin grid0.N, cond0_0 (grid0.coords t))

theorem placed_k0_off3_0_0 : ∀ i : grid0.Coords, k0_off3 i 0#32 0#32 = ![0, 0, 0] := by decide +kernel
theorem placed_k0_off3_0_1 : ∀ i : grid0.Coords, k0_off3 i 0#32 1#32 = ![1, 0, 0] := by decide +kernel
theorem placed_k0_off3_0_2 : ∀ i : grid0.Coords, k0_off3 i 0#32 2#32 = ![2, 0, 0] := by decide +kernel
theorem placed_k0_off3_0_3 : ∀ i : grid0.Coords, k0_off3 i 0#32 3#32 = ![3, 0, 0] := by decide +kernel
theorem placed_k0_off3_0_4 : ∀ i : grid0.Coords, k0_off3 i 0#32 4#32 = ![4, 0, 0] := by decide +kernel
theorem placed_k0_off3_1_0 : ∀ i : grid0.Coords, k0_off3 i 1#32 0#32 = ![0, 0, 0] := by decide +kernel
theorem placed_k0_off3_1_1 : ∀ i : grid0.Coords, k0_off3 i 1#32 1#32 = ![1, 0, 0] := by decide +kernel
theorem placed_k0_off3_1_2 : ∀ i : grid0.Coords, k0_off3 i 1#32 2#32 = ![2, 0, 0] := by decide +kernel
theorem placed_k0_off3_1_3 : ∀ i : grid0.Coords, k0_off3 i 1#32 3#32 = ![3, 0, 0] := by decide +kernel
theorem placed_k0_off3_1_4 : ∀ i : grid0.Coords, k0_off3 i 1#32 4#32 = ![4, 0, 0] := by decide +kernel
theorem placed_k0_off3_2_0 : ∀ i : grid0.Coords, k0_off3 i 2#32 0#32 = ![0, 0, 0] := by decide +kernel
theorem placed_k0_off3_2_1 : ∀ i : grid0.Coords, k0_off3 i 2#32 1#32 = ![1, 0, 0] := by decide +kernel
theorem placed_k0_off3_2_2 : ∀ i : grid0.Coords, k0_off3 i 2#32 2#32 = ![2, 0, 0] := by decide +kernel
theorem placed_k0_off3_2_3 : ∀ i : grid0.Coords, k0_off3 i 2#32 3#32 = ![3, 0, 0] := by decide +kernel
theorem placed_k0_off3_2_4 : ∀ i : grid0.Coords, k0_off3 i 2#32 4#32 = ![4, 0, 0] := by decide +kernel
theorem placed_k0_off3_3_0 : ∀ i : grid0.Coords, k0_off3 i 3#32 0#32 = ![1, 0, 0] := by decide +kernel
theorem placed_k0_off3_3_1 : ∀ i : grid0.Coords, k0_off3 i 3#32 1#32 = ![2, 0, 0] := by decide +kernel
theorem placed_k0_off3_3_2 : ∀ i : grid0.Coords, k0_off3 i 3#32 2#32 = ![3, 0, 0] := by decide +kernel
theorem placed_k0_off3_3_3 : ∀ i : grid0.Coords, k0_off3 i 3#32 3#32 = ![4, 0, 0] := by decide +kernel
theorem placed_k0_off3_3_4 : ∀ i : grid0.Coords, k0_off3 i 3#32 4#32 = ![5, 0, 0] := by decide +kernel
theorem placed_k0_off3_4_0 : ∀ i : grid0.Coords, k0_off3 i 4#32 0#32 = ![2, 0, 0] := by decide +kernel
theorem placed_k0_off3_4_1 : ∀ i : grid0.Coords, k0_off3 i 4#32 1#32 = ![3, 0, 0] := by decide +kernel
theorem placed_k0_off3_4_2 : ∀ i : grid0.Coords, k0_off3 i 4#32 2#32 = ![4, 0, 0] := by decide +kernel
theorem placed_k0_off3_4_3 : ∀ i : grid0.Coords, k0_off3 i 4#32 3#32 = ![5, 0, 0] := by decide +kernel
theorem placed_k0_off3_4_4 : ∀ i : grid0.Coords, k0_off3 i 4#32 4#32 = ![6, 0, 0] := by decide +kernel
theorem placed_k0_off3_5_0 : ∀ i : grid0.Coords, k0_off3 i 5#32 0#32 = ![3, 0, 0] := by decide +kernel
theorem placed_k0_off3_5_1 : ∀ i : grid0.Coords, k0_off3 i 5#32 1#32 = ![4, 0, 0] := by decide +kernel
theorem placed_k0_off3_5_2 : ∀ i : grid0.Coords, k0_off3 i 5#32 2#32 = ![5, 0, 0] := by decide +kernel
theorem placed_k0_off3_5_3 : ∀ i : grid0.Coords, k0_off3 i 5#32 3#32 = ![6, 0, 0] := by decide +kernel
theorem placed_k0_off3_5_4 : ∀ i : grid0.Coords, k0_off3 i 5#32 4#32 = ![7, 0, 0] := by decide +kernel
theorem placed_k0_off3_6_0 : ∀ i : grid0.Coords, k0_off3 i 6#32 0#32 = ![4, 0, 0] := by decide +kernel
theorem placed_k0_off3_6_1 : ∀ i : grid0.Coords, k0_off3 i 6#32 1#32 = ![5, 0, 0] := by decide +kernel
theorem placed_k0_off3_6_2 : ∀ i : grid0.Coords, k0_off3 i 6#32 2#32 = ![6, 0, 0] := by decide +kernel
theorem placed_k0_off3_6_3 : ∀ i : grid0.Coords, k0_off3 i 6#32 3#32 = ![7, 0, 0] := by decide +kernel
theorem placed_k0_off3_6_4 : ∀ i : grid0.Coords, k0_off3 i 6#32 4#32 = ![8, 0, 0] := by decide +kernel
theorem placed_k0_off3_7_0 : ∀ i : grid0.Coords, k0_off3 i 7#32 0#32 = ![5, 0, 0] := by decide +kernel
theorem placed_k0_off3_7_1 : ∀ i : grid0.Coords, k0_off3 i 7#32 1#32 = ![6, 0, 0] := by decide +kernel
theorem placed_k0_off3_7_2 : ∀ i : grid0.Coords, k0_off3 i 7#32 2#32 = ![7, 0, 0] := by decide +kernel
theorem placed_k0_off3_7_3 : ∀ i : grid0.Coords, k0_off3 i 7#32 3#32 = ![8, 0, 0] := by decide +kernel
theorem placed_k0_off3_7_4 : ∀ i : grid0.Coords, k0_off3 i 7#32 4#32 = ![9, 0, 0] := by decide +kernel
theorem placed_k0_off3_8_0 : ∀ i : grid0.Coords, k0_off3 i 8#32 0#32 = ![6, 0, 0] := by decide +kernel
theorem placed_k0_off3_8_1 : ∀ i : grid0.Coords, k0_off3 i 8#32 1#32 = ![7, 0, 0] := by decide +kernel
theorem placed_k0_off3_8_2 : ∀ i : grid0.Coords, k0_off3 i 8#32 2#32 = ![8, 0, 0] := by decide +kernel
theorem placed_k0_off3_8_3 : ∀ i : grid0.Coords, k0_off3 i 8#32 3#32 = ![9, 0, 0] := by decide +kernel
theorem placed_k0_off3_8_4 : ∀ i : grid0.Coords, k0_off3 i 8#32 4#32 = ![10, 0, 0] := by decide +kernel
theorem placed_k0_off3_9_0 : ∀ i : grid0.Coords, k0_off3 i 9#32 0#32 = ![7, 0, 0] := by decide +kernel
theorem placed_k0_off3_9_1 : ∀ i : grid0.Coords, k0_off3 i 9#32 1#32 = ![8, 0, 0] := by decide +kernel
theorem placed_k0_off3_9_2 : ∀ i : grid0.Coords, k0_off3 i 9#32 2#32 = ![9, 0, 0] := by decide +kernel
theorem placed_k0_off3_9_3 : ∀ i : grid0.Coords, k0_off3 i 9#32 3#32 = ![10, 0, 0] := by decide +kernel
theorem placed_k0_off3_9_4 : ∀ i : grid0.Coords, k0_off3 i 9#32 4#32 = ![11, 0, 0] := by decide +kernel
theorem placed_k0_off3_10_0 : ∀ i : grid0.Coords, k0_off3 i 10#32 0#32 = ![8, 0, 0] := by decide +kernel
theorem placed_k0_off3_10_1 : ∀ i : grid0.Coords, k0_off3 i 10#32 1#32 = ![9, 0, 0] := by decide +kernel
theorem placed_k0_off3_10_2 : ∀ i : grid0.Coords, k0_off3 i 10#32 2#32 = ![10, 0, 0] := by decide +kernel
theorem placed_k0_off3_10_3 : ∀ i : grid0.Coords, k0_off3 i 10#32 3#32 = ![11, 0, 0] := by decide +kernel
theorem placed_k0_off3_10_4 : ∀ i : grid0.Coords, k0_off3 i 10#32 4#32 = ![12, 0, 0] := by decide +kernel
theorem placed_k0_off3_11_0 : ∀ i : grid0.Coords, k0_off3 i 11#32 0#32 = ![9, 0, 0] := by decide +kernel
theorem placed_k0_off3_11_1 : ∀ i : grid0.Coords, k0_off3 i 11#32 1#32 = ![10, 0, 0] := by decide +kernel
theorem placed_k0_off3_11_2 : ∀ i : grid0.Coords, k0_off3 i 11#32 2#32 = ![11, 0, 0] := by decide +kernel
theorem placed_k0_off3_11_3 : ∀ i : grid0.Coords, k0_off3 i 11#32 3#32 = ![12, 0, 0] := by decide +kernel
theorem placed_k0_off3_11_4 : ∀ i : grid0.Coords, k0_off3 i 11#32 4#32 = ![13, 0, 0] := by decide +kernel
theorem placed_k0_off3_12_0 : ∀ i : grid0.Coords, k0_off3 i 12#32 0#32 = ![10, 0, 0] := by decide +kernel
theorem placed_k0_off3_12_1 : ∀ i : grid0.Coords, k0_off3 i 12#32 1#32 = ![11, 0, 0] := by decide +kernel
theorem placed_k0_off3_12_2 : ∀ i : grid0.Coords, k0_off3 i 12#32 2#32 = ![12, 0, 0] := by decide +kernel
theorem placed_k0_off3_12_3 : ∀ i : grid0.Coords, k0_off3 i 12#32 3#32 = ![13, 0, 0] := by decide +kernel
theorem placed_k0_off3_12_4 : ∀ i : grid0.Coords, k0_off3 i 12#32 4#32 = ![14, 0, 0] := by decide +kernel
theorem placed_k0_off3_13_0 : ∀ i : grid0.Coords, k0_off3 i 13#32 0#32 = ![11, 0, 0] := by decide +kernel
theorem placed_k0_off3_13_1 : ∀ i : grid0.Coords, k0_off3 i 13#32 1#32 = ![12, 0, 0] := by decide +kernel
theorem placed_k0_off3_13_2 : ∀ i : grid0.Coords, k0_off3 i 13#32 2#32 = ![13, 0, 0] := by decide +kernel
theorem placed_k0_off3_13_3 : ∀ i : grid0.Coords, k0_off3 i 13#32 3#32 = ![14, 0, 0] := by decide +kernel
theorem placed_k0_off3_13_4 : ∀ i : grid0.Coords, k0_off3 i 13#32 4#32 = ![15, 0, 0] := by decide +kernel
theorem placed_k0_off3_14_0 : ∀ i : grid0.Coords, k0_off3 i 14#32 0#32 = ![12, 0, 0] := by decide +kernel
theorem placed_k0_off3_14_1 : ∀ i : grid0.Coords, k0_off3 i 14#32 1#32 = ![13, 0, 0] := by decide +kernel
theorem placed_k0_off3_14_2 : ∀ i : grid0.Coords, k0_off3 i 14#32 2#32 = ![14, 0, 0] := by decide +kernel
theorem placed_k0_off3_14_3 : ∀ i : grid0.Coords, k0_off3 i 14#32 3#32 = ![15, 0, 0] := by decide +kernel
theorem placed_k0_off3_14_4 : ∀ i : grid0.Coords, k0_off3 i 14#32 4#32 = ![16, 0, 0] := by decide +kernel
theorem placed_k0_off3_15_0 : ∀ i : grid0.Coords, k0_off3 i 15#32 0#32 = ![13, 0, 0] := by decide +kernel
theorem placed_k0_off3_15_1 : ∀ i : grid0.Coords, k0_off3 i 15#32 1#32 = ![14, 0, 0] := by decide +kernel
theorem placed_k0_off3_15_2 : ∀ i : grid0.Coords, k0_off3 i 15#32 2#32 = ![15, 0, 0] := by decide +kernel
theorem placed_k0_off3_15_3 : ∀ i : grid0.Coords, k0_off3 i 15#32 3#32 = ![16, 0, 0] := by decide +kernel
theorem placed_k0_off3_15_4 : ∀ i : grid0.Coords, k0_off3 i 15#32 4#32 = ![17, 0, 0] := by decide +kernel
theorem placed_k0_off3_16_0 : ∀ i : grid0.Coords, k0_off3 i 16#32 0#32 = ![14, 0, 0] := by decide +kernel
theorem placed_k0_off3_16_1 : ∀ i : grid0.Coords, k0_off3 i 16#32 1#32 = ![15, 0, 0] := by decide +kernel
theorem placed_k0_off3_16_2 : ∀ i : grid0.Coords, k0_off3 i 16#32 2#32 = ![16, 0, 0] := by decide +kernel
theorem placed_k0_off3_16_3 : ∀ i : grid0.Coords, k0_off3 i 16#32 3#32 = ![17, 0, 0] := by decide +kernel
theorem placed_k0_off3_16_4 : ∀ i : grid0.Coords, k0_off3 i 16#32 4#32 = ![18, 0, 0] := by decide +kernel
theorem placed_k0_off3_17_0 : ∀ i : grid0.Coords, k0_off3 i 17#32 0#32 = ![15, 0, 0] := by decide +kernel
theorem placed_k0_off3_17_1 : ∀ i : grid0.Coords, k0_off3 i 17#32 1#32 = ![16, 0, 0] := by decide +kernel
theorem placed_k0_off3_17_2 : ∀ i : grid0.Coords, k0_off3 i 17#32 2#32 = ![17, 0, 0] := by decide +kernel
theorem placed_k0_off3_17_3 : ∀ i : grid0.Coords, k0_off3 i 17#32 3#32 = ![18, 0, 0] := by decide +kernel
theorem placed_k0_off3_17_4 : ∀ i : grid0.Coords, k0_off3 i 17#32 4#32 = ![19, 0, 0] := by decide +kernel
theorem placed_k0_off3_18_0 : ∀ i : grid0.Coords, k0_off3 i 18#32 0#32 = ![16, 0, 0] := by decide +kernel
theorem placed_k0_off3_18_1 : ∀ i : grid0.Coords, k0_off3 i 18#32 1#32 = ![17, 0, 0] := by decide +kernel
theorem placed_k0_off3_18_2 : ∀ i : grid0.Coords, k0_off3 i 18#32 2#32 = ![18, 0, 0] := by decide +kernel
theorem placed_k0_off3_18_3 : ∀ i : grid0.Coords, k0_off3 i 18#32 3#32 = ![19, 0, 0] := by decide +kernel
theorem placed_k0_off3_18_4 : ∀ i : grid0.Coords, k0_off3 i 18#32 4#32 = ![20, 0, 0] := by decide +kernel
theorem placed_k0_off3_19_0 : ∀ i : grid0.Coords, k0_off3 i 19#32 0#32 = ![17, 0, 0] := by decide +kernel
theorem placed_k0_off3_19_1 : ∀ i : grid0.Coords, k0_off3 i 19#32 1#32 = ![18, 0, 0] := by decide +kernel
theorem placed_k0_off3_19_2 : ∀ i : grid0.Coords, k0_off3 i 19#32 2#32 = ![19, 0, 0] := by decide +kernel
theorem placed_k0_off3_19_3 : ∀ i : grid0.Coords, k0_off3 i 19#32 3#32 = ![20, 0, 0] := by decide +kernel
theorem placed_k0_off3_19_4 : ∀ i : grid0.Coords, k0_off3 i 19#32 4#32 = ![21, 0, 0] := by decide +kernel
theorem placed_k0_off3_20_0 : ∀ i : grid0.Coords, k0_off3 i 20#32 0#32 = ![18, 0, 0] := by decide +kernel
theorem placed_k0_off3_20_1 : ∀ i : grid0.Coords, k0_off3 i 20#32 1#32 = ![19, 0, 0] := by decide +kernel
theorem placed_k0_off3_20_2 : ∀ i : grid0.Coords, k0_off3 i 20#32 2#32 = ![20, 0, 0] := by decide +kernel
theorem placed_k0_off3_20_3 : ∀ i : grid0.Coords, k0_off3 i 20#32 3#32 = ![21, 0, 0] := by decide +kernel
theorem placed_k0_off3_20_4 : ∀ i : grid0.Coords, k0_off3 i 20#32 4#32 = ![22, 0, 0] := by decide +kernel
theorem placed_k0_off3_21_0 : ∀ i : grid0.Coords, k0_off3 i 21#32 0#32 = ![19, 0, 0] := by decide +kernel
theorem placed_k0_off3_21_1 : ∀ i : grid0.Coords, k0_off3 i 21#32 1#32 = ![20, 0, 0] := by decide +kernel
theorem placed_k0_off3_21_2 : ∀ i : grid0.Coords, k0_off3 i 21#32 2#32 = ![21, 0, 0] := by decide +kernel
theorem placed_k0_off3_21_3 : ∀ i : grid0.Coords, k0_off3 i 21#32 3#32 = ![22, 0, 0] := by decide +kernel
theorem placed_k0_off3_21_4 : ∀ i : grid0.Coords, k0_off3 i 21#32 4#32 = ![23, 0, 0] := by decide +kernel
theorem placed_k0_off3_22_0 : ∀ i : grid0.Coords, k0_off3 i 22#32 0#32 = ![20, 0, 0] := by decide +kernel
theorem placed_k0_off3_22_1 : ∀ i : grid0.Coords, k0_off3 i 22#32 1#32 = ![21, 0, 0] := by decide +kernel
theorem placed_k0_off3_22_2 : ∀ i : grid0.Coords, k0_off3 i 22#32 2#32 = ![22, 0, 0] := by decide +kernel
theorem placed_k0_off3_22_3 : ∀ i : grid0.Coords, k0_off3 i 22#32 3#32 = ![23, 0, 0] := by decide +kernel
theorem placed_k0_off3_22_4 : ∀ i : grid0.Coords, k0_off3 i 22#32 4#32 = ![24, 0, 0] := by decide +kernel
theorem placed_k0_off3_23_0 : ∀ i : grid0.Coords, k0_off3 i 23#32 0#32 = ![21, 0, 0] := by decide +kernel
theorem placed_k0_off3_23_1 : ∀ i : grid0.Coords, k0_off3 i 23#32 1#32 = ![22, 0, 0] := by decide +kernel
theorem placed_k0_off3_23_2 : ∀ i : grid0.Coords, k0_off3 i 23#32 2#32 = ![23, 0, 0] := by decide +kernel
theorem placed_k0_off3_23_3 : ∀ i : grid0.Coords, k0_off3 i 23#32 3#32 = ![24, 0, 0] := by decide +kernel
theorem placed_k0_off3_23_4 : ∀ i : grid0.Coords, k0_off3 i 23#32 4#32 = ![25, 0, 0] := by decide +kernel
theorem placed_k0_off3_24_0 : ∀ i : grid0.Coords, k0_off3 i 24#32 0#32 = ![22, 0, 0] := by decide +kernel
theorem placed_k0_off3_24_1 : ∀ i : grid0.Coords, k0_off3 i 24#32 1#32 = ![23, 0, 0] := by decide +kernel
theorem placed_k0_off3_24_2 : ∀ i : grid0.Coords, k0_off3 i 24#32 2#32 = ![24, 0, 0] := by decide +kernel
theorem placed_k0_off3_24_3 : ∀ i : grid0.Coords, k0_off3 i 24#32 3#32 = ![25, 0, 0] := by decide +kernel
theorem placed_k0_off3_24_4 : ∀ i : grid0.Coords, k0_off3 i 24#32 4#32 = ![26, 0, 0] := by decide +kernel
theorem placed_k0_off3_25_0 : ∀ i : grid0.Coords, k0_off3 i 25#32 0#32 = ![23, 0, 0] := by decide +kernel
theorem placed_k0_off3_25_1 : ∀ i : grid0.Coords, k0_off3 i 25#32 1#32 = ![24, 0, 0] := by decide +kernel
theorem placed_k0_off3_25_2 : ∀ i : grid0.Coords, k0_off3 i 25#32 2#32 = ![25, 0, 0] := by decide +kernel
theorem placed_k0_off3_25_3 : ∀ i : grid0.Coords, k0_off3 i 25#32 3#32 = ![26, 0, 0] := by decide +kernel
theorem placed_k0_off3_25_4 : ∀ i : grid0.Coords, k0_off3 i 25#32 4#32 = ![27, 0, 0] := by decide +kernel
theorem placed_k0_off3_26_0 : ∀ i : grid0.Coords, k0_off3 i 26#32 0#32 = ![24, 0, 0] := by decide +kernel
theorem placed_k0_off3_26_1 : ∀ i : grid0.Coords, k0_off3 i 26#32 1#32 = ![25, 0, 0] := by decide +kernel
theorem placed_k0_off3_26_2 : ∀ i : grid0.Coords, k0_off3 i 26#32 2#32 = ![26, 0, 0] := by decide +kernel
theorem placed_k0_off3_26_3 : ∀ i : grid0.Coords, k0_off3 i 26#32 3#32 = ![27, 0, 0] := by decide +kernel
theorem placed_k0_off3_26_4 : ∀ i : grid0.Coords, k0_off3 i 26#32 4#32 = ![28, 0, 0] := by decide +kernel
theorem placed_k0_off3_27_0 : ∀ i : grid0.Coords, k0_off3 i 27#32 0#32 = ![25, 0, 0] := by decide +kernel
theorem placed_k0_off3_27_1 : ∀ i : grid0.Coords, k0_off3 i 27#32 1#32 = ![26, 0, 0] := by decide +kernel
theorem placed_k0_off3_27_2 : ∀ i : grid0.Coords, k0_off3 i 27#32 2#32 = ![27, 0, 0] := by decide +kernel
theorem placed_k0_off3_27_3 : ∀ i : grid0.Coords, k0_off3 i 27#32 3#32 = ![28, 0, 0] := by decide +kernel
theorem placed_k0_off3_27_4 : ∀ i : grid0.Coords, k0_off3 i 27#32 4#32 = ![29, 0, 0] := by decide +kernel
theorem placed_k0_off3_28_0 : ∀ i : grid0.Coords, k0_off3 i 28#32 0#32 = ![26, 0, 0] := by decide +kernel
theorem placed_k0_off3_28_1 : ∀ i : grid0.Coords, k0_off3 i 28#32 1#32 = ![27, 0, 0] := by decide +kernel
theorem placed_k0_off3_28_2 : ∀ i : grid0.Coords, k0_off3 i 28#32 2#32 = ![28, 0, 0] := by decide +kernel
theorem placed_k0_off3_28_3 : ∀ i : grid0.Coords, k0_off3 i 28#32 3#32 = ![29, 0, 0] := by decide +kernel
theorem placed_k0_off3_28_4 : ∀ i : grid0.Coords, k0_off3 i 28#32 4#32 = ![30, 0, 0] := by decide +kernel
theorem placed_k0_off3_29_0 : ∀ i : grid0.Coords, k0_off3 i 29#32 0#32 = ![27, 0, 0] := by decide +kernel
theorem placed_k0_off3_29_1 : ∀ i : grid0.Coords, k0_off3 i 29#32 1#32 = ![28, 0, 0] := by decide +kernel
theorem placed_k0_off3_29_2 : ∀ i : grid0.Coords, k0_off3 i 29#32 2#32 = ![29, 0, 0] := by decide +kernel
theorem placed_k0_off3_29_3 : ∀ i : grid0.Coords, k0_off3 i 29#32 3#32 = ![30, 0, 0] := by decide +kernel
theorem placed_k0_off3_29_4 : ∀ i : grid0.Coords, k0_off3 i 29#32 4#32 = ![31, 0, 0] := by decide +kernel
theorem placed_k0_off3_30_0 : ∀ i : grid0.Coords, k0_off3 i 30#32 0#32 = ![27, 0, 0] := by decide +kernel
theorem placed_k0_off3_30_1 : ∀ i : grid0.Coords, k0_off3 i 30#32 1#32 = ![28, 0, 0] := by decide +kernel
theorem placed_k0_off3_30_2 : ∀ i : grid0.Coords, k0_off3 i 30#32 2#32 = ![29, 0, 0] := by decide +kernel
theorem placed_k0_off3_30_3 : ∀ i : grid0.Coords, k0_off3 i 30#32 3#32 = ![30, 0, 0] := by decide +kernel
theorem placed_k0_off3_30_4 : ∀ i : grid0.Coords, k0_off3 i 30#32 4#32 = ![31, 0, 0] := by decide +kernel
theorem placed_k0_off3_31_0 : ∀ i : grid0.Coords, k0_off3 i 31#32 0#32 = ![27, 0, 0] := by decide +kernel
theorem placed_k0_off3_31_1 : ∀ i : grid0.Coords, k0_off3 i 31#32 1#32 = ![28, 0, 0] := by decide +kernel
theorem placed_k0_off3_31_2 : ∀ i : grid0.Coords, k0_off3 i 31#32 2#32 = ![29, 0, 0] := by decide +kernel
theorem placed_k0_off3_31_3 : ∀ i : grid0.Coords, k0_off3 i 31#32 3#32 = ![30, 0, 0] := by decide +kernel
theorem placed_k0_off3_31_4 : ∀ i : grid0.Coords, k0_off3 i 31#32 4#32 = ![31, 0, 0] := by decide +kernel

abbrev VO0_7 : View sig .tc .vmem S1x4096x128 .bf16 := (Memref.whole cc0_stg7_0 : Memref sig .tc .vmem S1x4096x128 .bf16).view
abbrev ms0_0 (t : Fin cfg0.N) : Memref sig .tc .vmem S1x4096x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4096x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x5x640x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x4096x128 .bf16 := win0_7.stage (cfg0.slots t 7)
abbrev hs0_7 (t : Fin cfg0.N) : (ms0_7 t).IsWhole := hstage0_7 ((cfg0.slots t 7).cast nbuf0_7)
abbrev scM0_0 : Memref sig .tc .vmem S32x128x128 .bf16 := Memref.whole cc0_scratch0
abbrev scM0_1 : Memref sig .tc .vmem S2x128x128 .bf16 := Memref.whole cc0_scratch1
abbrev scM0_2 : Memref sig .tc .vmem S896x256 .f32 := Memref.whole cc0_scratch2
abbrev scM0_3 : Memref sig .tc .vmem S896x256 .f32 := Memref.whole cc0_scratch3
abbrev scM0_4 : Memref sig .tc .vmem S896x256 .bf16 := Memref.whole cc0_scratch4
abbrev scM0_5 : Memref sig .tc .vmem S896x256 .bf16 := Memref.whole cc0_scratch5

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Kernel.Gen

end
-- ==== Proof.KernelRunA.lean ====
/-
  The run of the kernel's body in its one case, for the program as it runs.
-/
module

public import proofs.«01_k».proof.Proof.KernelRuns

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

local instance (priority := high) placed_k0_off3_0_0_A (i : grid0.Coords) : ClosedOff (k0_off3 i 0#32 0#32) := ⟨![0, 0, 0], placed_k0_off3_0_0 i⟩
local instance (priority := high) placed_k0_off3_0_1_A (i : grid0.Coords) : ClosedOff (k0_off3 i 0#32 1#32) := ⟨![1, 0, 0], placed_k0_off3_0_1 i⟩
local instance (priority := high) placed_k0_off3_0_2_A (i : grid0.Coords) : ClosedOff (k0_off3 i 0#32 2#32) := ⟨![2, 0, 0], placed_k0_off3_0_2 i⟩
local instance (priority := high) placed_k0_off3_0_3_A (i : grid0.Coords) : ClosedOff (k0_off3 i 0#32 3#32) := ⟨![3, 0, 0], placed_k0_off3_0_3 i⟩
local instance (priority := high) placed_k0_off3_0_4_A (i : grid0.Coords) : ClosedOff (k0_off3 i 0#32 4#32) := ⟨![4, 0, 0], placed_k0_off3_0_4 i⟩
local instance (priority := high) placed_k0_off3_1_0_A (i : grid0.Coords) : ClosedOff (k0_off3 i 1#32 0#32) := ⟨![0, 0, 0], placed_k0_off3_1_0 i⟩
local instance (priority := high) placed_k0_off3_1_1_A (i : grid0.Coords) : ClosedOff (k0_off3 i 1#32 1#32) := ⟨![1, 0, 0], placed_k0_off3_1_1 i⟩
local instance (priority := high) placed_k0_off3_1_2_A (i : grid0.Coords) : ClosedOff (k0_off3 i 1#32 2#32) := ⟨![2, 0, 0], placed_k0_off3_1_2 i⟩
local instance (priority := high) placed_k0_off3_1_3_A (i : grid0.Coords) : ClosedOff (k0_off3 i 1#32 3#32) := ⟨![3, 0, 0], placed_k0_off3_1_3 i⟩
local instance (priority := high) placed_k0_off3_1_4_A (i : grid0.Coords) : ClosedOff (k0_off3 i 1#32 4#32) := ⟨![4, 0, 0], placed_k0_off3_1_4 i⟩
local instance (priority := high) placed_k0_off3_2_0_A (i : grid0.Coords) : ClosedOff (k0_off3 i 2#32 0#32) := ⟨![0, 0, 0], placed_k0_off3_2_0 i⟩
local instance (priority := high) placed_k0_off3_2_1_A (i : grid0.Coords) : ClosedOff (k0_off3 i 2#32 1#32) := ⟨![1, 0, 0], placed_k0_off3_2_1 i⟩
local instance (priority := high) placed_k0_off3_2_2_A (i : grid0.Coords) : ClosedOff (k0_off3 i 2#32 2#32) := ⟨![2, 0, 0], placed_k0_off3_2_2 i⟩
local instance (priority := high) placed_k0_off3_2_3_A (i : grid0.Coords) : ClosedOff (k0_off3 i 2#32 3#32) := ⟨![3, 0, 0], placed_k0_off3_2_3 i⟩
local instance (priority := high) placed_k0_off3_2_4_A (i : grid0.Coords) : ClosedOff (k0_off3 i 2#32 4#32) := ⟨![4, 0, 0], placed_k0_off3_2_4 i⟩
local instance (priority := high) placed_k0_off3_3_0_A (i : grid0.Coords) : ClosedOff (k0_off3 i 3#32 0#32) := ⟨![1, 0, 0], placed_k0_off3_3_0 i⟩
local instance (priority := high) placed_k0_off3_3_1_A (i : grid0.Coords) : ClosedOff (k0_off3 i 3#32 1#32) := ⟨![2, 0, 0], placed_k0_off3_3_1 i⟩
local instance (priority := high) placed_k0_off3_3_2_A (i : grid0.Coords) : ClosedOff (k0_off3 i 3#32 2#32) := ⟨![3, 0, 0], placed_k0_off3_3_2 i⟩
local instance (priority := high) placed_k0_off3_3_3_A (i : grid0.Coords) : ClosedOff (k0_off3 i 3#32 3#32) := ⟨![4, 0, 0], placed_k0_off3_3_3 i⟩
local instance (priority := high) placed_k0_off3_3_4_A (i : grid0.Coords) : ClosedOff (k0_off3 i 3#32 4#32) := ⟨![5, 0, 0], placed_k0_off3_3_4 i⟩
local instance (priority := high) placed_k0_off3_4_0_A (i : grid0.Coords) : ClosedOff (k0_off3 i 4#32 0#32) := ⟨![2, 0, 0], placed_k0_off3_4_0 i⟩
local instance (priority := high) placed_k0_off3_4_1_A (i : grid0.Coords) : ClosedOff (k0_off3 i 4#32 1#32) := ⟨![3, 0, 0], placed_k0_off3_4_1 i⟩
local instance (priority := high) placed_k0_off3_4_2_A (i : grid0.Coords) : ClosedOff (k0_off3 i 4#32 2#32) := ⟨![4, 0, 0], placed_k0_off3_4_2 i⟩
local instance (priority := high) placed_k0_off3_4_3_A (i : grid0.Coords) : ClosedOff (k0_off3 i 4#32 3#32) := ⟨![5, 0, 0], placed_k0_off3_4_3 i⟩
local instance (priority := high) placed_k0_off3_4_4_A (i : grid0.Coords) : ClosedOff (k0_off3 i 4#32 4#32) := ⟨![6, 0, 0], placed_k0_off3_4_4 i⟩
local instance (priority := high) placed_k0_off3_5_0_A (i : grid0.Coords) : ClosedOff (k0_off3 i 5#32 0#32) := ⟨![3, 0, 0], placed_k0_off3_5_0 i⟩
local instance (priority := high) placed_k0_off3_5_1_A (i : grid0.Coords) : ClosedOff (k0_off3 i 5#32 1#32) := ⟨![4, 0, 0], placed_k0_off3_5_1 i⟩
local instance (priority := high) placed_k0_off3_5_2_A (i : grid0.Coords) : ClosedOff (k0_off3 i 5#32 2#32) := ⟨![5, 0, 0], placed_k0_off3_5_2 i⟩
local instance (priority := high) placed_k0_off3_5_3_A (i : grid0.Coords) : ClosedOff (k0_off3 i 5#32 3#32) := ⟨![6, 0, 0], placed_k0_off3_5_3 i⟩
local instance (priority := high) placed_k0_off3_5_4_A (i : grid0.Coords) : ClosedOff (k0_off3 i 5#32 4#32) := ⟨![7, 0, 0], placed_k0_off3_5_4 i⟩
local instance (priority := high) placed_k0_off3_6_0_A (i : grid0.Coords) : ClosedOff (k0_off3 i 6#32 0#32) := ⟨![4, 0, 0], placed_k0_off3_6_0 i⟩
local instance (priority := high) placed_k0_off3_6_1_A (i : grid0.Coords) : ClosedOff (k0_off3 i 6#32 1#32) := ⟨![5, 0, 0], placed_k0_off3_6_1 i⟩
local instance (priority := high) placed_k0_off3_6_2_A (i : grid0.Coords) : ClosedOff (k0_off3 i 6#32 2#32) := ⟨![6, 0, 0], placed_k0_off3_6_2 i⟩
local instance (priority := high) placed_k0_off3_6_3_A (i : grid0.Coords) : ClosedOff (k0_off3 i 6#32 3#32) := ⟨![7, 0, 0], placed_k0_off3_6_3 i⟩
local instance (priority := high) placed_k0_off3_6_4_A (i : grid0.Coords) : ClosedOff (k0_off3 i 6#32 4#32) := ⟨![8, 0, 0], placed_k0_off3_6_4 i⟩
local instance (priority := high) placed_k0_off3_7_0_A (i : grid0.Coords) : ClosedOff (k0_off3 i 7#32 0#32) := ⟨![5, 0, 0], placed_k0_off3_7_0 i⟩
local instance (priority := high) placed_k0_off3_7_1_A (i : grid0.Coords) : ClosedOff (k0_off3 i 7#32 1#32) := ⟨![6, 0, 0], placed_k0_off3_7_1 i⟩
local instance (priority := high) placed_k0_off3_7_2_A (i : grid0.Coords) : ClosedOff (k0_off3 i 7#32 2#32) := ⟨![7, 0, 0], placed_k0_off3_7_2 i⟩
local instance (priority := high) placed_k0_off3_7_3_A (i : grid0.Coords) : ClosedOff (k0_off3 i 7#32 3#32) := ⟨![8, 0, 0], placed_k0_off3_7_3 i⟩
local instance (priority := high) placed_k0_off3_7_4_A (i : grid0.Coords) : ClosedOff (k0_off3 i 7#32 4#32) := ⟨![9, 0, 0], placed_k0_off3_7_4 i⟩
local instance (priority := high) placed_k0_off3_8_0_A (i : grid0.Coords) : ClosedOff (k0_off3 i 8#32 0#32) := ⟨![6, 0, 0], placed_k0_off3_8_0 i⟩
local instance (priority := high) placed_k0_off3_8_1_A (i : grid0.Coords) : ClosedOff (k0_off3 i 8#32 1#32) := ⟨![7, 0, 0], placed_k0_off3_8_1 i⟩
local instance (priority := high) placed_k0_off3_8_2_A (i : grid0.Coords) : ClosedOff (k0_off3 i 8#32 2#32) := ⟨![8, 0, 0], placed_k0_off3_8_2 i⟩
local instance (priority := high) placed_k0_off3_8_3_A (i : grid0.Coords) : ClosedOff (k0_off3 i 8#32 3#32) := ⟨![9, 0, 0], placed_k0_off3_8_3 i⟩
local instance (priority := high) placed_k0_off3_8_4_A (i : grid0.Coords) : ClosedOff (k0_off3 i 8#32 4#32) := ⟨![10, 0, 0], placed_k0_off3_8_4 i⟩
local instance (priority := high) placed_k0_off3_9_0_A (i : grid0.Coords) : ClosedOff (k0_off3 i 9#32 0#32) := ⟨![7, 0, 0], placed_k0_off3_9_0 i⟩
local instance (priority := high) placed_k0_off3_9_1_A (i : grid0.Coords) : ClosedOff (k0_off3 i 9#32 1#32) := ⟨![8, 0, 0], placed_k0_off3_9_1 i⟩
local instance (priority := high) placed_k0_off3_9_2_A (i : grid0.Coords) : ClosedOff (k0_off3 i 9#32 2#32) := ⟨![9, 0, 0], placed_k0_off3_9_2 i⟩
local instance (priority := high) placed_k0_off3_9_3_A (i : grid0.Coords) : ClosedOff (k0_off3 i 9#32 3#32) := ⟨![10, 0, 0], placed_k0_off3_9_3 i⟩
local instance (priority := high) placed_k0_off3_9_4_A (i : grid0.Coords) : ClosedOff (k0_off3 i 9#32 4#32) := ⟨![11, 0, 0], placed_k0_off3_9_4 i⟩
local instance (priority := high) placed_k0_off3_10_0_A (i : grid0.Coords) : ClosedOff (k0_off3 i 10#32 0#32) := ⟨![8, 0, 0], placed_k0_off3_10_0 i⟩
local instance (priority := high) placed_k0_off3_10_1_A (i : grid0.Coords) : ClosedOff (k0_off3 i 10#32 1#32) := ⟨![9, 0, 0], placed_k0_off3_10_1 i⟩
local instance (priority := high) placed_k0_off3_10_2_A (i : grid0.Coords) : ClosedOff (k0_off3 i 10#32 2#32) := ⟨![10, 0, 0], placed_k0_off3_10_2 i⟩
local instance (priority := high) placed_k0_off3_10_3_A (i : grid0.Coords) : ClosedOff (k0_off3 i 10#32 3#32) := ⟨![11, 0, 0], placed_k0_off3_10_3 i⟩
local instance (priority := high) placed_k0_off3_10_4_A (i : grid0.Coords) : ClosedOff (k0_off3 i 10#32 4#32) := ⟨![12, 0, 0], placed_k0_off3_10_4 i⟩
local instance (priority := high) placed_k0_off3_11_0_A (i : grid0.Coords) : ClosedOff (k0_off3 i 11#32 0#32) := ⟨![9, 0, 0], placed_k0_off3_11_0 i⟩
local instance (priority := high) placed_k0_off3_11_1_A (i : grid0.Coords) : ClosedOff (k0_off3 i 11#32 1#32) := ⟨![10, 0, 0], placed_k0_off3_11_1 i⟩
local instance (priority := high) placed_k0_off3_11_2_A (i : grid0.Coords) : ClosedOff (k0_off3 i 11#32 2#32) := ⟨![11, 0, 0], placed_k0_off3_11_2 i⟩
local instance (priority := high) placed_k0_off3_11_3_A (i : grid0.Coords) : ClosedOff (k0_off3 i 11#32 3#32) := ⟨![12, 0, 0], placed_k0_off3_11_3 i⟩
local instance (priority := high) placed_k0_off3_11_4_A (i : grid0.Coords) : ClosedOff (k0_off3 i 11#32 4#32) := ⟨![13, 0, 0], placed_k0_off3_11_4 i⟩
local instance (priority := high) placed_k0_off3_12_0_A (i : grid0.Coords) : ClosedOff (k0_off3 i 12#32 0#32) := ⟨![10, 0, 0], placed_k0_off3_12_0 i⟩
local instance (priority := high) placed_k0_off3_12_1_A (i : grid0.Coords) : ClosedOff (k0_off3 i 12#32 1#32) := ⟨![11, 0, 0], placed_k0_off3_12_1 i⟩
local instance (priority := high) placed_k0_off3_12_2_A (i : grid0.Coords) : ClosedOff (k0_off3 i 12#32 2#32) := ⟨![12, 0, 0], placed_k0_off3_12_2 i⟩
local instance (priority := high) placed_k0_off3_12_3_A (i : grid0.Coords) : ClosedOff (k0_off3 i 12#32 3#32) := ⟨![13, 0, 0], placed_k0_off3_12_3 i⟩
local instance (priority := high) placed_k0_off3_12_4_A (i : grid0.Coords) : ClosedOff (k0_off3 i 12#32 4#32) := ⟨![14, 0, 0], placed_k0_off3_12_4 i⟩
local instance (priority := high) placed_k0_off3_13_0_A (i : grid0.Coords) : ClosedOff (k0_off3 i 13#32 0#32) := ⟨![11, 0, 0], placed_k0_off3_13_0 i⟩
local instance (priority := high) placed_k0_off3_13_1_A (i : grid0.Coords) : ClosedOff (k0_off3 i 13#32 1#32) := ⟨![12, 0, 0], placed_k0_off3_13_1 i⟩
local instance (priority := high) placed_k0_off3_13_2_A (i : grid0.Coords) : ClosedOff (k0_off3 i 13#32 2#32) := ⟨![13, 0, 0], placed_k0_off3_13_2 i⟩
local instance (priority := high) placed_k0_off3_13_3_A (i : grid0.Coords) : ClosedOff (k0_off3 i 13#32 3#32) := ⟨![14, 0, 0], placed_k0_off3_13_3 i⟩
local instance (priority := high) placed_k0_off3_13_4_A (i : grid0.Coords) : ClosedOff (k0_off3 i 13#32 4#32) := ⟨![15, 0, 0], placed_k0_off3_13_4 i⟩
local instance (priority := high) placed_k0_off3_14_0_A (i : grid0.Coords) : ClosedOff (k0_off3 i 14#32 0#32) := ⟨![12, 0, 0], placed_k0_off3_14_0 i⟩
local instance (priority := high) placed_k0_off3_14_1_A (i : grid0.Coords) : ClosedOff (k0_off3 i 14#32 1#32) := ⟨![13, 0, 0], placed_k0_off3_14_1 i⟩
local instance (priority := high) placed_k0_off3_14_2_A (i : grid0.Coords) : ClosedOff (k0_off3 i 14#32 2#32) := ⟨![14, 0, 0], placed_k0_off3_14_2 i⟩
local instance (priority := high) placed_k0_off3_14_3_A (i : grid0.Coords) : ClosedOff (k0_off3 i 14#32 3#32) := ⟨![15, 0, 0], placed_k0_off3_14_3 i⟩
local instance (priority := high) placed_k0_off3_14_4_A (i : grid0.Coords) : ClosedOff (k0_off3 i 14#32 4#32) := ⟨![16, 0, 0], placed_k0_off3_14_4 i⟩
local instance (priority := high) placed_k0_off3_15_0_A (i : grid0.Coords) : ClosedOff (k0_off3 i 15#32 0#32) := ⟨![13, 0, 0], placed_k0_off3_15_0 i⟩
local instance (priority := high) placed_k0_off3_15_1_A (i : grid0.Coords) : ClosedOff (k0_off3 i 15#32 1#32) := ⟨![14, 0, 0], placed_k0_off3_15_1 i⟩
local instance (priority := high) placed_k0_off3_15_2_A (i : grid0.Coords) : ClosedOff (k0_off3 i 15#32 2#32) := ⟨![15, 0, 0], placed_k0_off3_15_2 i⟩
local instance (priority := high) placed_k0_off3_15_3_A (i : grid0.Coords) : ClosedOff (k0_off3 i 15#32 3#32) := ⟨![16, 0, 0], placed_k0_off3_15_3 i⟩
local instance (priority := high) placed_k0_off3_15_4_A (i : grid0.Coords) : ClosedOff (k0_off3 i 15#32 4#32) := ⟨![17, 0, 0], placed_k0_off3_15_4 i⟩
local instance (priority := high) placed_k0_off3_16_0_A (i : grid0.Coords) : ClosedOff (k0_off3 i 16#32 0#32) := ⟨![14, 0, 0], placed_k0_off3_16_0 i⟩
local instance (priority := high) placed_k0_off3_16_1_A (i : grid0.Coords) : ClosedOff (k0_off3 i 16#32 1#32) := ⟨![15, 0, 0], placed_k0_off3_16_1 i⟩
local instance (priority := high) placed_k0_off3_16_2_A (i : grid0.Coords) : ClosedOff (k0_off3 i 16#32 2#32) := ⟨![16, 0, 0], placed_k0_off3_16_2 i⟩
local instance (priority := high) placed_k0_off3_16_3_A (i : grid0.Coords) : ClosedOff (k0_off3 i 16#32 3#32) := ⟨![17, 0, 0], placed_k0_off3_16_3 i⟩
local instance (priority := high) placed_k0_off3_16_4_A (i : grid0.Coords) : ClosedOff (k0_off3 i 16#32 4#32) := ⟨![18, 0, 0], placed_k0_off3_16_4 i⟩
local instance (priority := high) placed_k0_off3_17_0_A (i : grid0.Coords) : ClosedOff (k0_off3 i 17#32 0#32) := ⟨![15, 0, 0], placed_k0_off3_17_0 i⟩
local instance (priority := high) placed_k0_off3_17_1_A (i : grid0.Coords) : ClosedOff (k0_off3 i 17#32 1#32) := ⟨![16, 0, 0], placed_k0_off3_17_1 i⟩
local instance (priority := high) placed_k0_off3_17_2_A (i : grid0.Coords) : ClosedOff (k0_off3 i 17#32 2#32) := ⟨![17, 0, 0], placed_k0_off3_17_2 i⟩
local instance (priority := high) placed_k0_off3_17_3_A (i : grid0.Coords) : ClosedOff (k0_off3 i 17#32 3#32) := ⟨![18, 0, 0], placed_k0_off3_17_3 i⟩
local instance (priority := high) placed_k0_off3_17_4_A (i : grid0.Coords) : ClosedOff (k0_off3 i 17#32 4#32) := ⟨![19, 0, 0], placed_k0_off3_17_4 i⟩
local instance (priority := high) placed_k0_off3_18_0_A (i : grid0.Coords) : ClosedOff (k0_off3 i 18#32 0#32) := ⟨![16, 0, 0], placed_k0_off3_18_0 i⟩
local instance (priority := high) placed_k0_off3_18_1_A (i : grid0.Coords) : ClosedOff (k0_off3 i 18#32 1#32) := ⟨![17, 0, 0], placed_k0_off3_18_1 i⟩
local instance (priority := high) placed_k0_off3_18_2_A (i : grid0.Coords) : ClosedOff (k0_off3 i 18#32 2#32) := ⟨![18, 0, 0], placed_k0_off3_18_2 i⟩
local instance (priority := high) placed_k0_off3_18_3_A (i : grid0.Coords) : ClosedOff (k0_off3 i 18#32 3#32) := ⟨![19, 0, 0], placed_k0_off3_18_3 i⟩
local instance (priority := high) placed_k0_off3_18_4_A (i : grid0.Coords) : ClosedOff (k0_off3 i 18#32 4#32) := ⟨![20, 0, 0], placed_k0_off3_18_4 i⟩
local instance (priority := high) placed_k0_off3_19_0_A (i : grid0.Coords) : ClosedOff (k0_off3 i 19#32 0#32) := ⟨![17, 0, 0], placed_k0_off3_19_0 i⟩
local instance (priority := high) placed_k0_off3_19_1_A (i : grid0.Coords) : ClosedOff (k0_off3 i 19#32 1#32) := ⟨![18, 0, 0], placed_k0_off3_19_1 i⟩
local instance (priority := high) placed_k0_off3_19_2_A (i : grid0.Coords) : ClosedOff (k0_off3 i 19#32 2#32) := ⟨![19, 0, 0], placed_k0_off3_19_2 i⟩
local instance (priority := high) placed_k0_off3_19_3_A (i : grid0.Coords) : ClosedOff (k0_off3 i 19#32 3#32) := ⟨![20, 0, 0], placed_k0_off3_19_3 i⟩
local instance (priority := high) placed_k0_off3_19_4_A (i : grid0.Coords) : ClosedOff (k0_off3 i 19#32 4#32) := ⟨![21, 0, 0], placed_k0_off3_19_4 i⟩
local instance (priority := high) placed_k0_off3_20_0_A (i : grid0.Coords) : ClosedOff (k0_off3 i 20#32 0#32) := ⟨![18, 0, 0], placed_k0_off3_20_0 i⟩
local instance (priority := high) placed_k0_off3_20_1_A (i : grid0.Coords) : ClosedOff (k0_off3 i 20#32 1#32) := ⟨![19, 0, 0], placed_k0_off3_20_1 i⟩
local instance (priority := high) placed_k0_off3_20_2_A (i : grid0.Coords) : ClosedOff (k0_off3 i 20#32 2#32) := ⟨![20, 0, 0], placed_k0_off3_20_2 i⟩
local instance (priority := high) placed_k0_off3_20_3_A (i : grid0.Coords) : ClosedOff (k0_off3 i 20#32 3#32) := ⟨![21, 0, 0], placed_k0_off3_20_3 i⟩
local instance (priority := high) placed_k0_off3_20_4_A (i : grid0.Coords) : ClosedOff (k0_off3 i 20#32 4#32) := ⟨![22, 0, 0], placed_k0_off3_20_4 i⟩
local instance (priority := high) placed_k0_off3_21_0_A (i : grid0.Coords) : ClosedOff (k0_off3 i 21#32 0#32) := ⟨![19, 0, 0], placed_k0_off3_21_0 i⟩
local instance (priority := high) placed_k0_off3_21_1_A (i : grid0.Coords) : ClosedOff (k0_off3 i 21#32 1#32) := ⟨![20, 0, 0], placed_k0_off3_21_1 i⟩
local instance (priority := high) placed_k0_off3_21_2_A (i : grid0.Coords) : ClosedOff (k0_off3 i 21#32 2#32) := ⟨![21, 0, 0], placed_k0_off3_21_2 i⟩
local instance (priority := high) placed_k0_off3_21_3_A (i : grid0.Coords) : ClosedOff (k0_off3 i 21#32 3#32) := ⟨![22, 0, 0], placed_k0_off3_21_3 i⟩
local instance (priority := high) placed_k0_off3_21_4_A (i : grid0.Coords) : ClosedOff (k0_off3 i 21#32 4#32) := ⟨![23, 0, 0], placed_k0_off3_21_4 i⟩
local instance (priority := high) placed_k0_off3_22_0_A (i : grid0.Coords) : ClosedOff (k0_off3 i 22#32 0#32) := ⟨![20, 0, 0], placed_k0_off3_22_0 i⟩
local instance (priority := high) placed_k0_off3_22_1_A (i : grid0.Coords) : ClosedOff (k0_off3 i 22#32 1#32) := ⟨![21, 0, 0], placed_k0_off3_22_1 i⟩
local instance (priority := high) placed_k0_off3_22_2_A (i : grid0.Coords) : ClosedOff (k0_off3 i 22#32 2#32) := ⟨![22, 0, 0], placed_k0_off3_22_2 i⟩
local instance (priority := high) placed_k0_off3_22_3_A (i : grid0.Coords) : ClosedOff (k0_off3 i 22#32 3#32) := ⟨![23, 0, 0], placed_k0_off3_22_3 i⟩
local instance (priority := high) placed_k0_off3_22_4_A (i : grid0.Coords) : ClosedOff (k0_off3 i 22#32 4#32) := ⟨![24, 0, 0], placed_k0_off3_22_4 i⟩
local instance (priority := high) placed_k0_off3_23_0_A (i : grid0.Coords) : ClosedOff (k0_off3 i 23#32 0#32) := ⟨![21, 0, 0], placed_k0_off3_23_0 i⟩
local instance (priority := high) placed_k0_off3_23_1_A (i : grid0.Coords) : ClosedOff (k0_off3 i 23#32 1#32) := ⟨![22, 0, 0], placed_k0_off3_23_1 i⟩
local instance (priority := high) placed_k0_off3_23_2_A (i : grid0.Coords) : ClosedOff (k0_off3 i 23#32 2#32) := ⟨![23, 0, 0], placed_k0_off3_23_2 i⟩
local instance (priority := high) placed_k0_off3_23_3_A (i : grid0.Coords) : ClosedOff (k0_off3 i 23#32 3#32) := ⟨![24, 0, 0], placed_k0_off3_23_3 i⟩
local instance (priority := high) placed_k0_off3_23_4_A (i : grid0.Coords) : ClosedOff (k0_off3 i 23#32 4#32) := ⟨![25, 0, 0], placed_k0_off3_23_4 i⟩
local instance (priority := high) placed_k0_off3_24_0_A (i : grid0.Coords) : ClosedOff (k0_off3 i 24#32 0#32) := ⟨![22, 0, 0], placed_k0_off3_24_0 i⟩
local instance (priority := high) placed_k0_off3_24_1_A (i : grid0.Coords) : ClosedOff (k0_off3 i 24#32 1#32) := ⟨![23, 0, 0], placed_k0_off3_24_1 i⟩
local instance (priority := high) placed_k0_off3_24_2_A (i : grid0.Coords) : ClosedOff (k0_off3 i 24#32 2#32) := ⟨![24, 0, 0], placed_k0_off3_24_2 i⟩
local instance (priority := high) placed_k0_off3_24_3_A (i : grid0.Coords) : ClosedOff (k0_off3 i 24#32 3#32) := ⟨![25, 0, 0], placed_k0_off3_24_3 i⟩
local instance (priority := high) placed_k0_off3_24_4_A (i : grid0.Coords) : ClosedOff (k0_off3 i 24#32 4#32) := ⟨![26, 0, 0], placed_k0_off3_24_4 i⟩
local instance (priority := high) placed_k0_off3_25_0_A (i : grid0.Coords) : ClosedOff (k0_off3 i 25#32 0#32) := ⟨![23, 0, 0], placed_k0_off3_25_0 i⟩
local instance (priority := high) placed_k0_off3_25_1_A (i : grid0.Coords) : ClosedOff (k0_off3 i 25#32 1#32) := ⟨![24, 0, 0], placed_k0_off3_25_1 i⟩
local instance (priority := high) placed_k0_off3_25_2_A (i : grid0.Coords) : ClosedOff (k0_off3 i 25#32 2#32) := ⟨![25, 0, 0], placed_k0_off3_25_2 i⟩
local instance (priority := high) placed_k0_off3_25_3_A (i : grid0.Coords) : ClosedOff (k0_off3 i 25#32 3#32) := ⟨![26, 0, 0], placed_k0_off3_25_3 i⟩
local instance (priority := high) placed_k0_off3_25_4_A (i : grid0.Coords) : ClosedOff (k0_off3 i 25#32 4#32) := ⟨![27, 0, 0], placed_k0_off3_25_4 i⟩
local instance (priority := high) placed_k0_off3_26_0_A (i : grid0.Coords) : ClosedOff (k0_off3 i 26#32 0#32) := ⟨![24, 0, 0], placed_k0_off3_26_0 i⟩
local instance (priority := high) placed_k0_off3_26_1_A (i : grid0.Coords) : ClosedOff (k0_off3 i 26#32 1#32) := ⟨![25, 0, 0], placed_k0_off3_26_1 i⟩
local instance (priority := high) placed_k0_off3_26_2_A (i : grid0.Coords) : ClosedOff (k0_off3 i 26#32 2#32) := ⟨![26, 0, 0], placed_k0_off3_26_2 i⟩
local instance (priority := high) placed_k0_off3_26_3_A (i : grid0.Coords) : ClosedOff (k0_off3 i 26#32 3#32) := ⟨![27, 0, 0], placed_k0_off3_26_3 i⟩
local instance (priority := high) placed_k0_off3_26_4_A (i : grid0.Coords) : ClosedOff (k0_off3 i 26#32 4#32) := ⟨![28, 0, 0], placed_k0_off3_26_4 i⟩
local instance (priority := high) placed_k0_off3_27_0_A (i : grid0.Coords) : ClosedOff (k0_off3 i 27#32 0#32) := ⟨![25, 0, 0], placed_k0_off3_27_0 i⟩
local instance (priority := high) placed_k0_off3_27_1_A (i : grid0.Coords) : ClosedOff (k0_off3 i 27#32 1#32) := ⟨![26, 0, 0], placed_k0_off3_27_1 i⟩
local instance (priority := high) placed_k0_off3_27_2_A (i : grid0.Coords) : ClosedOff (k0_off3 i 27#32 2#32) := ⟨![27, 0, 0], placed_k0_off3_27_2 i⟩
local instance (priority := high) placed_k0_off3_27_3_A (i : grid0.Coords) : ClosedOff (k0_off3 i 27#32 3#32) := ⟨![28, 0, 0], placed_k0_off3_27_3 i⟩
local instance (priority := high) placed_k0_off3_27_4_A (i : grid0.Coords) : ClosedOff (k0_off3 i 27#32 4#32) := ⟨![29, 0, 0], placed_k0_off3_27_4 i⟩
local instance (priority := high) placed_k0_off3_28_0_A (i : grid0.Coords) : ClosedOff (k0_off3 i 28#32 0#32) := ⟨![26, 0, 0], placed_k0_off3_28_0 i⟩
local instance (priority := high) placed_k0_off3_28_1_A (i : grid0.Coords) : ClosedOff (k0_off3 i 28#32 1#32) := ⟨![27, 0, 0], placed_k0_off3_28_1 i⟩
local instance (priority := high) placed_k0_off3_28_2_A (i : grid0.Coords) : ClosedOff (k0_off3 i 28#32 2#32) := ⟨![28, 0, 0], placed_k0_off3_28_2 i⟩
local instance (priority := high) placed_k0_off3_28_3_A (i : grid0.Coords) : ClosedOff (k0_off3 i 28#32 3#32) := ⟨![29, 0, 0], placed_k0_off3_28_3 i⟩
local instance (priority := high) placed_k0_off3_28_4_A (i : grid0.Coords) : ClosedOff (k0_off3 i 28#32 4#32) := ⟨![30, 0, 0], placed_k0_off3_28_4 i⟩
local instance (priority := high) placed_k0_off3_29_0_A (i : grid0.Coords) : ClosedOff (k0_off3 i 29#32 0#32) := ⟨![27, 0, 0], placed_k0_off3_29_0 i⟩
local instance (priority := high) placed_k0_off3_29_1_A (i : grid0.Coords) : ClosedOff (k0_off3 i 29#32 1#32) := ⟨![28, 0, 0], placed_k0_off3_29_1 i⟩
local instance (priority := high) placed_k0_off3_29_2_A (i : grid0.Coords) : ClosedOff (k0_off3 i 29#32 2#32) := ⟨![29, 0, 0], placed_k0_off3_29_2 i⟩
local instance (priority := high) placed_k0_off3_29_3_A (i : grid0.Coords) : ClosedOff (k0_off3 i 29#32 3#32) := ⟨![30, 0, 0], placed_k0_off3_29_3 i⟩
local instance (priority := high) placed_k0_off3_29_4_A (i : grid0.Coords) : ClosedOff (k0_off3 i 29#32 4#32) := ⟨![31, 0, 0], placed_k0_off3_29_4 i⟩
local instance (priority := high) placed_k0_off3_30_0_A (i : grid0.Coords) : ClosedOff (k0_off3 i 30#32 0#32) := ⟨![27, 0, 0], placed_k0_off3_30_0 i⟩
local instance (priority := high) placed_k0_off3_30_1_A (i : grid0.Coords) : ClosedOff (k0_off3 i 30#32 1#32) := ⟨![28, 0, 0], placed_k0_off3_30_1 i⟩
local instance (priority := high) placed_k0_off3_30_2_A (i : grid0.Coords) : ClosedOff (k0_off3 i 30#32 2#32) := ⟨![29, 0, 0], placed_k0_off3_30_2 i⟩
local instance (priority := high) placed_k0_off3_30_3_A (i : grid0.Coords) : ClosedOff (k0_off3 i 30#32 3#32) := ⟨![30, 0, 0], placed_k0_off3_30_3 i⟩
local instance (priority := high) placed_k0_off3_30_4_A (i : grid0.Coords) : ClosedOff (k0_off3 i 30#32 4#32) := ⟨![31, 0, 0], placed_k0_off3_30_4 i⟩
local instance (priority := high) placed_k0_off3_31_0_A (i : grid0.Coords) : ClosedOff (k0_off3 i 31#32 0#32) := ⟨![27, 0, 0], placed_k0_off3_31_0 i⟩
local instance (priority := high) placed_k0_off3_31_1_A (i : grid0.Coords) : ClosedOff (k0_off3 i 31#32 1#32) := ⟨![28, 0, 0], placed_k0_off3_31_1 i⟩
local instance (priority := high) placed_k0_off3_31_2_A (i : grid0.Coords) : ClosedOff (k0_off3 i 31#32 2#32) := ⟨![29, 0, 0], placed_k0_off3_31_2 i⟩
local instance (priority := high) placed_k0_off3_31_3_A (i : grid0.Coords) : ClosedOff (k0_off3 i 31#32 3#32) := ⟨![30, 0, 0], placed_k0_off3_31_3 i⟩
local instance (priority := high) placed_k0_off3_31_4_A (i : grid0.Coords) : ClosedOff (k0_off3 i 31#32 4#32) := ⟨![31, 0, 0], placed_k0_off3_31_4 i⟩

set_option maxHeartbeats 10932000 in set_option sl_exec.closedPieces true in
noncomputable def kernelRun0_A (c : Dev nD) (i : grid0.Coords) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x4096x128 .bf16) (harg8 : arg8.IsWhole) (arg9 : Memref sig .tc .vmem S1x5x640x256 .f32) (harg9 : arg9.IsWhole) (arg10 : Memref sig .tc .vmem S1x4096x128 .bf16) (harg10 : arg10.IsWhole) (arg11 : Memref sig .tc .vmem S32x128x128 .bf16) (harg11 : arg11.IsWhole) (arg12 : Memref sig .tc .vmem S2x128x128 .bf16) (harg12 : arg12.IsWhole) (arg13 : Memref sig .tc .vmem S896x256 .f32) (harg13 : arg13.IsWhole) (arg14 : Memref sig .tc .vmem S896x256 .f32) (harg14 : arg14.IsWhole) (arg15 : Memref sig .tc .vmem S896x256 .bf16) (harg15 : arg15.IsWhole) (arg16 : Memref sig .tc .vmem S896x256 .bf16) (harg16 : arg16.IsWhole) (hc0 : cond0_0 i)
    (x0 : Vec F S1x4096x128 .bf16) (x1 : Vec F S1x4096x128 .bf16) (x2 : Vec F S1x4096x128 .bf16) (x3 : Vec F S1x256x128 .bf16) (x4 : Vec F S1x256x128 .bf16) (x5 : Vec F S1x4096x128 .bf16) (x6 : Vec F S1x5x640x256 .f32) :
    Σ' (L7 : List (View.Piece (Elt F) S1x4096x128 .bf16)), Σ' (LT0 : List (View.Piece (Elt F) S32x128x128 .bf16)), Σ' (LT1 : List (View.Piece (Elt F) S2x128x128 .bf16)), Σ' (LT2 : List (View.Piece (Elt F) S896x256 .f32)), Σ' (LT3 : List (View.Piece (Elt F) S896x256 .f32)), Σ' (LT4 : List (View.Piece (Elt F) S896x256 .bf16)), { LT5 : List (View.Piece (Elt F) S896x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LT0) ∗ (∃ f, arg12.view.loc (c : Thread nD τ) ↦[arg12.view.set]{fullShare} arg12.view.writes (Elt F) f LT1) ∗ (∃ f, arg13.view.loc (c : Thread nD τ) ↦[arg13.view.set]{fullShare} arg13.view.writes (Elt F) f LT2) ∗ (∃ f, arg14.view.loc (c : Thread nD τ) ↦[arg14.view.set]{fullShare} arg14.view.writes (Elt F) f LT3) ∗ (∃ f, arg15.view.loc (c : Thread nD τ) ↦[arg15.view.set]{fullShare} arg15.view.writes (Elt F) f LT4) ∗ (∃ f, arg16.view.loc (c : Thread nD τ) ↦[arg16.view.set]{fullShare} arg16.view.writes (Elt F) f LT5)) -∗ K ⟨⟩))
          ⊢ wp frame (wpE (defs₀ (F := F)) Variants.none c none) E (cc0_na_attention i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, fun E K => ?run⟩
  case run =>
    simp only [cc0_na_attention_eq_skeleton]; unfold cc0_na_attention_skel
    simp only [k0_part118_eq_skeleton, k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part119_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.Kernel.Gen

end
-- ==== Proof.KernelFrame.lean ====
/-
  The frame of the program as it runs.
-/
module

public import proofs.«01_k».proof.Proof.KernelRunA
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem cover0_A_7 (c : Dev nD) (i : grid0.Coords) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x4096x128 .bf16) (harg8 : arg8.IsWhole) (arg9 : Memref sig .tc .vmem S1x5x640x256 .f32) (harg9 : arg9.IsWhole) (arg10 : Memref sig .tc .vmem S1x4096x128 .bf16) (harg10 : arg10.IsWhole) (arg11 : Memref sig .tc .vmem S32x128x128 .bf16) (harg11 : arg11.IsWhole) (arg12 : Memref sig .tc .vmem S2x128x128 .bf16) (harg12 : arg12.IsWhole) (arg13 : Memref sig .tc .vmem S896x256 .f32) (harg13 : arg13.IsWhole) (arg14 : Memref sig .tc .vmem S896x256 .f32) (harg14 : arg14.IsWhole) (arg15 : Memref sig .tc .vmem S896x256 .bf16) (harg15 : arg15.IsWhole) (arg16 : Memref sig .tc .vmem S896x256 .bf16) (harg16 : arg16.IsWhole) (hc0 : cond0_0 i)
    (x0 : Vec F S1x4096x128 .bf16) (x1 : Vec F S1x4096x128 .bf16) (x2 : Vec F S1x4096x128 .bf16) (x3 : Vec F S1x256x128 .bf16) (x4 : Vec F S1x256x128 .bf16) (x5 : Vec F S1x4096x128 .bf16) (x6 : Vec F S1x5x640x256 .f32) (y : S1x4096x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6).1 S1x128x128.size (by sl_kernel_rfl) y

def out0_A_7 (c : Dev nD) (i : grid0.Coords) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x4096x128 .bf16) (harg8 : arg8.IsWhole) (arg9 : Memref sig .tc .vmem S1x5x640x256 .f32) (harg9 : arg9.IsWhole) (arg10 : Memref sig .tc .vmem S1x4096x128 .bf16) (harg10 : arg10.IsWhole) (arg11 : Memref sig .tc .vmem S32x128x128 .bf16) (harg11 : arg11.IsWhole) (arg12 : Memref sig .tc .vmem S2x128x128 .bf16) (harg12 : arg12.IsWhole) (arg13 : Memref sig .tc .vmem S896x256 .f32) (harg13 : arg13.IsWhole) (arg14 : Memref sig .tc .vmem S896x256 .f32) (harg14 : arg14.IsWhole) (arg15 : Memref sig .tc .vmem S896x256 .bf16) (harg15 : arg15.IsWhole) (arg16 : Memref sig .tc .vmem S896x256 .bf16) (harg16 : arg16.IsWhole) (hc0 : cond0_0 i)
    (x0 : Vec F S1x4096x128 .bf16) (x1 : Vec F S1x4096x128 .bf16) (x2 : Vec F S1x4096x128 .bf16) (x3 : Vec F S1x256x128 .bf16) (x4 : Vec F S1x256x128 .bf16) (x5 : Vec F S1x4096x128 .bf16) (x6 : Vec F S1x5x640x256 .f32) : Vec F S1x4096x128 .bf16 :=
  VO0_7.read (Elt F) (VO0_7.writes (Elt F) VO0_7.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6).1)

def outsAt0 (c : Dev nD) (t : Fin cfg0.N) : Vec F S1x4096x128 .bf16 :=
  out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (hcond0_0 t) (iblk m c 0 t) (iblk m c 1 t) (iblk m c 2 t) (iblk m c 3 t) (iblk m c 4 t) (iblk m c 5 t) (iblk m c 6 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 1200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  unfold outsAt0
  unfold out0_A_7
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ _ _ _ _ _ _ _ _ (hcond0_0 t) (iblk m c 0 t) (iblk m c 1 t) (iblk m c 2 t) (iblk m c 3 t) (iblk m c 4 t) (iblk m c 5 t) (iblk m c 6 t)).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, ⟨%e7, H7⟩, ⟨%fT0, HS0⟩, ⟨%fT1, HS1⟩, ⟨%fT2, HS2⟩, ⟨%fT3, HS3⟩, ⟨%fT4, HS4⟩, ⟨%fT5, HS5⟩⟩
  isplitl [HS0 HS1 HS2 HS3 HS4 HS5 Hg]
  · isplitl [HS0 HS1 HS2 HS3 HS4 HS5]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      iexists _; unfold owns; iexists _; isplitr
      swap; · iexact HS5
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover0_A_7 c _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Gen

end
-- ==== Proof.Softmax.lean ====
/-
  Softmax sums over the extended reals: a base-two softmax over many keys, all but some of which are masked with minus
  infinity, against the base-e softmax over the keys that are left; and the two spellings of the logistic function.
-/
module

public import Idealize.ShloMosaic.PureOps.Ideal

@[expose] public section

noncomputable section

namespace Cert.Attn

open Idealize.ShloMosaic

/-- A finite positive factor goes through a sum of two extended reals. -/
theorem pos_mul_add {c : ℝ} (hc : 0 < c) (a b : EReal) : (c : EReal) * (a + b) = c * a + c * b := by
  induction a with
  | bot => simp [EReal.coe_mul_bot_of_pos hc]
  | top =>
    induction b with
    | bot => simp [EReal.coe_mul_bot_of_pos hc]
    | top => simp [EReal.coe_mul_top_of_pos hc]
    | coe b =>
      rw [EReal.top_add_coe, EReal.coe_mul_top_of_pos hc, ← EReal.coe_mul, EReal.top_add_coe]
  | coe a =>
    induction b with
    | bot => simp [EReal.coe_mul_bot_of_pos hc]
    | top => rw [EReal.coe_add_top, EReal.coe_mul_top_of_pos hc, ← EReal.coe_mul, EReal.coe_add_top]
    | coe b => norm_cast; ring_nf

/-- A finite positive factor goes through a finite sum of extended reals. -/
theorem pos_mul_sum {c : ℝ} (hc : 0 < c) {ι : Type*} (s : Finset ι) (f : ι → EReal) :
    (c : EReal) * ∑ i ∈ s, f i = ∑ i ∈ s, c * f i := by
  classical
  induction s using Finset.induction_on with
  | empty => simp
  | insert a s ha ih => rw [Finset.sum_insert ha, Finset.sum_insert ha, pos_mul_add hc, ih]

/-- A finite positive factor is monotone, so it goes through a supremum of finitely many extended reals. -/
theorem pos_mul_sub {c : ℝ} (hc : 0 < c) (a b : EReal) : (c : EReal) * (a - b) = c * a - c * b := by
  rw [sub_eq_add_neg, pos_mul_add hc, sub_eq_add_neg, mul_neg]

/-- `e ^ (log 2 · x)` is `2 ^ x`. -/
theorem exp_log_two_mul (x : EReal) : Ideal.exp ((Real.log 2 : ℝ) * x) = Ideal.exp2 x := by
  have h2 : 0 < Real.log 2 := Real.log_pos (by norm_num)
  induction x with
  | bot => rw [EReal.coe_mul_bot_of_pos h2]; rfl
  | top => rw [EReal.coe_mul_top_of_pos h2]; rfl
  | coe x =>
    rw [← EReal.coe_mul, Ideal.exp_coe, Ideal.exp2_coe]
    congr 1
    exact (Real.rpow_def_of_pos (by norm_num) x).symm

theorem exp2_nonneg (x : EReal) : 0 ≤ Ideal.exp2 x := by
  induction x with
  | bot => exact le_rfl
  | top => exact le_top
  | coe x => rw [Ideal.exp2_coe]; exact EReal.coe_nonneg.2 (Real.rpow_nonneg (by norm_num) x)

/-- `2 ^ x` is at most one where `x` is not positive. -/
theorem exp2_le_one {x : EReal} (h : x ≤ 0) : Ideal.exp2 x ≤ 1 := by
  induction x with
  | bot => exact zero_le_one
  | top => exact absurd h (by simp)
  | coe x =>
    rw [Ideal.exp2_coe]
    have : x ≤ 0 := by exact_mod_cast h
    exact_mod_cast Real.rpow_le_one_of_one_le_of_nonpos (by norm_num) this

theorem exp2_bot_sub (x : EReal) : Ideal.exp2 (⊥ - x) = 0 := by
  rw [EReal.bot_sub]; rfl

/-- A score minus a bound of it is not positive (also where both are infinite). -/
theorem sub_nonpos_of_le {a b : EReal} (h : a ≤ b) : a - b ≤ 0 := by
  induction b with
  | bot => rw [le_bot_iff.1 h]; simp
  | top => simp
  | coe b =>
    induction a with
    | bot => simp
    | top => exact absurd h (by simp)
    | coe a => norm_cast at h ⊢; linarith

/-- Numbers between zero and one sum to a finite number. -/
theorem sum_eq_coe {ι : Type*} [Fintype ι] (e : ι → EReal) (h0 : ∀ i, 0 ≤ e i) (h1 : ∀ i, e i ≤ 1) :
    ∃ r : ℝ, 0 ≤ r ∧ ∑ i, e i = (r : EReal) := by
  have hc : ∀ i, e i = ((e i).toReal : EReal) := fun i =>
    (EReal.coe_toReal (ne_of_lt (lt_of_le_of_lt (h1 i) (EReal.coe_lt_top 1))) (ne_of_gt (lt_of_lt_of_le EReal.bot_lt_zero (h0 i)))).symm
  refine ⟨∑ i, (e i).toReal, Finset.sum_nonneg fun i _ => EReal.toReal_nonneg (h0 i), ?_⟩
  rw [Finset.sum_congr rfl fun i _ => hc i]
  exact (map_sum (⟨⟨((↑) : ℝ → EReal), EReal.coe_zero⟩, EReal.coe_add⟩ : ℝ →+ EReal) (fun i => (e i).toReal) Finset.univ).symm

/-- A factor that is finite, zero or more goes through a finite sum of extended reals. -/
theorem nonneg_mul_sum {c : ℝ} (hc : 0 ≤ c) {ι : Type*} (s : Finset ι) (f : ι → EReal) :
    (c : EReal) * ∑ i ∈ s, f i = ∑ i ∈ s, c * f i := by
  rcases hc.eq_or_lt with rfl | hc
  · simp
  · exact pos_mul_sum hc s f

/-- The common factor of a sum of products, one over the sum of the weights, distributed: the weights are between zero and
    one, so their sum is finite; where it is zero they are all zero. -/
theorem weighted_mul_div {ι : Type*} [Fintype ι] (e v : ι → EReal) (h0 : ∀ i, 0 ≤ e i) (h1 : ∀ i, e i ≤ 1) :
    (∑ i, v i * e i) * Ideal.div 1 (∑ i, e i) = ∑ i, v i * (e i * Ideal.div 1 (∑ i, e i)) := by
  obtain ⟨r, hr0, hr⟩ := sum_eq_coe e h0 h1
  rcases hr0.eq_or_lt with rfl | hr0
  · have hz : ∀ i, e i = 0 := by
      have := (Finset.sum_eq_zero_iff_of_nonneg (s := Finset.univ) (f := e) fun i _ => h0 i).1 (by rw [hr]; rfl)
      exact fun i => this i (Finset.mem_univ i)
    simp [hz]
  · have hd : Ideal.div 1 (∑ i, e i) = ((r⁻¹ : ℝ) : EReal) := by
      rw [hr, Ideal.div, if_neg (by exact_mod_cast hr0.ne'), one_mul, EReal.coe_inv]
    rw [hd, mul_comm, pos_mul_sum (inv_pos.2 hr0)]
    refine Finset.sum_congr rfl fun i _ => ?_
    rw [mul_comm, mul_assoc]

/-- THE SOFTMAX LEMMA. `K` keys scored in base two, `J` of them scored in base e; the keys off the image of `J` are
    masked with minus infinity. The base-two sum of weighted values times one over the sum of the weights is the sum of the
    values weighted by the base-e softmax. -/
theorem softmax_eq {K J : Type*} [Fintype K] [Fintype J] (f : J → K) (hf : Function.Injective f)
    (sK vK : K → EReal) (sR vR : J → EReal) (hs : ∀ j, sR j = (Real.log 2 : ℝ) * sK (f j))
    (hbot : ∀ k, (∀ j, f j ≠ k) → sK k = ⊥) (hv : ∀ j, vK (f j) = vR j) :
    (∑ k, vK k * Ideal.exp2 (sK k - Finset.univ.sup sK)) * Ideal.div 1 (∑ k, Ideal.exp2 (sK k - Finset.univ.sup sK))
      = ∑ j, Ideal.exp (sR j - Finset.univ.sup sR) * Ideal.div 1 (∑ j, Ideal.exp (sR j - Finset.univ.sup sR)) * vR j := by
  have h2 : 0 < Real.log 2 := Real.log_pos (by norm_num)
  have hmax : Finset.univ.sup sR = (Real.log 2 : ℝ) * Finset.univ.sup sK := by
    have hsup : Finset.univ.sup sK = Finset.univ.sup (fun j => sK (f j)) := by
      apply le_antisymm
      · refine Finset.sup_le fun k _ => ?_
        by_cases hk : ∃ j, f j = k
        · obtain ⟨j, rfl⟩ := hk
          exact Finset.le_sup (f := fun j => sK (f j)) (Finset.mem_univ j)
        · rw [hbot k fun j h => hk ⟨j, h⟩]; exact bot_le
      · exact Finset.sup_le fun j _ => Finset.le_sup (Finset.mem_univ (f j))
    rw [hsup, show sR = fun j => (Real.log 2 : ℝ) * sK (f j) from funext hs]
    have hm : Monotone fun x : EReal => ((Real.log 2 : ℝ) : EReal) * x := fun a b h =>
      mul_le_mul_of_nonneg_left h (by exact_mod_cast h2.le)
    exact (Finset.comp_sup_eq_sup_comp_of_is_total (fun x : EReal => ((Real.log 2 : ℝ) : EReal) * x) hm
      (EReal.coe_mul_bot_of_pos h2)).symm
  set M := Finset.univ.sup sK with hM
  have he : ∀ j, Ideal.exp (sR j - Finset.univ.sup sR) = Ideal.exp2 (sK (f j) - M) := fun j => by
    rw [hmax, hs, ← pos_mul_sub h2, exp_log_two_mul]
  have hoff : ∀ k, (∀ j, f j ≠ k) → Ideal.exp2 (sK k - M) = 0 := fun k hk => by rw [hbot k hk, exp2_bot_sub]
  have hsum : ∀ g : K → EReal, (∀ k, (∀ j, f j ≠ k) → g k = 0) → ∑ k, g k = ∑ j, g (f j) := fun g hg => by
    classical
    rw [← Finset.sum_image (s := Finset.univ) (g := f) (f := g) fun a _ b _ h => hf h]
    refine (Finset.sum_subset (Finset.subset_univ _) fun k _ hk => hg k fun j h => hk ?_).symm
    exact Finset.mem_image.2 ⟨j, Finset.mem_univ j, h⟩
  rw [hsum (fun k => vK k * Ideal.exp2 (sK k - M)) fun k hk => by simp only [hoff k hk, mul_zero],
    hsum (fun k => Ideal.exp2 (sK k - M)) hoff]
  rw [weighted_mul_div (fun j => Ideal.exp2 (sK (f j) - M)) (fun j => vK (f j)) (fun j => exp2_nonneg _)
    fun j => exp2_le_one (sub_nonpos_of_le (by rw [hM]; exact Finset.le_sup (Finset.mem_univ (f j))))]
  simp only [he, hv]
  exact Finset.sum_congr rfl fun j _ => mul_comm _ _

/-- The logistic function by a hyperbolic tangent and by a quotient, at every extended real. -/
theorem tanh_logistic (x : EReal) :
    ((1 / 2 : ℝ) : EReal) * Ideal.tanh (((1 / 2 : ℝ) : EReal) * x) + ((1 / 2 : ℝ) : EReal) = Ideal.div 1 (1 + Ideal.exp (-x)) := by
  have e : Ideal.div 1 (1 + Ideal.exp (-x)) = Ideal.logistic x := rfl
  rw [e]
  induction x with
  | bot =>
    rw [EReal.coe_mul_bot_of_pos (by norm_num), Ideal.tanh_bot, Ideal.logistic_bot, mul_neg, mul_one, ← EReal.coe_neg, ← EReal.coe_add]
    norm_num
  | top =>
    rw [EReal.coe_mul_top_of_pos (by norm_num), Ideal.tanh_top, Ideal.logistic_top]
    norm_cast
    norm_num
  | coe x =>
    rw [← EReal.coe_mul, Ideal.tanh_coe, Ideal.logistic_coe, ← EReal.coe_mul, ← EReal.coe_add]
    congr 1
    rw [Real.tanh_eq_sinh_div_cosh, Real.sinh_eq, Real.cosh_eq]
    have h1 : Real.exp (-x) = Real.exp (-(1 / 2 * x)) * Real.exp (-(1 / 2 * x)) := by rw [← Real.exp_add]; ring_nf
    have h2 : Real.exp (1 / 2 * x) * Real.exp (-(1 / 2 * x)) = 1 := by rw [← Real.exp_add]; simp
    rw [h1]
    have p := Real.exp_pos (1 / 2 * x)
    have q := Real.exp_pos (-(1 / 2 * x))
    set a := Real.exp (1 / 2 * x)
    set b := Real.exp (-(1 / 2 * x))
    have hb : b = a⁻¹ := by field_simp; linarith
    rw [hb]
    field_simp
    ring

end Cert.Attn
-- ==== Proof.Tile.lean ====
/-
  One tile of the neighbourhood attention as vector expressions: the masked scores of a band of keys and of the context
  against the two heads of a pair, the softmax weights and the reciprocal of their sum, and the gated, weighted values.
-/
module

public import proofs.«01_k».proof.Proof.Gen.KernelIdeal.Skeleton
public import proofs.«01_k».proof.Proof.Softmax
public import Idealize.ShloMosaic.Lib.Pipeline.ValueKit

@[expose] public section

set_option maxRecDepth 16384
set_option synthInstance.maxSize 4096

noncomputable section

namespace Cert.KernelIdeal.Attn

open Idealize.ShloMosaic Idealize.SL.Sem
open Cert.KernelIdeal Cert.KernelIdeal.Gen

section Vectors

variable {F : FTy → Type} [FloatOps F]

/-- The mask of the lanes of the first head of a pair. -/
def lanesV : IVec S128x128 1 := cmpi .slt (iota .tc S128x128 32 [1] iota_S128x128_d1_w32) (broadcast S128x128 64#32)

/-- The queries of a tile, each head's over its own lanes and zero elsewhere, one head below the other. -/
def splitV (q : Vec F S1x128x128 .bf16) : FVec F S256x128 .bf16 :=
  concatenate S256x128 0
    [⟨S128x128, select lanesV (shapeCast S128x128 q shapeCasts_S1x128x128_S128x128) (broadcast S128x128 (Scalar.ofBits .bf16 0x0000#16))⟩,
      ⟨S128x128, select lanesV (broadcast S128x128 (Scalar.ofBits .bf16 0x0000#16)) (shapeCast S128x128 q shapeCasts_S1x128x128_S128x128)⟩]
    concatenates_S128x128_S128x128_S256x128_d0

/-- The scores of the band's and the context's keys, keys down and queries across, without the bias. -/
def dotV (kc : FVec F S256x128 .bf16) (kl : Vec F S1x640x128 .bf16) (q : Vec F S1x128x128 .bf16) : FVec F S896x256 .f32 :=
  matmul dot_S896x128_S256x128_S896x256_1_1_0_0_n_n none
    (concatenate S896x128 0 [⟨S640x128, shapeCast S640x128 kl shapeCasts_S1x640x128_S640x128⟩, ⟨S256x128, kc⟩]
      concatenates_S640x128_S256x128_S896x128_d0) (splitV q) (constant S896x256 .f32 0x00000000#32)

/-- The scores, the bias added to the band's. -/
def scoresV (kc : FVec F S256x128 .bf16) (kl : Vec F S1x640x128 .bf16) (q : Vec F S1x128x128 .bf16)
    (b : Vec F S1x1x640x256 .f32) : FVec F S896x256 .f32 :=
  shapeCast S896x256
    (concatenate S896x256 0
      [⟨S640x256, addf (extractStridedSlice S640x256 ![0, 0] (dotV kc kl q) slices_S896x256_o0_0_S640x256)
          (shapeCast S640x256 b shapeCasts_S1x1x640x256_S640x256)⟩,
        ⟨S256x256, extractStridedSlice S256x256 ![640, 0] (dotV kc kl q) slices_S896x256_o640_0_S256x256⟩]
      concatenates_S640x256_S256x256_S896x256_d0)
    shapeCasts_S896x256_S896x256

/-- The weights before their division. -/
def expV (st : Vec F S896x256 .f32) : FVec F S896x256 .f32 :=
  exp2 (subf st (broadcastTo S896x256
    (shapeCast S1x256 (multiReduction .maximumf [0] S256 st 0xFF800000#32 reduces_S896x256_S256 (.inl rfl) rfl) shapeCasts_S256_S1x256)
    broadcasts_S1x256_S896x256))

/-- The weights as they are stored. -/
def probV (st : Vec F S896x256 .f32) : FVec F S896x256 .bf16 :=
  shapeCast S896x256 (truncf .bf16 (expV st) bitsLt_bf16_f32) shapeCasts_S896x256_S896x256

/-- One over the sum of the weights, a query a column. -/
def invV (st : Vec F S896x256 .f32) : FVec F S1x256 .f32 :=
  divf (broadcast S1x256 (Scalar.ofBits .f32 0x3F800000#32))
    (shapeCast S1x256 (multiReduction .add [0] S256 (expV st) 0x00000000#32 reduces_S896x256_S256 (.inl rfl) rfl) shapeCasts_S256_S1x256)

/-- A tile of transposed values as it is read back. -/
def tileV (t : Vec F S1x128x128 .bf16) : FVec F S128x128 .bf16 := shapeCast S128x128 t shapeCasts_S1x128x128_S128x128

/-- Seven tiles of transposed values side by side. -/
def catV (t0 t1 t2 t3 t4 c0 c1 : FVec F S128x128 .bf16) : FVec F S128x896 .bf16 :=
  concatenate S128x896 1 [⟨S128x128, t0⟩, ⟨S128x128, t1⟩, ⟨S128x128, t2⟩, ⟨S128x128, t3⟩, ⟨S128x128, t4⟩, ⟨S128x128, c0⟩, ⟨S128x128, c1⟩]
    concatenates_S128x128_S128x128_S128x128_S128x128_S128x128_S128x128_S128x128_S128x896_d1

/-- The weighted values of both heads, transposed. -/
def weightedV (vt : FVec F S128x896 .bf16) (p : Vec F S896x256 .bf16) (inv : FVec F S1x256 .f32) : FVec F S128x256 .f32 :=
  mulf (matmul dot_S128x896_S896x256_S128x256_1_0_0_1_n_n none vt p (constant S128x256 .f32 0x00000000#32))
    (broadcastTo S128x256 inv broadcasts_S1x256_S128x256)

/-- `x · (½ tanh (½ x) + ½)`. -/
def siluV (x : FVec F S128x128 .f32) : FVec F S128x128 .f32 :=
  mulf x (addf (mulf (broadcast S128x128 (Scalar.ofBits .f32 0x3F000000#32))
    (tanh (mulf (broadcast S128x128 (Scalar.ofBits .f32 0x3F000000#32)) x))) (broadcast S128x128 (Scalar.ofBits .f32 0x3F000000#32)))

/-- The gate of a tile. -/
def gateV (bg : Vec F S1x128x128 .bf16) : FVec F S128x128 .f32 :=
  siluV (extf .f32 (shapeCast S128x128 bg shapeCasts_S1x128x128_S128x128) bitsLt_bf16_f32)

/-- A tile of the result: each lane from its own head, times the gate. -/
def outV (w : FVec F S128x256 .f32) (bg : Vec F S1x128x128 .bf16) : FVec F S1x128x128 .bf16 :=
  shapeCast S1x128x128
    (truncf .bf16
      (mulf
        (transpose S128x128 [1, 0]
          (select (cmpi .slt (iota .tc S128x128 32 [0] iota_S128x128_d0_w32) (broadcast S128x128 64#32))
            (extractStridedSlice S128x128 ![0, 0] w slices_S128x256_o0_0_S128x128)
            (extractStridedSlice S128x128 ![0, 128] w slices_S128x256_o0_128_S128x128))
          transposes_S128x128_p1_0_S128x128)
        (gateV bg))
      bitsLt_bf16_f32)
    shapeCasts_S128x128_S1x128x128

/-- A tile of values as it is stored, transposed. -/
def transV (t : Vec F S1x128x128 .bf16) : FVec F S1x128x128 .bf16 :=
  shapeCast S1x128x128
    (truncf .bf16 (transpose S128x128 [1, 0] (extf .f32 (shapeCast S128x128 t shapeCasts_S1x128x128_S128x128) bitsLt_bf16_f32)
      transposes_S128x128_p1_0_S128x128) bitsLt_bf16_f32) shapeCasts_S128x128_S1x128x128

end Vectors

/-! ## Their entries over the extended reals -/

/-- The column of a query of the tile for the head that lane `l` is of. -/
def colOf (r l : Fin 128) : Fin 256 := if l.val < 64 then ⟨r.val, by omega⟩ else ⟨128 + r.val, by omega⟩

theorem transV_apply (t : Vec Ideal S1x128x128 .bf16) (r l : Fin 128) : transV t (ix3 (0 : Fin 1) r l) = t (ix3 (0 : Fin 1) l r) := by
  pointwise [transV]

theorem tileV_apply (t : Vec Ideal S1x128x128 .bf16) (r l : Fin 128) : tileV t (ix2 r l) = t (ix3 (0 : Fin 1) r l) := by
  pointwise [tileV]

theorem weightedV_apply (vt : FVec Ideal S128x896 .bf16) (p : Vec Ideal S896x256 .bf16) (inv : FVec Ideal S1x256 .f32)
    (l : Fin 128) (c : Fin 256) :
    weightedV vt p inv (ix2 l c) = (∑ n : Fin 896, vt (ix2 l n) * p (ix2 n c)) * inv (ix2 (0 : Fin 1) c) := by
  pointwise [weightedV, dot_S128x896_S896x256_S128x256_1_0_0_1_n_n]

theorem fold_max_bot {K : Type} [Fintype K] (f : K → EReal) :
    Finset.fold max (Ideal.ofBits FTy.f32 0xFF800000#32) f Finset.univ = Finset.univ.sup f := by
  have h : Ideal.ofBits FTy.f32 0xFF800000#32 = (⊥ : EReal) := by
    simp [Ideal.ofBits, Ideal.ieee]
  rw [h]; rfl

theorem expV_apply (st : Vec Ideal S896x256 .f32) (n : Fin 896) (c : Fin 256) :
    expV st (ix2 n c) = Ideal.exp2 (st (ix2 n c) - Finset.univ.sup fun k : Fin 896 => st (ix2 k c)) := by
  pointwise [expV]
  rw [fold_max_bot]
  rfl

theorem probV_apply (st : Vec Ideal S896x256 .f32) (n : Fin 896) (c : Fin 256) : probV st (ix2 n c) = expV st (ix2 n c) := by
  pointwise [probV]

theorem invV_apply (st : Vec Ideal S896x256 .f32) (c : Fin 256) :
    invV st (ix2 (0 : Fin 1) c) = Ideal.div 1 (∑ n : Fin 896, expV st (ix2 n c)) := by
  pointwise [invV]

theorem gateV_apply (bg : Vec Ideal S1x128x128 .bf16) (r l : Fin 128) :
    gateV bg (ix2 r l) = bg (ix3 (0 : Fin 1) r l) * Ideal.div 1 (1 + Ideal.exp (-(bg (ix3 (0 : Fin 1) r l) : EReal))) := by
  pointwise [gateV, siluV]
  have h : Ideal.ofBits FTy.f32 0x3F000000#32 = ((1 / 2 : ℝ) : EReal) := by
    simp [Ideal.ofBits, Ideal.ieee, -EReal.coe_mul]; norm_num
  rw [h, Cert.Attn.tanh_logistic]

theorem lane_lt : ∀ d : Fin 128, IntOp.cmpi CmpIPredicate.slt (BitVec.ofNat 32 d.val) 64#32 = if d.val < 64 then 1#1 else 0#1 := by
  decide +kernel

theorem outV_apply (w : FVec Ideal S128x256 .f32) (bg : Vec Ideal S1x128x128 .bf16) (r l : Fin 128) :
    outV w bg (ix3 (0 : Fin 1) r l) = w (ix2 l (colOf r l)) * gateV bg (ix2 r l) := by
  by_cases hl : l.val < 64 <;> (pointwise [outV, colOf]; rw [lane_lt l]; simp [Scalar.select, hl])

theorem splitV_apply (q : Vec Ideal S1x128x128 .bf16) (r l d : Fin 128) :
    splitV q (ix2 (colOf r l) d) = if (l.val < 64 ↔ d.val < 64) then q (ix3 (0 : Fin 1) r d) else 0 := by
  by_cases hl : l.val < 64 <;> by_cases hd : d.val < 64 <;>
    (simp only [colOf, hl, if_true, if_false]; pointwise [splitV, lanesV]; rw [lane_lt d]; simp [Scalar.select, hd])

theorem dotV_apply (kc : FVec Ideal S256x128 .bf16) (kl : Vec Ideal S1x640x128 .bf16) (q : Vec Ideal S1x128x128 .bf16)
    (n : Fin 896) (c : Fin 256) :
    dotV kc kl q (ix2 n c) = ∑ d : Fin 128, (if h : n.val < 640 then kl (ix3 (0 : Fin 1) ⟨n.val, h⟩ d) else kc (ix2 ⟨n.val - 640, by omega⟩ d))
      * splitV q (ix2 c d) := by
  pointwise [dotV, dot_S896x128_S256x128_S896x256_1_1_0_0_n_n]

theorem scoresV_apply (kc : FVec Ideal S256x128 .bf16) (kl : Vec Ideal S1x640x128 .bf16) (q : Vec Ideal S1x128x128 .bf16)
    (b : Vec Ideal S1x1x640x256 .f32) (n : Fin 896) (c : Fin 256) :
    scoresV kc kl q b (ix2 n c) = if h : n.val < 640 then dotV kc kl q (ix2 n c) + b (ix4 (0 : Fin 1) (0 : Fin 1) ⟨n.val, h⟩ c)
      else dotV kc kl q (ix2 n c) := by
  pointwise [scoresV]
  by_cases h : n.val < 640
  · simp only [h, dif_pos]
  · have e : (⟨640 + (n.val - 640), by omega⟩ : Fin 896) = n := Fin.ext (by simp only; omega)
    simp only [h, dif_neg, not_false_iff, e]

theorem catV_apply (t0 t1 t2 t3 t4 c0 c1 : FVec Ideal S128x128 .bf16) (l : Fin 128) (n : Fin 896) :
    catV t0 t1 t2 t3 t4 c0 c1 (ix2 l n) = (![t0, t1, t2, t3, t4, c0, c1] ⟨n.val / 128, by omega⟩) (ix2 l ⟨n.val % 128, by omega⟩) := by
  pointwise [catV]
  obtain ⟨a, d, h⟩ : ∃ (a : Fin 7) (d : Fin 128), n = ⟨128 * a.val + d.val, by omega⟩ :=
    ⟨⟨n.val / 128, by omega⟩, ⟨n.val % 128, by omega⟩, Fin.ext (by simp only; omega)⟩
  subst h
  have e : (⟨(128 * a.val + d.val) / 128, by omega⟩ : Fin 7) = a := Fin.ext (by simp only; omega)
  have e' : (⟨(128 * a.val + d.val) % 128, by omega⟩ : Fin 128) = d := Fin.ext (by simp only; omega)
  simp only [e, e']
  have hd := d.isLt
  fin_cases a <;> simp only [] <;> split_ifs <;> first | omega | (refine congrArg _ (congrArg (ix2 l) (Fin.ext ?_)); simp only; omega)

end Cert.KernelIdeal.Attn
-- ==== Proof.Piece.lean ====
/-
  What one tile of the kernel computes, as an entry of its input blocks: the tile's vector expressions over the loads the
  kernel makes for it.
-/
module

public import proofs.«01_k».proof.Proof.Gen.KernelIdeal.Frame
public import proofs.«01_k».proof.Proof.Tile

@[expose] public section

set_option maxRecDepth 16384

noncomputable section

namespace Cert.KernelIdeal.Attn

open Idealize.ShloMosaic Idealize.ShloMosaic.TcCoe Idealize.SL.Sem
open Cert.KernelIdeal Cert.KernelIdeal.Gen

/-- The first of the five tiles of keys a tile of queries reads. -/
def band (s : Fin 32) : ℕ := min (s.val - 2) 27

theorem band_le (s : Fin 32) : band s ≤ 27 := by unfold band; omega

/-- Which of the five bias tables a tile of queries reads. -/
def variant (s : Fin 32) : ℕ := if s.val = 0 then 0 else if s.val = 1 then 1 else if s.val = 30 then 3 else if s.val = 31 then 4 else 2

theorem variant_lt (s : Fin 32) : variant s < 5 := by unfold variant; split_ifs <;> omega

/-- Row `n` of the band of the keys, or of the values, and of the context's after it. -/
def rowOf (x : Vec Ideal S1x4096x128 .bf16) (xc : Vec Ideal S1x256x128 .bf16) (s : Fin 32) (n : Fin 896) (d : Fin 128) : EReal :=
  if h : n.val < 640 then x (ix3 (0 : Fin 1) ⟨128 * band s + n.val, by have := band_le s; omega⟩ d)
  else xc (ix3 (0 : Fin 1) ⟨n.val - 640, by omega⟩ d)

/-- The score of key `n` for query `r` of the tile and the head of lane `l`. -/
def scoreOf (x0 x1 : Vec Ideal S1x4096x128 .bf16) (x3 : Vec Ideal S1x256x128 .bf16) (x6 : Vec Ideal S1x5x640x256 .f32)
    (s : Fin 32) (r l : Fin 128) (n : Fin 896) : EReal :=
  if h : n.val < 640 then
    (∑ d : Fin 128, rowOf x1 x3 s n d * if (l.val < 64 ↔ d.val < 64) then x0 (ix3 (0 : Fin 1) ⟨128 * s.val + r.val, by omega⟩ d) else 0)
      + x6 (ix4 (0 : Fin 1) (⟨variant s, variant_lt s⟩ : Fin 5) (⟨n.val, h⟩ : Fin 640) (colOf r l))
  else ∑ d : Fin 128, rowOf x1 x3 s n d * if (l.val < 64 ↔ d.val < 64) then x0 (ix3 (0 : Fin 1) ⟨128 * s.val + r.val, by omega⟩ d) else 0

/-- The softmax of the scores over the values, times the gate. -/
def outOf (x0 x1 x2 : Vec Ideal S1x4096x128 .bf16) (x3 x4 : Vec Ideal S1x256x128 .bf16) (x5 : Vec Ideal S1x4096x128 .bf16)
    (x6 : Vec Ideal S1x5x640x256 .f32) (s : Fin 32) (r l : Fin 128) : EReal :=
  ((∑ n : Fin 896, rowOf x2 x4 s n l * Ideal.exp2 (scoreOf x0 x1 x3 x6 s r l n - Finset.univ.sup (scoreOf x0 x1 x3 x6 s r l)))
      * Ideal.div 1 (∑ n : Fin 896, Ideal.exp2 (scoreOf x0 x1 x3 x6 s r l n - Finset.univ.sup (scoreOf x0 x1 x3 x6 s r l))))
    * (x5 (ix3 (0 : Fin 1) ⟨128 * s.val + r.val, by omega⟩ l)
        * Ideal.div 1 (1 + Ideal.exp (-(x5 (ix3 (0 : Fin 1) ⟨128 * s.val + r.val, by omega⟩ l) : EReal))))

/-- The tile's entries, given what its loads hold. -/
theorem tile_eq (x0 x1 x2 : Vec Ideal S1x4096x128 .bf16) (x3 x4 : Vec Ideal S1x256x128 .bf16) (x5 : Vec Ideal S1x4096x128 .bf16)
    (x6 : Vec Ideal S1x5x640x256 .f32) (s : Fin 32)
    {kc : FVec Ideal S256x128 .bf16} {kl : Vec Ideal S1x640x128 .bf16} {q : Vec Ideal S1x128x128 .bf16} {b : Vec Ideal S1x1x640x256 .f32}
    {S S' : Vec Ideal S896x256 .f32} {P : Vec Ideal S896x256 .bf16} {t0 t1 t2 t3 t4 t5 t6 bg : Vec Ideal S1x128x128 .bf16}
    (hS : S = scoresV kc kl q b) (hS' : S' = S) (hP : P = probV S)
    (hkc : ∀ n d, kc (ix2 n d) = x3 (ix3 (0 : Fin 1) n d))
    (hkl : ∀ n d, kl (ix3 (0 : Fin 1) n d) = x1 (ix3 (0 : Fin 1) ⟨128 * band s + n.val, by have := band_le s; omega⟩ d))
    (hq : ∀ r d, q (ix3 (0 : Fin 1) r d) = x0 (ix3 (0 : Fin 1) ⟨128 * s.val + r.val, by omega⟩ d))
    (hb : ∀ n c, b (ix4 (0 : Fin 1) (0 : Fin 1) n c) = x6 (ix4 (0 : Fin 1) (⟨variant s, variant_lt s⟩ : Fin 5) n c))
    (ht : ∀ (j : Fin 5) l d, (![t0, t1, t2, t3, t4] j) (ix3 (0 : Fin 1) l d)
      = x2 (ix3 (0 : Fin 1) ⟨128 * (band s + j.val) + d.val, by have := band_le s; omega⟩ l))
    (hc : ∀ (j : Fin 2) l d, (![t5, t6] j) (ix3 (0 : Fin 1) l d) = x4 (ix3 (0 : Fin 1) ⟨128 * j.val + d.val, by omega⟩ l))
    (hbg : ∀ r d, bg (ix3 (0 : Fin 1) r d) = x5 (ix3 (0 : Fin 1) ⟨128 * s.val + r.val, by omega⟩ d)) (r l : Fin 128) :
    outV (weightedV (catV (tileV t0) (tileV t1) (tileV t2) (tileV t3) (tileV t4) (tileV t5) (tileV t6)) P (invV S')) bg
        (ix3 (0 : Fin 1) r l) = outOf x0 x1 x2 x3 x4 x5 x6 s r l := by
  subst hS'
  have hs : ∀ n : Fin 896, S' (ix2 n (colOf r l)) = scoreOf x0 x1 x3 x6 s r l n := by
    intro n
    have hd : dotV kc kl q (ix2 n (colOf r l)) = ∑ d : Fin 128, rowOf x1 x3 s n d *
        if (l.val < 64 ↔ d.val < 64) then x0 (ix3 (0 : Fin 1) ⟨128 * s.val + r.val, by omega⟩ d) else 0 := by
      rw [dotV_apply]
      refine Finset.sum_congr rfl fun d _ => ?_
      rw [splitV_apply, hq]
      congr 1
      unfold rowOf
      by_cases h : n.val < 640
      · simp only [h, dif_pos]; exact hkl _ _
      · simp only [h, dif_neg, not_false_iff]; exact hkc _ _
    rw [hS, scoresV_apply, hd]
    unfold scoreOf
    by_cases h : n.val < 640
    · simp only [h, dif_pos]; rw [hb]
    · simp only [h, dif_neg, not_false_iff]
  have hv : ∀ n : Fin 896, catV (tileV t0) (tileV t1) (tileV t2) (tileV t3) (tileV t4) (tileV t5) (tileV t6) (ix2 l n) = rowOf x2 x4 s n l := by
    intro n
    rw [catV_apply]
    obtain ⟨a, d, h⟩ : ∃ (a : Fin 7) (d : Fin 128), n = ⟨128 * a.val + d.val, by omega⟩ :=
      ⟨⟨n.val / 128, by omega⟩, ⟨n.val % 128, by omega⟩, Fin.ext (by simp only; omega)⟩
    subst h
    have e : (⟨(128 * a.val + d.val) / 128, by omega⟩ : Fin 7) = a := Fin.ext (by simp only; omega)
    have e' : (⟨(128 * a.val + d.val) % 128, by omega⟩ : Fin 128) = d := Fin.ext (by simp only; omega)
    simp only [e, e']
    have hd := d.isLt
    have hb := band_le s
    unfold rowOf
    by_cases ha : a.val < 5
    · rw [dif_pos (by simp only; omega)]
      refine Eq.trans ?_ ((ht ⟨a.val, ha⟩ l d).trans (congrArg x2 (congrArg (fun u => ix3 (0 : Fin 1) u l) (Fin.ext (by simp only; omega)))))
      obtain ⟨a, _⟩ := a
      simp only at ha
      interval_cases a <;> exact tileV_apply _ _ _
    · rw [dif_neg (by simp only; omega)]
      refine Eq.trans ?_ ((hc ⟨a.val - 5, by omega⟩ l d).trans (congrArg x4 (congrArg (fun u => ix3 (0 : Fin 1) u l) (Fin.ext (by simp only; omega)))))
      obtain ⟨a, _⟩ := a
      simp only at ha
      obtain rfl | rfl : a = 5 ∨ a = 6 := by omega
      · exact tileV_apply _ _ _
      · exact tileV_apply _ _ _
  have hw : ∀ n : Fin 896, expV S' (ix2 n (colOf r l))
      = Ideal.exp2 (scoreOf x0 x1 x3 x6 s r l n - Finset.univ.sup (scoreOf x0 x1 x3 x6 s r l)) := by
    intro n
    rw [expV_apply, hs]
    exact congrArg (fun u => Ideal.exp2 (scoreOf x0 x1 x3 x6 s r l n - u)) (congrArg Finset.univ.sup (funext hs))
  rw [outV_apply, weightedV_apply, invV_apply, gateV_apply, hbg, hP]
  unfold outOf
  simp only [probV_apply, hw, hv]

end Cert.KernelIdeal.Attn
-- ==== Proof.Body.lean ====
/-
  The kernel's body at one grid point: every load read back as entries of the input blocks, and every tile it stores.
-/
module

public import proofs.«01_k».proof.Proof.Piece
public import Idealize.ShloMosaic.Lib.WholeRead

@[expose] public section

set_option maxRecDepth 16384

noncomputable section

namespace Cert.KernelIdeal.Attn

open Idealize.ShloMosaic Idealize.ShloMosaic.TcCoe Idealize.ShloMosaic.Tactic Idealize.SL.Sem
open Cert.KernelIdeal Cert.KernelIdeal.Gen

/-! ## Where the loads are -/

theorem off1_at : ∀ (i : grid0.Coords) (s : Fin 32), k0_off1 i (BitVec.ofNat 32 s.val) = ![0, 128 * band s, 0] := by decide +kernel

theorem off2_at : ∀ (i : grid0.Coords) (s : Fin 32), k0_off2 i (BitVec.ofNat 32 s.val) = ![0, variant s, 0, 0] := by decide +kernel

theorem off3_at : ∀ (i : grid0.Coords) (s : Fin 32) (j : Fin 5),
    k0_off3 i (BitVec.ofNat 32 s.val) (BitVec.ofNat 32 j.val) = ![band s + j.val, 0, 0] := by decide +kernel

/-! ## A load of rows of a block -/

/-- A load of rows of a block of one slab, at an entry. -/
theorem rows_read {N R : ℕ} {e : EltTy} {sp : Space} (arg : Memref sig .tc sp ⟨3, ![1, N, 128]⟩ e) (h : arg.IsWhole)
    (X : Vec Ideal ⟨3, ![1, N, 128]⟩ e) (off : Fin 3 → ℕ) (inb : ∀ a, off a + (⟨3, ![1, R, 128]⟩ : Shape).size a ≤ (⟨3, ![1, N, 128]⟩ : Shape).size a)
    (o : ℕ) (ho : off = ![0, o, 0]) (r : Fin R) (d : Fin 128) (hr : o + r.val < N) :
    View.readAt (Elt Ideal) arg.view (Rect.unit (s := ⟨3, ![1, N, 128]⟩) off (⟨3, ![1, R, 128]⟩ : Shape).size inb).toLoadRect (h.unread X)
      (ix3 (0 : Fin 1) r d) = X (ix3 (0 : Fin 1) ⟨o + r.val, hr⟩ d) := by
  subst ho
  rw [Memref.IsWhole.readAt_unread]
  refine congrArg X (funext fun a => Fin.ext ?_)
  rw [Rect.idx_unit_val]
  fin_cases a <;> simp

/-- A load of one bias table. -/
theorem bias_read {sp : Space} (arg : Memref sig .tc sp S1x5x640x256 .f32) (h : arg.IsWhole) (X : Vec Ideal S1x5x640x256 .f32)
    (off : Fin 4 → ℕ) (inb : ∀ a, off a + S1x1x640x256.size a ≤ S1x5x640x256.size a) (o : Fin 5) (ho : off = ![0, o.val, 0, 0])
    (n : Fin 640) (c : Fin 256) :
    View.readAt (Elt Ideal) arg.view (Rect.unit (s := S1x5x640x256) off S1x1x640x256.size inb).toLoadRect (h.unread X)
      (ix4 (0 : Fin 1) (0 : Fin 1) n c) = X (ix4 (0 : Fin 1) o n c) := by
  subst ho
  rw [Memref.IsWhole.readAt_unread]
  refine congrArg X (funext fun a => Fin.ext ?_)
  rw [Rect.idx_unit_val]
  fin_cases a <;> simp

/-! ## The scratch of transposed tiles -/

/-- A block's rows in tiles of 128, each transposed. -/
def transposed {N M : ℕ} (X : Vec Ideal ⟨3, ![1, N, 128]⟩ .bf16) (h : N = 128 * M) (y : (⟨3, ![M, 128, 128]⟩ : Shape).Idx) : EReal :=
  X (ix3 (0 : Fin 1) ⟨128 * (y 0).val + (y 2).val, by have h0 : (y 0).val < M := (y 0).isLt; have h2 : (y 2).val < 128 := (y 2).isLt; omega⟩ (⟨(y 1).val, (y 1).isLt⟩ : Fin 128))

/-- One transposed tile as it is stored. -/
theorem trans_piece {N M : ℕ} {sp : Space} (arg : Memref sig .tc sp ⟨3, ![1, N, 128]⟩ .bf16) (h : arg.IsWhole)
    (X : Vec Ideal ⟨3, ![1, N, 128]⟩ .bf16) (hN : N = 128 * M) (k : ℕ)
    (inb' : ∀ a, (![k, 0, 0] : Fin 3 → ℕ) a + S1x128x128.size a ≤ (⟨3, ![M, 128, 128]⟩ : Shape).size a)
    (inb : ∀ a, (![0, 128 * k, 0] : Fin 3 → ℕ) a + S1x128x128.size a ≤ (⟨3, ![1, N, 128]⟩ : Shape).size a)
    (x : (Rect.unit (s := ⟨3, ![M, 128, 128]⟩) ![k, 0, 0] S1x128x128.size inb').shape.Idx) :
    (⟨Rect.unit (s := ⟨3, ![M, 128, 128]⟩) ![k, 0, 0] S1x128x128.size inb',
      transV (View.readAt (Elt Ideal) arg.view (Rect.unit (s := ⟨3, ![1, N, 128]⟩) ![0, 128 * k, 0] S1x128x128.size inb).toLoadRect (h.unread X))⟩ :
      View.Piece (Elt Ideal) ⟨3, ![M, 128, 128]⟩ .bf16).2 x
      = transposed X hN ((Rect.unit (s := ⟨3, ![M, 128, 128]⟩) ![k, 0, 0] S1x128x128.size inb').emb x) := by
  obtain ⟨a, l, d, rfl⟩ : ∃ (a : Fin 1) (l d : Fin 128), x = ix3 a l d := ⟨x 0, x 1, x 2, eq_ix3 x⟩
  obtain rfl : a = 0 := Subsingleton.elim _ _
  refine (transV_apply _ l d).trans ?_
  have hk : k + 1 ≤ M := by simpa using inb' 0
  refine (rows_read (R := 128) arg h X ![0, 128 * k, 0] inb (128 * k) rfl d l (by omega)).trans ?_
  unfold transposed
  refine congrArg X (congrArg₂ (ix3 (0 : Fin 1)) (Fin.ext ?_) (Fin.ext ?_)) <;> simp [Rect.emb_apply]

theorem values_pieces (c : Dev nD) (arg5 : Memref sig .tc .vmem S1x4096x128 .bf16) (harg5 : arg5.IsWhole) (x2 : Vec Ideal S1x4096x128 .bf16) :
    ∀ p ∈ kernelRun0_A.sl.HS0_32 c arg5 harg5 x2, ∀ x, p.2 x = transposed x2 (M := 32) rfl (p.1.emb x) := by
  unfold kernelRun0_A.sl.HS0_32
  iterate 32 refine List.forall_mem_cons.2 ⟨trans_piece arg5 harg5 x2 rfl _ _ _, ?_⟩
  exact List.forall_mem_nil _

theorem ctx_pieces (c : Dev nD) (arg7 : Memref sig .tc .vmem S1x256x128 .bf16) (harg7 : arg7.IsWhole) (x4 : Vec Ideal S1x256x128 .bf16) :
    ∀ p ∈ kernelRun0_A.sl.HS1_2 c arg7 harg7 x4, ∀ x, p.2 x = transposed x4 (M := 2) rfl (p.1.emb x) := by
  unfold kernelRun0_A.sl.HS1_2
  iterate 2 refine List.forall_mem_cons.2 ⟨trans_piece arg7 harg7 x4 rfl _ _ _, ?_⟩
  exact List.forall_mem_nil _

/-- Tile `k` of the transposed values, read back. -/
theorem values_read (c : Dev nD) (arg5 : Memref sig .tc .vmem S1x4096x128 .bf16) (harg5 : arg5.IsWhole) (x2 : Vec Ideal S1x4096x128 .bf16)
    (arg11 : Memref sig .tc .vmem S32x128x128 .bf16) (off : Fin 3 → ℕ) (inb : ∀ a, off a + S1x128x128.size a ≤ S32x128x128.size a)
    (k : ℕ) (ho : off = ![k, 0, 0]) (l d : Fin 128) (hk : 128 * k + d.val < 4096) :
    arg11.view.readCov (kernelRun0_A.sl.HS0_32 c arg5 harg5 x2) (Rect.unit (s := S32x128x128) off S1x128x128.size inb).toLoadRect
      (ix3 (0 : Fin 1) l d) = x2 (ix3 (0 : Fin 1) ⟨128 * k + d.val, hk⟩ l) := by
  subst ho
  rw [View.readCov_eq_canon']
  refine (View.canon_apply_of_pieces _ _ (values_pieces c arg5 harg5 x2) _
    (View.cover_of_tiledL (kernelRun0_A.sl.HS0_32 c arg5 harg5 x2) S1x128x128.size (by sl_kernel_rfl) _)).trans ?_
  unfold transposed
  refine congrArg x2 (congrArg₂ (ix3 (0 : Fin 1)) (Fin.ext ?_) (Fin.ext ?_)) <;> simp only [Rect.idx_unit_val] <;> simp

/-- Tile `k` of the context's transposed values, read back. -/
theorem ctx_read (c : Dev nD) (arg7 : Memref sig .tc .vmem S1x256x128 .bf16) (harg7 : arg7.IsWhole) (x4 : Vec Ideal S1x256x128 .bf16)
    (arg12 : Memref sig .tc .vmem S2x128x128 .bf16) (off : Fin 3 → ℕ) (inb : ∀ a, off a + S1x128x128.size a ≤ S2x128x128.size a)
    (k : ℕ) (ho : off = ![k, 0, 0]) (l d : Fin 128) (hk : 128 * k + d.val < 256) :
    arg12.view.readCov (kernelRun0_A.sl.HS1_2 c arg7 harg7 x4) (Rect.unit (s := S2x128x128) off S1x128x128.size inb).toLoadRect
      (ix3 (0 : Fin 1) l d) = x4 (ix3 (0 : Fin 1) ⟨128 * k + d.val, hk⟩ l) := by
  subst ho
  rw [View.readCov_eq_canon']
  refine (View.canon_apply_of_pieces _ _ (ctx_pieces c arg7 harg7 x4) _
    (View.cover_of_tiledL (kernelRun0_A.sl.HS1_2 c arg7 harg7 x4) S1x128x128.size (by sl_kernel_rfl) _)).trans ?_
  unfold transposed
  refine congrArg x4 (congrArg₂ (ix3 (0 : Fin 1)) (Fin.ext ?_) (Fin.ext ?_)) <;> simp only [Rect.idx_unit_val] <;> simp

end Cert.KernelIdeal.Attn
-- ==== Proof.Tiles.lean ====
/-
  The tiles the kernel's body stores at one grid point, as the tile's vector expressions over the loads made for it.
-/
module

public import proofs.«01_k».proof.Proof.Gen.KernelIdeal.Frame
public import proofs.«01_k».proof.Proof.Tile

@[expose] public section

set_option maxRecDepth 16384

noncomputable section

namespace Cert.KernelIdeal.Attn

open Idealize.ShloMosaic Idealize.ShloMosaic.TcCoe Idealize.ShloMosaic.Tactic Idealize.SL.Sem
open Cert.KernelIdeal Cert.KernelIdeal.Gen

variable {F : FTy → Type} [FloatOps F]

theorem ctx_inb : ∀ j : Fin 2, ∀ a, (![j.val, 0, 0] : Fin 3 → ℕ) a + S1x128x128.size a ≤ S2x128x128.size a := by decide

theorem rows_inb (s : ℕ) (hs : s < 32) : ∀ a, (![0, 128 * s, 0] : Fin 3 → ℕ) a + S1x128x128.size a ≤ S1x4096x128.size a := by
  intro a; fin_cases a <;> simp <;> omega

/-- The whole of tile `s`'s computation, over the loads the kernel makes for it: `S` what it reads back as the scores and
    `P` what it reads back as the weights. -/
def IsTile  (c : Dev nD) (i : grid0.Coords) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x4096x128 .bf16) (harg8 : arg8.IsWhole) (arg9 : Memref sig .tc .vmem S1x5x640x256 .f32) (harg9 : arg9.IsWhole) (arg10 : Memref sig .tc .vmem S1x4096x128 .bf16) (harg10 : arg10.IsWhole) (arg11 : Memref sig .tc .vmem S32x128x128 .bf16) (harg11 : arg11.IsWhole) (arg12 : Memref sig .tc .vmem S2x128x128 .bf16) (harg12 : arg12.IsWhole) (arg13 : Memref sig .tc .vmem S896x256 .f32) (harg13 : arg13.IsWhole) (arg14 : Memref sig .tc .vmem S896x256 .f32) (harg14 : arg14.IsWhole) (arg15 : Memref sig .tc .vmem S896x256 .bf16) (harg15 : arg15.IsWhole) (arg16 : Memref sig .tc .vmem S896x256 .bf16) (harg16 : arg16.IsWhole) (hc0 : cond0_0 i)
    (x0 : Vec F S1x4096x128 .bf16) (x1 : Vec F S1x4096x128 .bf16) (x2 : Vec F S1x4096x128 .bf16) (x3 : Vec F S1x256x128 .bf16) (x4 : Vec F S1x256x128 .bf16) (x5 : Vec F S1x4096x128 .bf16) (x6 : Vec F S1x5x640x256 .f32)
    (s : ℕ) (hs : s < 32) (p : View.Piece (Elt F) S1x4096x128 .bf16) : Prop :=
  ∃ (S : Vec F S896x256 .f32) (P : Vec F S896x256 .bf16),
    p = ⟨Rect.unit (s := S1x4096x128) ![0, 128 * s, 0] S1x128x128.size (rows_inb s hs),
      outV (weightedV (catV
          (tileV (arg11.view.readCov (kernelRun0_A.sl.HS0_32 c arg5 harg5 x2) (Rect.unit (s := S32x128x128) (k0_off3 i (BitVec.ofNat 32 s) 0#32) S1x128x128.size (k0_off3_inb i ⟨s, hs⟩ 0)).toLoadRect))
          (tileV (arg11.view.readCov (kernelRun0_A.sl.HS0_32 c arg5 harg5 x2) (Rect.unit (s := S32x128x128) (k0_off3 i (BitVec.ofNat 32 s) 1#32) S1x128x128.size (k0_off3_inb i ⟨s, hs⟩ 1)).toLoadRect))
          (tileV (arg11.view.readCov (kernelRun0_A.sl.HS0_32 c arg5 harg5 x2) (Rect.unit (s := S32x128x128) (k0_off3 i (BitVec.ofNat 32 s) 2#32) S1x128x128.size (k0_off3_inb i ⟨s, hs⟩ 2)).toLoadRect))
          (tileV (arg11.view.readCov (kernelRun0_A.sl.HS0_32 c arg5 harg5 x2) (Rect.unit (s := S32x128x128) (k0_off3 i (BitVec.ofNat 32 s) 3#32) S1x128x128.size (k0_off3_inb i ⟨s, hs⟩ 3)).toLoadRect))
          (tileV (arg11.view.readCov (kernelRun0_A.sl.HS0_32 c arg5 harg5 x2) (Rect.unit (s := S32x128x128) (k0_off3 i (BitVec.ofNat 32 s) 4#32) S1x128x128.size (k0_off3_inb i ⟨s, hs⟩ 4)).toLoadRect))
          (tileV (arg12.view.readCov (kernelRun0_A.sl.HS1_2 c arg7 harg7 x4) (Rect.unit (s := S2x128x128) ![0, 0, 0] S1x128x128.size (ctx_inb 0)).toLoadRect))
          (tileV (arg12.view.readCov (kernelRun0_A.sl.HS1_2 c arg7 harg7 x4) (Rect.unit (s := S2x128x128) ![1, 0, 0] S1x128x128.size (ctx_inb 1)).toLoadRect)))
          P (invV S))
        (View.readAt (Elt F) arg8.view (Rect.unit (s := S1x4096x128) ![0, 128 * s, 0] S1x128x128.size (rows_inb s hs)).toLoadRect (harg8.unread x5))⟩
    ∧ S = scoresV (kernelRun0_A.sl.r c arg6 harg6 x3)
        (View.readAt (Elt F) arg4.view (Rect.unit (s := S1x4096x128) (k0_off1 i (BitVec.ofNat 32 s)) S1x640x128.size (k0_off1_inb i ⟨s, hs⟩)).toLoadRect (harg4.unread x1))
        (View.readAt (Elt F) arg3.view (Rect.unit (s := S1x4096x128) ![0, 128 * s, 0] S1x128x128.size (rows_inb s hs)).toLoadRect (harg3.unread x0))
        (View.readAt (Elt F) arg9.view (Rect.unit (s := S1x5x640x256) (k0_off2 i (BitVec.ofNat 32 s)) S1x1x640x256.size (k0_off2_inb i ⟨s, hs⟩)).toLoadRect (harg9.unread x6))
    ∧ P = probV S

/-- Every piece of a list is the tile its place from the end names. -/
def AllTiles (T : (s : ℕ) → s < 32 → View.Piece (Elt F) S1x4096x128 .bf16 → Prop) : ℕ → List (View.Piece (Elt F) S1x4096x128 .bf16) → Prop
  | 0, [] => True
  | n + 1, p :: L => (∃ h, T n h p) ∧ AllTiles T n L
  | _, _ => False

set_option maxHeartbeats 4000000 in
theorem out_tiles  (c : Dev nD) (i : grid0.Coords) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x4096x128 .bf16) (harg8 : arg8.IsWhole) (arg9 : Memref sig .tc .vmem S1x5x640x256 .f32) (harg9 : arg9.IsWhole) (arg10 : Memref sig .tc .vmem S1x4096x128 .bf16) (harg10 : arg10.IsWhole) (arg11 : Memref sig .tc .vmem S32x128x128 .bf16) (harg11 : arg11.IsWhole) (arg12 : Memref sig .tc .vmem S2x128x128 .bf16) (harg12 : arg12.IsWhole) (arg13 : Memref sig .tc .vmem S896x256 .f32) (harg13 : arg13.IsWhole) (arg14 : Memref sig .tc .vmem S896x256 .f32) (harg14 : arg14.IsWhole) (arg15 : Memref sig .tc .vmem S896x256 .bf16) (harg15 : arg15.IsWhole) (arg16 : Memref sig .tc .vmem S896x256 .bf16) (harg16 : arg16.IsWhole) (hc0 : cond0_0 i)
    (x0 : Vec F S1x4096x128 .bf16) (x1 : Vec F S1x4096x128 .bf16) (x2 : Vec F S1x4096x128 .bf16) (x3 : Vec F S1x256x128 .bf16) (x4 : Vec F S1x256x128 .bf16) (x5 : Vec F S1x4096x128 .bf16) (x6 : Vec F S1x5x640x256 .f32) :
    AllTiles (IsTile c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6) 32 (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6).1 := by
  unfold kernelRun0_A
  dsimp only
  iterate 32
    refine ⟨⟨by decide, ?_, ?_, ?_, ?_, ?_⟩, ?_⟩
    rotate_left 2
    · refine congrArg (fun w => (⟨_, w⟩ : View.Piece (Elt F) S1x4096x128 .bf16)) ?_
      delta kernelRun0_A.sl.r_1 kernelRun0_A.sl.r_2 kernelRun0_A.sl.r_3 kernelRun0_A.sl.r_4 kernelRun0_A.sl.r_5 kernelRun0_A.sl.r_6 kernelRun0_A.sl.r_7 kernelRun0_A.sl.r_8 kernelRun0_A.sl.r_9 kernelRun0_A.sl.r_10 kernelRun0_A.sl.r_11 kernelRun0_A.sl.r_12 kernelRun0_A.sl.r_13 kernelRun0_A.sl.r_14 kernelRun0_A.sl.r_15 kernelRun0_A.sl.r_16 kernelRun0_A.sl.r_17 kernelRun0_A.sl.r_18 kernelRun0_A.sl.r_19 kernelRun0_A.sl.r_20 kernelRun0_A.sl.r_21 kernelRun0_A.sl.r_22 kernelRun0_A.sl.r_23 kernelRun0_A.sl.r_24 kernelRun0_A.sl.r_25 kernelRun0_A.sl.r_26 kernelRun0_A.sl.r_27 kernelRun0_A.sl.r_28 kernelRun0_A.sl.r_29 kernelRun0_A.sl.r_30 kernelRun0_A.sl.r_31 kernelRun0_A.sl.r_32 kernelRun0_A.sl.r_33 kernelRun0_A.sl.r_34 kernelRun0_A.sl.r_35 kernelRun0_A.sl.r_36 kernelRun0_A.sl.r_37 kernelRun0_A.sl.r_38 kernelRun0_A.sl.r_39 kernelRun0_A.sl.r_40 kernelRun0_A.sl.r_41 kernelRun0_A.sl.r_42 kernelRun0_A.sl.r_43 kernelRun0_A.sl.r_44 kernelRun0_A.sl.r_45 kernelRun0_A.sl.r_46 kernelRun0_A.sl.r_47 kernelRun0_A.sl.r_48 kernelRun0_A.sl.r_49 kernelRun0_A.sl.r_50 kernelRun0_A.sl.r_51 kernelRun0_A.sl.r_52 kernelRun0_A.sl.r_53 kernelRun0_A.sl.r_54 kernelRun0_A.sl.r_55 kernelRun0_A.sl.r_56 kernelRun0_A.sl.r_57 kernelRun0_A.sl.r_58 kernelRun0_A.sl.r_59 kernelRun0_A.sl.r_60 kernelRun0_A.sl.r_61 kernelRun0_A.sl.r_62 kernelRun0_A.sl.r_63 kernelRun0_A.sl.r_64 kernelRun0_A.sl.r_65 kernelRun0_A.sl.r_66 kernelRun0_A.sl.r_67 kernelRun0_A.sl.r_68 kernelRun0_A.sl.r_69 kernelRun0_A.sl.r_70 kernelRun0_A.sl.r_71 kernelRun0_A.sl.r_72 kernelRun0_A.sl.r_73 kernelRun0_A.sl.r_74 kernelRun0_A.sl.r_75 kernelRun0_A.sl.r_76 kernelRun0_A.sl.r_77 kernelRun0_A.sl.r_78 kernelRun0_A.sl.r_79 kernelRun0_A.sl.r_80 kernelRun0_A.sl.r_81 kernelRun0_A.sl.r_82 kernelRun0_A.sl.r_83 kernelRun0_A.sl.r_84 kernelRun0_A.sl.r_85 kernelRun0_A.sl.r_86 kernelRun0_A.sl.r_87 kernelRun0_A.sl.r_88 kernelRun0_A.sl.r_89 kernelRun0_A.sl.r_90 kernelRun0_A.sl.r_91 kernelRun0_A.sl.r_92 kernelRun0_A.sl.r_93 kernelRun0_A.sl.r_94 kernelRun0_A.sl.r_95 kernelRun0_A.sl.r_96 kernelRun0_A.sl.r_97 kernelRun0_A.sl.r_98 kernelRun0_A.sl.r_99 kernelRun0_A.sl.r_100 kernelRun0_A.sl.r_101 kernelRun0_A.sl.r_102 kernelRun0_A.sl.r_103 kernelRun0_A.sl.r_104 kernelRun0_A.sl.r_105 kernelRun0_A.sl.r_106 kernelRun0_A.sl.r_107 kernelRun0_A.sl.r_108 kernelRun0_A.sl.r_109 kernelRun0_A.sl.r_110 kernelRun0_A.sl.r_111 kernelRun0_A.sl.r_112 kernelRun0_A.sl.r_113 kernelRun0_A.sl.r_114 kernelRun0_A.sl.r_115 kernelRun0_A.sl.r_116 kernelRun0_A.sl.r_117 kernelRun0_A.sl.r_118 kernelRun0_A.sl.r_119 kernelRun0_A.sl.r_120 kernelRun0_A.sl.r_121
      show outV _ _ = _
      refine congrArg₂ outV ?_ rfl
      show weightedV (catV (tileV _) (tileV _) (tileV _) (tileV _) (tileV _) (tileV _) (tileV _)) _ (invV _) = _
      exact rfl
    · exact View.readCov_cons_unit_lit' _ _ _ _ _ (by decide) (by decide)
    · exact View.readCov_cons_unit_lit' _ _ _ _ _ (by decide) (by decide)
  exact trivial

end Cert.KernelIdeal.Attn
-- ==== Proof.Block.lean ====
/-
  What the kernel's body leaves at one grid point: every tile it stores is the softmax over its band and the context.
-/
module

public import proofs.«01_k».proof.Proof.Body
public import proofs.«01_k».proof.Proof.Tiles

@[expose] public section

set_option maxRecDepth 16384

noncomputable section

namespace Cert.KernelIdeal.Attn

open Idealize.ShloMosaic Idealize.ShloMosaic.TcCoe Idealize.ShloMosaic.Tactic Idealize.SL.Sem
open Cert.KernelIdeal Cert.KernelIdeal.Gen

/-- The block a grid point leaves. -/
def blockOf (x0 x1 x2 : Vec Ideal S1x4096x128 .bf16) (x3 x4 : Vec Ideal S1x256x128 .bf16) (x5 : Vec Ideal S1x4096x128 .bf16)
    (x6 : Vec Ideal S1x5x640x256 .f32) (y : S1x4096x128.Idx) : EReal :=
  outOf x0 x1 x2 x3 x4 x5 x6 ⟨(y 1).val / 128, by have h : (y 1).val < 4096 := (y 1).isLt; omega⟩ ⟨(y 1).val % 128, by omega⟩
    (⟨(y 2).val, (y 2).isLt⟩ : Fin 128)

/-- A tile's payload at its own rows of the block. -/
theorem out_piece (x0 x1 x2 : Vec Ideal S1x4096x128 .bf16) (x3 x4 : Vec Ideal S1x256x128 .bf16) (x5 : Vec Ideal S1x4096x128 .bf16)
    (x6 : Vec Ideal S1x5x640x256 .f32) (s : ℕ) (hs : s < 32)
    (inb : ∀ a, (![0, 128 * s, 0] : Fin 3 → ℕ) a + S1x128x128.size a ≤ S1x4096x128.size a) (w : Vec Ideal S1x128x128 .bf16)
    (hw : ∀ r l : Fin 128, w (ix3 (0 : Fin 1) r l) = outOf x0 x1 x2 x3 x4 x5 x6 ⟨s, hs⟩ r l)
    (x : (Rect.unit (s := S1x4096x128) ![0, 128 * s, 0] S1x128x128.size inb).shape.Idx) :
    (⟨Rect.unit (s := S1x4096x128) ![0, 128 * s, 0] S1x128x128.size inb, w⟩ : View.Piece (Elt Ideal) S1x4096x128 .bf16).2 x
      = blockOf x0 x1 x2 x3 x4 x5 x6 ((Rect.unit (s := S1x4096x128) ![0, 128 * s, 0] S1x128x128.size inb).emb x) := by
  obtain ⟨a, r, l, rfl⟩ : ∃ (a : Fin 1) (r l : Fin 128), x = ix3 a r l := ⟨x 0, x 1, x 2, eq_ix3 x⟩
  obtain rfl : a = 0 := Subsingleton.elim _ _
  refine (hw r l).trans ?_
  unfold blockOf
  have hr := r.isLt
  have e : ((Rect.unit (s := S1x4096x128) ![0, 128 * s, 0] S1x128x128.size inb).emb (ix3 (0 : Fin 1) r l) 1).val = 128 * s + r.val := by
    rw [Rect.emb_apply]; simp
  congr 1
  · exact Fin.ext (by simp only [e]; omega)
  · exact Fin.ext (by simp only [e]; omega)
  · exact Fin.ext (by rw [Rect.emb_apply]; simp)

/-- The context's keys, as the body holds them. -/
theorem ctxKeys_read (c : Dev nD) (arg6 : Memref sig .tc .vmem S1x256x128 .bf16) (harg6 : arg6.IsWhole) (x3 : Vec Ideal S1x256x128 .bf16)
    (n : Fin 256) (d : Fin 128) : kernelRun0_A.sl.r c arg6 harg6 x3 (ix2 n d) = x3 (ix3 (0 : Fin 1) n d) := by
  unfold kernelRun0_A.sl.r
  pointwise [k0_pay36]
  refine (rows_read (R := 256) arg6 harg6 x3 _ _ 0 rfl n d (by omega)).trans ?_
  exact congrArg x3 (congrArg (fun u => ix3 (0 : Fin 1) u d) (Fin.ext (by simp)))

set_option maxHeartbeats 2000000 in
/-- One stored tile is its rows of the block. -/
theorem tile_piece  (c : Dev nD) (i : grid0.Coords) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x4096x128 .bf16) (harg8 : arg8.IsWhole) (arg9 : Memref sig .tc .vmem S1x5x640x256 .f32) (harg9 : arg9.IsWhole) (arg10 : Memref sig .tc .vmem S1x4096x128 .bf16) (harg10 : arg10.IsWhole) (arg11 : Memref sig .tc .vmem S32x128x128 .bf16) (harg11 : arg11.IsWhole) (arg12 : Memref sig .tc .vmem S2x128x128 .bf16) (harg12 : arg12.IsWhole) (arg13 : Memref sig .tc .vmem S896x256 .f32) (harg13 : arg13.IsWhole) (arg14 : Memref sig .tc .vmem S896x256 .f32) (harg14 : arg14.IsWhole) (arg15 : Memref sig .tc .vmem S896x256 .bf16) (harg15 : arg15.IsWhole) (arg16 : Memref sig .tc .vmem S896x256 .bf16) (harg16 : arg16.IsWhole) (hc0 : cond0_0 i)
    (x0 : Vec Ideal S1x4096x128 .bf16) (x1 : Vec Ideal S1x4096x128 .bf16) (x2 : Vec Ideal S1x4096x128 .bf16) (x3 : Vec Ideal S1x256x128 .bf16) (x4 : Vec Ideal S1x256x128 .bf16) (x5 : Vec Ideal S1x4096x128 .bf16) (x6 : Vec Ideal S1x5x640x256 .f32)
    (s : ℕ) (hs : s < 32) (p : View.Piece (Elt Ideal) S1x4096x128 .bf16)
    (h : IsTile c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 s hs p) :
    ∀ x, p.2 x = blockOf x0 x1 x2 x3 x4 x5 x6 (p.1.emb x) := by
  obtain ⟨S, P, rfl, hS, hP⟩ := h
  refine out_piece x0 x1 x2 x3 x4 x5 x6 s hs (rows_inb s hs) _ fun r l => ?_
  have hb := band_le ⟨s, hs⟩
  refine tile_eq x0 x1 x2 x3 x4 x5 x6 ⟨s, hs⟩ hS rfl hP
    (ctxKeys_read c arg6 harg6 x3)
    (fun n d => rows_read (R := 640) arg4 harg4 x1 _ _ _ (off1_at i ⟨s, hs⟩) n d (by omega))
    (fun r d => rows_read (R := 128) arg3 harg3 x0 _ _ _ rfl r d (by omega))
    (fun n c => bias_read arg9 harg9 x6 _ _ ⟨variant ⟨s, hs⟩, variant_lt _⟩ (off2_at i ⟨s, hs⟩) n c)
    (fun j l d => ?_) (fun j l d => ?_)
    (fun r d => rows_read (R := 128) arg8 harg8 x5 _ _ _ rfl r d (by omega)) r l
  · have hd := d.isLt
    fin_cases j
    · exact values_read c arg5 harg5 x2 arg11 _ _ (band ⟨s, hs⟩ + 0) (off3_at i ⟨s, hs⟩ 0) l d (by omega)
    · exact values_read c arg5 harg5 x2 arg11 _ _ (band ⟨s, hs⟩ + 1) (off3_at i ⟨s, hs⟩ 1) l d (by omega)
    · exact values_read c arg5 harg5 x2 arg11 _ _ (band ⟨s, hs⟩ + 2) (off3_at i ⟨s, hs⟩ 2) l d (by omega)
    · exact values_read c arg5 harg5 x2 arg11 _ _ (band ⟨s, hs⟩ + 3) (off3_at i ⟨s, hs⟩ 3) l d (by omega)
    · exact values_read c arg5 harg5 x2 arg11 _ _ (band ⟨s, hs⟩ + 4) (off3_at i ⟨s, hs⟩ 4) l d (by omega)
  · have hd := d.isLt
    fin_cases j
    · exact ctx_read c arg7 harg7 x4 arg12 ![0, 0, 0] (ctx_inb 0) 0 rfl l d (show 128 * 0 + d.val < 256 by omega)
    · exact ctx_read c arg7 harg7 x4 arg12 ![1, 0, 0] (ctx_inb 1) 1 rfl l d (show 128 * 1 + d.val < 256 by omega)

/-- Pieces that are all tiles are all entries of one block. -/
theorem pieces_of_tiles {T : (s : ℕ) → s < 32 → View.Piece (Elt Ideal) S1x4096x128 .bf16 → Prop} {f : S1x4096x128.Idx → EReal}
    (hT : ∀ s hs p, T s hs p → ∀ x, p.2 x = f (p.1.emb x)) :
    ∀ (n : ℕ) (L : List (View.Piece (Elt Ideal) S1x4096x128 .bf16)), AllTiles T n L → ∀ p ∈ L, ∀ x, p.2 x = f (p.1.emb x)
  | 0, [], _ => fun p hp => absurd hp List.not_mem_nil
  | n + 1, q :: L, h => fun p hp x => by
      obtain ⟨⟨hs, hq⟩, hL⟩ := h
      rcases List.mem_cons.1 hp with rfl | hp
      · exact hT n hs p hq x
      · exact pieces_of_tiles hT n L hL p hp x
  | 0, _ :: _, h => False.elim h
  | _ + 1, [], h => False.elim h

/-- What the body leaves of the result's block. -/
theorem out_block  (c : Dev nD) (i : grid0.Coords) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x4096x128 .bf16) (harg8 : arg8.IsWhole) (arg9 : Memref sig .tc .vmem S1x5x640x256 .f32) (harg9 : arg9.IsWhole) (arg10 : Memref sig .tc .vmem S1x4096x128 .bf16) (harg10 : arg10.IsWhole) (arg11 : Memref sig .tc .vmem S32x128x128 .bf16) (harg11 : arg11.IsWhole) (arg12 : Memref sig .tc .vmem S2x128x128 .bf16) (harg12 : arg12.IsWhole) (arg13 : Memref sig .tc .vmem S896x256 .f32) (harg13 : arg13.IsWhole) (arg14 : Memref sig .tc .vmem S896x256 .f32) (harg14 : arg14.IsWhole) (arg15 : Memref sig .tc .vmem S896x256 .bf16) (harg15 : arg15.IsWhole) (arg16 : Memref sig .tc .vmem S896x256 .bf16) (harg16 : arg16.IsWhole) (hc0 : cond0_0 i)
    (x0 : Vec Ideal S1x4096x128 .bf16) (x1 : Vec Ideal S1x4096x128 .bf16) (x2 : Vec Ideal S1x4096x128 .bf16) (x3 : Vec Ideal S1x256x128 .bf16) (x4 : Vec Ideal S1x256x128 .bf16) (x5 : Vec Ideal S1x4096x128 .bf16) (x6 : Vec Ideal S1x5x640x256 .f32)
    (y : S1x4096x128.Idx) :
    out0_A_7 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 y = blockOf x0 x1 x2 x3 x4 x5 x6 y := by
  unfold out0_A_7
  refine (View.read_writes_junk_apply_eq_canon _ y _).trans ?_
  exact View.canon_apply_of_pieces _ _
    (pieces_of_tiles (fun s hs p h => tile_piece c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 s hs p h) 32 _ (out_tiles c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6)) y
    (cover0_A_7 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 y)

end Cert.KernelIdeal.Attn
-- ==== Proof.Window.lean ====
/-
  The neighbourhood of a query: the grid rows and columns of the keys it attends to.
-/
module

public import Mathlib.Data.EReal.Basic

@[expose] public section

namespace Cert.Window

/-- The first row of the window of row `r`. -/
def rs (r : ℕ) : ℕ := min (r - 4) 56

/-- The first column of the window of column `c`. -/
def cs (c : ℕ) : ℕ := min (c - 8) 48

/-- The row of place `w` of the window of row `r`. -/
def kRow (r w : ℕ) : ℕ := rs r + w / 16

/-- The column of place `w` of the window of column `c`. -/
def kCol (c w : ℕ) : ℕ := cs c + w % 16

theorem kRow_lt {r w : ℕ} (hw : w < 128) : kRow r w < 64 := by unfold kRow rs; omega

theorem kCol_lt {c w : ℕ} : kCol c w < 64 := by unfold kCol cs; omega

/-- The token of place `w` of the window of token `q`. -/
def kTok (q w : ℕ) : ℕ := kRow (q / 64) w * 64 + kCol (q % 64) w

theorem kTok_lt {q w : ℕ} (hw : w < 128) : kTok q w < 4096 := by
  have h := kRow_lt (r := q / 64) hw
  have h' := kCol_lt (c := q % 64) (w := w)
  unfold kTok; omega

/-- The relative row of place `w`, from its least. -/
def dRow (r w : ℕ) : ℕ := kRow r w + 7 - r

/-- The relative column of place `w`, from its least. -/
def dCol (c w : ℕ) : ℕ := kCol c w + 15 - c

theorem dRow_lt {r w : ℕ} (hr : r < 64) (hw : w < 128) : dRow r w < 15 := by unfold dRow kRow rs; omega

theorem dCol_lt {c w : ℕ} (hc : c < 64) : dCol c w < 31 := by unfold dCol kCol cs; omega

end Cert.Window
-- ==== Proof.BiasTerm.lean ====
/-
  The bias tables the host computes for the kernel, their one composed term cut into named stages.
-/
module

public import proofs.«01_k».proof.Proof.Gen.KernelIdeal.Frame
public import proofs.«01_k».proof.Proof.Window
public import Idealize.ShloMosaic.Lib.Pipeline.ValueKit
public import Idealize.ShloMosaic.Lib.StableHlo.ReadAt

@[expose] public section

set_option maxRecDepth 16384

noncomputable section

namespace Cert.KernelIdeal.Table

open Idealize.ShloMosaic Idealize.ShloMosaic.TcCoe Idealize.ShloMosaic.Tactic Idealize.SL.Sem
open Cert.KernelIdeal Cert.KernelIdeal.Gen Cert.Window

variable {F : FTy → Type} [FloatOps F]

/-- A word at every entry of the tables. -/
def wordV (w : BitVec 32) : IVec S8x5x640x256 32 := broadcastInDim S8x5x640x256 ![] bcast_S_S8x5x640x256 (constantI S_ 32 w)

/-- The tile of queries whose table it is. -/
def tileV : IVec S8x5x640x256 32 :=
  select (cmpi .slt (iotaInDim S8x5x640x256 32 1) (wordV 3#32)) (iotaInDim S8x5x640x256 32 1) (addi (iotaInDim S8x5x640x256 32 1) (wordV 27#32))

/-- The key's row. -/
def kRowV : IVec S8x5x640x256 32 :=
  addi (minsi (maxsi (subi (muli (wordV 2#32) tileV) (wordV 4#32)) (wordV 0#32)) (wordV 54#32)) (Host.divsi (iotaInDim S8x5x640x256 32 2) (wordV 64#32))

/-- The key's column. -/
def kColV : IVec S8x5x640x256 32 := Host.remsi (iotaInDim S8x5x640x256 32 2) (wordV 64#32)

/-- The query's row. -/
def qRowV : IVec S8x5x640x256 32 :=
  addi (muli (wordV 2#32) tileV) (Host.divsi (Host.remsi (iotaInDim S8x5x640x256 32 3) (wordV 128#32)) (wordV 64#32))

/-- The query's column. -/
def qColV : IVec S8x5x640x256 32 := Host.remsi (iotaInDim S8x5x640x256 32 3) (wordV 64#32)

/-- The head. -/
def headV : IVec S8x5x640x256 32 :=
  addi (muli (wordV 2#32) (iotaInDim S8x5x640x256 32 0)) (Host.divsi (iotaInDim S8x5x640x256 32 3) (wordV 128#32))

/-- The first row of the query's window. -/
def rsV : IVec S8x5x640x256 32 := minsi (maxsi (subi qRowV (wordV 4#32)) (wordV 0#32)) (wordV 56#32)

/-- The first column of the query's window. -/
def csV : IVec S8x5x640x256 32 := minsi (maxsi (subi qColV (wordV 8#32)) (wordV 0#32)) (wordV 48#32)

/-- Whether the key is in the query's window. -/
def insideV : IVec S8x5x640x256 1 :=
  andi (andi (andi (cmpi .sge kRowV rsV) (cmpi .slt kRowV (addi rsV (wordV 8#32)))) (cmpi .sge kColV csV)) (cmpi .slt kColV (addi csV (wordV 16#32)))

/-- An index of an axis of `n`, counted from its end where it is negative. -/
def wrapV (n : BitVec 32) (x : IVec S8x5x640x256 32) : IVec S8x5x640x256 32 := select (cmpi .slt x (wordV 0#32)) (addi x (wordV n)) x

/-- A word of each entry as one coordinate of an index. -/
def coordV (x : IVec S8x5x640x256 32) : IVec S8x5x640x256x1 32 :=
  broadcastInDim S8x5x640x256x1 ![0, 1, 2, 3] bcast_S8x5x640x256_S8x5x640x256x1_0_1_2_3 x

/-- The relative position bias each entry reads. -/
def readV (rpb : FVec F S16x15x31 .f32) : FVec F S8x5x640x256 .f32 :=
  Host.gather gather_S16x15x31_S8x5x640x256x3_S8x5x640x256_n_012_n_n_012_4_111 rpb
    (concatenate S8x5x640x256x3 4 [⟨S8x5x640x256x1, coordV (wrapV 16#32 headV)⟩,
      ⟨S8x5x640x256x1, coordV (wrapV 15#32 (addi (subi kRowV qRowV) (wordV 7#32)))⟩,
      ⟨S8x5x640x256x1, coordV (wrapV 31#32 (addi (subi kColV qColV) (wordV 15#32)))⟩]
      concatenates_S8x5x640x256x1_S8x5x640x256x1_S8x5x640x256x1_S8x5x640x256x3_d4)

/-- The tables. -/
def tableV (rpb : FVec F S16x15x31 .f32) : FVec F S8x5x640x256 .f32 :=
  select insideV (Host.divf (readV rpb) (broadcastInDim S8x5x640x256 ![] bcast_S_S8x5x640x256 (Host.log (constant S_ .f32 0x40000000#32))))
    (broadcastInDim S8x5x640x256 ![] bcast_S_S8x5x640x256 (constant S_ .f32 0xFF800000#32))

/-- Three coordinates joined, by coordinates that are equal. -/
theorem join_congr {a b d a' b' d' : IVec S8x5x640x256x1 32} (ha : a = a') (hb : b = b') (hd : d = d') :
    concatenate S8x5x640x256x3 4 [⟨S8x5x640x256x1, a⟩, ⟨S8x5x640x256x1, b⟩, ⟨S8x5x640x256x1, d⟩]
        concatenates_S8x5x640x256x1_S8x5x640x256x1_S8x5x640x256x1_S8x5x640x256x3_d4 =
      concatenate S8x5x640x256x3 4 [⟨S8x5x640x256x1, a'⟩, ⟨S8x5x640x256x1, b'⟩, ⟨S8x5x640x256x1, d'⟩]
        concatenates_S8x5x640x256x1_S8x5x640x256x1_S8x5x640x256x1_S8x5x640x256x3_d4 := by
  rw [ha, hb, hd]

set_option maxHeartbeats 8000000 in
theorem table_eq (m : (ℓ : Loc nD τ sig) → Buf (Elt F) ℓ) (c : Dev nD) :
    V m c main_v89 = tableV (m ((c : Thread nD τ).loc main_arg2)) := by
  unfold V
  after_results_simp
  simp only [tableV]
  refine congrArg₂ (fun a b => select a b _) rfl (congrArg₂ Host.divf ?_ rfl)
  simp only [readV]
  refine congrArg _ (join_congr ?_ ?_ ?_)
  · show HloOp.result _ _ (Proc.tc.devRef main_v80) = _
    after_results_simp
    rfl
  · show HloOp.result _ _ (Proc.tc.devRef main_v81) = _
    after_results_simp
    rfl
  · show HloOp.result _ _ (Proc.tc.devRef main_v82) = _
    after_results_simp
    rfl

end Cert.KernelIdeal.Table
-- ==== Proof.BiasValue.lean ====
/-
  The entries of the bias tables: at a key of the query's window its relative position bias over the logarithm of two, else the
  least value.
-/
module

public import proofs.«01_k».proof.Proof.BiasTerm
public import proofs.«01_k».proof.Proof.Window
public import Idealize.ShloMosaic.Lib.Pipeline.ValueKit
public import Idealize.ShloMosaic.Lib.StableHlo.ReadAt

@[expose] public section

set_option maxRecDepth 16384

noncomputable section

namespace Cert.KernelIdeal.Table

open Idealize.ShloMosaic Idealize.ShloMosaic.TcCoe Idealize.ShloMosaic.Tactic Idealize.SL.Sem
open Cert.KernelIdeal Cert.KernelIdeal.Gen Cert.Window

/-! ## The words, one entry at a time -/

/-- The tile of queries that table `v` stands for. -/
def tileOf (v : ℕ) : ℕ := if v < 3 then v else v + 27

/-- The row of key `n` of table `v`'s band. -/
def kr (v n : ℕ) : ℕ := min (2 * tileOf v - 4) 54 + n / 64

/-- The row of query `r` of table `v`'s tile. -/
def qr (v r : ℕ) : ℕ := 2 * tileOf v + r % 128 / 64

theorem kr_lt {v n : ℕ} (hn : n < 640) : kr v n < 64 := by unfold kr; omega

theorem qr_lt {v r : ℕ} (hv : v < 5) : qr v r < 64 := by unfold qr tileOf; split <;> omega

abbrev w32 (n : ℕ) : BitVec 32 := BitVec.ofNat 32 n

theorem kRowV_apply (p : Fin 8) (v : Fin 5) (n : Fin 640) (r : Fin 256) : kRowV (ix4 p v n r) = w32 (kr v.val n.val) := by
  pointwise [kRowV, tileV, wordV]
  revert v n; decide +kernel

theorem kColV_apply (p : Fin 8) (v : Fin 5) (n : Fin 640) (r : Fin 256) : kColV (ix4 p v n r) = w32 (n.val % 64) := by
  pointwise [kColV, wordV]
  revert n; decide +kernel

theorem qRowV_apply (p : Fin 8) (v : Fin 5) (n : Fin 640) (r : Fin 256) : qRowV (ix4 p v n r) = w32 (qr v.val r.val) := by
  pointwise [qRowV, tileV, wordV]
  revert v r; decide +kernel

theorem qColV_apply (p : Fin 8) (v : Fin 5) (n : Fin 640) (r : Fin 256) : qColV (ix4 p v n r) = w32 (r.val % 64) := by
  pointwise [qColV, wordV]
  revert r; decide +kernel

theorem headV_apply (p : Fin 8) (v : Fin 5) (n : Fin 640) (r : Fin 256) : headV (ix4 p v n r) = w32 (2 * p.val + r.val / 128) := by
  pointwise [headV, wordV]
  revert p r; decide +kernel

theorem rs_word : ∀ q : Fin 64, IntOp.minsi (IntOp.maxsi (IntOp.subi (w32 q.val) 4#32) 0#32) 56#32 = w32 (rs q.val) := by decide +kernel

theorem cs_word : ∀ q : Fin 64, IntOp.minsi (IntOp.maxsi (IntOp.subi (w32 q.val) 8#32) 0#32) 48#32 = w32 (cs q.val) := by decide +kernel

theorem rsV_apply (p : Fin 8) (v : Fin 5) (n : Fin 640) (r : Fin 256) : rsV (ix4 p v n r) = w32 (rs (qr v.val r.val)) := by
  pointwise [rsV, wordV]
  rw [qRowV_apply]
  exact rs_word ⟨_, qr_lt v.isLt⟩

theorem csV_apply (p : Fin 8) (v : Fin 5) (n : Fin 640) (r : Fin 256) : csV (ix4 p v n r) = w32 (cs (r.val % 64)) := by
  pointwise [csV, wordV]
  rw [qColV_apply]
  exact cs_word ⟨_, Nat.mod_lt _ (by decide)⟩

theorem ge_word : ∀ a b : Fin 64, IntOp.cmpi CmpIPredicate.sge (w32 a.val) (w32 b.val) = if b.val ≤ a.val then 1#1 else 0#1 := by decide +kernel

theorem lt_word8 : ∀ a b : Fin 64, IntOp.cmpi CmpIPredicate.slt (w32 a.val) (IntOp.addi (w32 b.val) 8#32) = if a.val < b.val + 8 then 1#1 else 0#1 := by decide +kernel

theorem lt_word16 : ∀ a b : Fin 64, IntOp.cmpi CmpIPredicate.slt (w32 a.val) (IntOp.addi (w32 b.val) 16#32) = if a.val < b.val + 16 then 1#1 else 0#1 := by decide +kernel

/-- Whether key `n` is in the window of query `r` of table `v`. -/
def Inside (v n r : ℕ) : Prop :=
  ((rs (qr v r) ≤ kr v n ∧ kr v n < rs (qr v r) + 8) ∧ cs (r % 64) ≤ n % 64) ∧ n % 64 < cs (r % 64) + 16

instance (v n r : ℕ) : Decidable (Inside v n r) := by unfold Inside; infer_instance

theorem andi_ite (P Q : Prop) [Decidable P] [Decidable Q] :
    IntOp.andi (if P then 1#1 else 0#1) (if Q then 1#1 else 0#1) = if P ∧ Q then 1#1 else 0#1 := by
  by_cases hP : P <;> by_cases hQ : Q <;> simp only [hP, hQ, if_true, if_false, and_self, and_true, true_and, and_false] <;> decide

theorem insideV_apply (p : Fin 8) (v : Fin 5) (n : Fin 640) (r : Fin 256) :
    insideV (ix4 p v n r) = if Inside v.val n.val r.val then 1#1 else 0#1 := by
  pointwise [insideV, wordV]
  rw [kRowV_apply, kColV_apply, rsV_apply, csV_apply]
  have hk := kr_lt (v := v.val) n.isLt
  have hr : rs (qr v.val r.val) < 64 := by unfold rs; omega
  have hn : n.val % 64 < 64 := by omega
  have hc : cs (r.val % 64) < 64 := by unfold cs; omega
  have e1 := ge_word ⟨_, hk⟩ ⟨_, hr⟩
  have e2 := lt_word8 ⟨_, hk⟩ ⟨_, hr⟩
  have e3 := ge_word ⟨_, hn⟩ ⟨_, hc⟩
  have e4 := lt_word16 ⟨_, hn⟩ ⟨_, hc⟩
  simp only at e1 e2 e3 e4
  rw [e1, e2, e3, e4, andi_ite, andi_ite, andi_ite]
  exact if_congr Iff.rfl rfl rfl

/-! ## The coordinates of a key in the window -/

theorem head_wrap : ∀ h : Fin 16, Scalar.select (IntOp.cmpi CmpIPredicate.slt (w32 h.val) 0#32) (IntOp.addi (w32 h.val) 16#32) (w32 h.val) = w32 h.val := by
  decide +kernel

theorem row_wrap : ∀ k q : Fin 64, rs q.val ≤ k.val → k.val < rs q.val + 8 →
    Scalar.select (IntOp.cmpi CmpIPredicate.slt (IntOp.addi (IntOp.subi (w32 k.val) (w32 q.val)) 7#32) 0#32)
      (IntOp.addi (IntOp.addi (IntOp.subi (w32 k.val) (w32 q.val)) 7#32) 15#32) (IntOp.addi (IntOp.subi (w32 k.val) (w32 q.val)) 7#32) =
      w32 (k.val + 7 - q.val) := by
  decide +kernel

theorem col_wrap : ∀ k q : Fin 64, cs q.val ≤ k.val → k.val < cs q.val + 16 →
    Scalar.select (IntOp.cmpi CmpIPredicate.slt (IntOp.addi (IntOp.subi (w32 k.val) (w32 q.val)) 15#32) 0#32)
      (IntOp.addi (IntOp.addi (IntOp.subi (w32 k.val) (w32 q.val)) 15#32) 31#32) (IntOp.addi (IntOp.subi (w32 k.val) (w32 q.val)) 15#32) =
      w32 (k.val + 15 - q.val) := by
  decide +kernel

/-- A small word read signed and clamped is its number. -/
theorem clamp_word {n N : ℕ} (h : n < N) (hN : N < 2 ^ 31) : min (BitVec.ofNat 32 n).toInt.toNat (N - 1) = n := by
  have e : (BitVec.ofNat 32 n).toInt = n := by
    rw [BitVec.toInt_eq_toNat_cond, BitVec.toNat_ofNat, Nat.mod_eq_of_lt (by omega)]
    rw [if_pos (by omega)]
  rw [e]; simp; omega

/-- The bias's gather, at one entry. -/
theorem read_gather {α : Type} (x : S16x15x31.Idx → α) (idx : IVec S8x5x640x256x3 32) (p : Fin 8) (v : Fin 5) (n : Fin 640) (r : Fin 256)
    (h : Fin 16) (a : Fin 15) (b : Fin 31) (hh : idx (ix5 p v n r (0 : Fin 3)) = w32 h.val) (ha : idx (ix5 p v n r (1 : Fin 3)) = w32 a.val)
    (hb : idx (ix5 p v n r (2 : Fin 3)) = w32 b.val) :
    Host.gather gather_S16x15x31_S8x5x640x256x3_S8x5x640x256_n_012_n_n_012_4_111 x idx (ix4 p v n r) = x (ix3 h a b) := by
  unfold Host.gather
  refine congrArg x (funext fun i => Fin.ext ?_)
  show GatherDims.start _ (ix4 p v n r) idx i + GatherDims.batchCoord _ (ix4 p v n r) i + GatherDims.offCoord _ (ix4 p v n r) i = _
  rw [GatherDims.batchCoord_eq_zero _ _ _ List.not_mem_nil]
  match i with
  | ⟨0, _⟩ =>
    show min (idx _).toInt.toNat (16 - 1) + 0 + 0 = h.val
    refine (congrArg (fun v : BitVec 32 => min v.toInt.toNat (16 - 1)) (Eq.trans (congrArg idx (funext fun c => Fin.ext ?_)) hh)).trans (clamp_word h.isLt (by omega))
    match c with
    | ⟨0, _⟩ => rfl
    | ⟨1, _⟩ => rfl
    | ⟨2, _⟩ => rfl
    | ⟨3, _⟩ => rfl
    | ⟨4, _⟩ => rfl
  | ⟨1, _⟩ =>
    show min (idx _).toInt.toNat (15 - 1) + 0 + 0 = a.val
    refine (congrArg (fun v : BitVec 32 => min v.toInt.toNat (15 - 1)) (Eq.trans (congrArg idx (funext fun c => Fin.ext ?_)) ha)).trans (clamp_word a.isLt (by omega))
    match c with
    | ⟨0, _⟩ => rfl
    | ⟨1, _⟩ => rfl
    | ⟨2, _⟩ => rfl
    | ⟨3, _⟩ => rfl
    | ⟨4, _⟩ => rfl
  | ⟨2, _⟩ =>
    show min (idx _).toInt.toNat (31 - 1) + 0 + 0 = b.val
    refine (congrArg (fun v : BitVec 32 => min v.toInt.toNat (31 - 1)) (Eq.trans (congrArg idx (funext fun c => Fin.ext ?_)) hb)).trans (clamp_word b.isLt (by omega))
    match c with
    | ⟨0, _⟩ => rfl
    | ⟨1, _⟩ => rfl
    | ⟨2, _⟩ => rfl
    | ⟨3, _⟩ => rfl
    | ⟨4, _⟩ => rfl

/-- The bias of a key in the window. -/
theorem readV_apply {F : FTy → Type} [FloatOps F] (rpb : FVec F S16x15x31 .f32) (p : Fin 8) (v : Fin 5) (n : Fin 640) (r : Fin 256)
    (h : Fin 16) (a : Fin 15) (b : Fin 31) (hh : h.val = 2 * p.val + r.val / 128)
    (ha : a.val = kr v.val n.val + 7 - qr v.val r.val) (hb : b.val = n.val % 64 + 15 - r.val % 64)
    (hi : Inside v.val n.val r.val) : readV rpb (ix4 p v n r) = rpb (ix3 h a b) := by
  have hk := kr_lt (v := v.val) n.isLt
  obtain ⟨⟨⟨i1, i2⟩, i3⟩, i4⟩ := hi
  refine read_gather rpb _ p v n r h a b ?_ ?_ ?_
  · pointwise [coordV, wrapV, wordV]
    rw [headV_apply, ← hh]
    exact head_wrap h
  · pointwise [coordV, wrapV, wordV]
    rw [kRowV_apply, qRowV_apply, ha]
    exact row_wrap ⟨_, hk⟩ ⟨_, qr_lt v.isLt⟩ i1 i2
  · pointwise [coordV, wrapV, wordV]
    rw [kColV_apply, qColV_apply, hb]
    exact col_wrap ⟨_, Nat.mod_lt _ (by decide)⟩ ⟨_, Nat.mod_lt _ (by decide)⟩ i3 i4

/-- The logarithm of the word of two. -/
theorem log_word : Ideal.log (Ideal.ofBits FTy.f32 1073741824#32) = ((Real.log 2 : ℝ) : EReal) := by
  have h : Ideal.ofBits FTy.f32 1073741824#32 = ((2 : ℝ) : EReal) := by
    simp [Ideal.ofBits, Ideal.ieee, -EReal.coe_mul]; norm_num
  rw [h]
  show (if (2 : ℝ) ≤ 0 then (⊥ : EReal) else ((Real.log 2 : ℝ) : EReal)) = _
  rw [if_neg (by norm_num)]

/-- The table at a key in the window. -/
theorem table_inside (rpb : FVec Ideal S16x15x31 .f32) (p : Fin 8) (v : Fin 5) (n : Fin 640) (r : Fin 256)
    (h : Fin 16) (a : Fin 15) (b : Fin 31) (hh : h.val = 2 * p.val + r.val / 128)
    (ha : a.val = kr v.val n.val + 7 - qr v.val r.val) (hb : b.val = n.val % 64 + 15 - r.val % 64)
    (hi : Inside v.val n.val r.val) : tableV rpb (ix4 p v n r) = Ideal.div (rpb (ix3 h a b)) (Real.log 2 : ℝ) := by
  have e := readV_apply rpb p v n r h a b hh ha hb hi
  pointwise [tableV]
  rw [insideV_apply, if_pos hi, e, log_word]
  rfl

/-- The table at a key out of the window. -/
theorem table_outside (rpb : FVec Ideal S16x15x31 .f32) (p : Fin 8) (v : Fin 5) (n : Fin 640) (r : Fin 256)
    (hi : ¬ Inside v.val n.val r.val) : tableV rpb (ix4 p v n r) = (⊥ : EReal) := by
  pointwise [tableV]
  rw [insideV_apply, if_neg hi]
  show Ideal.ofBits FTy.f32 4286578688#32 = _
  simp [Ideal.ofBits, Ideal.ieee]

end Cert.KernelIdeal.Table
-- ==== Proof.RefTerm.lean ====
/-
  The reference's result, its one composed term cut into named stages.
-/
module

public import proofs.«01_k».proof.Proof.Gen.ReferenceIdeal.Run

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Cert.ReferenceIdeal.Value

variable {F : FTy → Type} [FloatOps F]

/-! ## The window's tokens -/

/-- A word at every query and window place. -/
def wordV (w : BitVec 32) : IVec S4096x128 32 := broadcastInDim S4096x128 ![] bcast_S_S4096x128 (constantI S_ 32 w)

/-- The query's row on the grid. -/
def rowV : IVec S4096x128 32 := Host.divsi (iotaInDim S4096x128 32 0) (wordV 64#32)

/-- The query's column on the grid. -/
def colV : IVec S4096x128 32 := Host.remsi (iotaInDim S4096x128 32 0) (wordV 64#32)

/-- The row of a key of the window. -/
def kRowV : IVec S4096x128 32 :=
  addi (minsi (wordV 56#32) (maxsi (wordV 0#32) (subi rowV (wordV 4#32)))) (Host.divsi (iotaInDim S4096x128 32 1) (wordV 16#32))

/-- The column of a key of the window. -/
def kColV : IVec S4096x128 32 :=
  addi (minsi (wordV 48#32) (maxsi (wordV 0#32) (subi colV (wordV 8#32)))) (Host.remsi (iotaInDim S4096x128 32 1) (wordV 16#32))

/-- The token of a key of the window. -/
def kTokV : IVec S4096x128 32 := addi (muli kRowV (wordV 64#32)) kColV

/-- An index of an axis of `n`, counted from its end where it is negative. -/
def wrapV (n : BitVec 32) (x : IVec S4096x128 32) : IVec S4096x128 32 := select (cmpi .slt x (wordV 0#32)) (addi x (wordV n)) x

/-- A word of each query and window place as the one coordinate of an index. -/
def coordV (x : IVec S4096x128 32) : IVec S4096x128x1 32 := broadcastInDim S4096x128x1 ![0, 1] bcast_S4096x128_S4096x128x1_0_1 x

/-- The rows of an array of tokens that the windows read. -/
def windowV (x : FVec F S8x4096x16x64 .f32) : FVec F S8x4096x128x16x64 .f32 :=
  Host.gather gather_S8x4096x16x64_S4096x128x1_S8x4096x128x16x64_034_1_n_n_1_2_811664 x (coordV (wrapV 4096#32 kTokV))

/-- The relative position bias of a key of the window. -/
def biasV (rpb : FVec F S16x15x31 .f32) : FVec F S16x4096x128 .f32 :=
  Host.gather gather_S16x15x31_S4096x128x2_S16x4096x128_0_12_n_n_12_2_1611 rpb
    (concatenate S4096x128x2 2 [⟨S4096x128x1, coordV (wrapV 15#32 (addi (subi kRowV rowV) (wordV 7#32)))⟩,
      ⟨S4096x128x1, coordV (wrapV 31#32 (addi (subi kColV colV) (wordV 15#32)))⟩] concatenates_S4096x128x1_S4096x128x1_S4096x128x2_d2)

/-! ## The heads -/

/-- The queries, times the logarithm of two. -/
def queryV (z : FVec F S8x4096x8192 .bf16) : FVec F S8x4096x16x64 .f32 :=
  mulf (shapeCast S8x4096x16x64 (extractStridedSlice S8x4096x1024 ![0, 0, 4096] (extf .f32 z bitsLt_bf16_f32) slices_S8x4096x8192_S8x4096x1024_0_0_4096) shapeCasts_S8x4096x1024_S8x4096x16x64)
    (broadcastInDim S8x4096x16x64 ![] bcast_S_S8x4096x16x64 (Host.log (constant S_ .f32 0x40000000#32)))

def keyV (z : FVec F S8x4096x8192 .bf16) : FVec F S8x4096x16x64 .f32 :=
  shapeCast S8x4096x16x64 (extractStridedSlice S8x4096x1024 ![0, 0, 5120] (extf .f32 z bitsLt_bf16_f32) slices_S8x4096x8192_S8x4096x1024_0_0_5120) shapeCasts_S8x4096x1024_S8x4096x16x64

def valueV (z : FVec F S8x4096x8192 .bf16) : FVec F S8x4096x16x64 .f32 :=
  shapeCast S8x4096x16x64 (extractStridedSlice S8x4096x1024 ![0, 0, 6144] (extf .f32 z bitsLt_bf16_f32) slices_S8x4096x8192_S8x4096x1024_0_0_6144) shapeCasts_S8x4096x1024_S8x4096x16x64

def ctxKeyV (zc : FVec F S8x256x8192 .bf16) : FVec F S8x256x16x64 .f32 :=
  shapeCast S8x256x16x64 (extractStridedSlice S8x256x1024 ![0, 0, 5120] (extf .f32 zc bitsLt_bf16_f32) slices_S8x256x8192_S8x256x1024_0_0_5120) shapeCasts_S8x256x1024_S8x256x16x64

def ctxValueV (zc : FVec F S8x256x8192 .bf16) : FVec F S8x256x16x64 .f32 :=
  shapeCast S8x256x16x64 (extractStridedSlice S8x256x1024 ![0, 0, 6144] (extf .f32 zc bitsLt_bf16_f32) slices_S8x256x8192_S8x256x1024_0_0_6144) shapeCasts_S8x256x1024_S8x256x16x64

/-! ## The softmax -/

/-- The scores of the window's keys and of the context's. -/
def scoreV (q : FVec F S8x4096x16x64 .f32) (kw : FVec F S8x4096x128x16x64 .f32) (b : FVec F S16x4096x128 .f32) (kc : FVec F S8x256x16x64 .f32) :
    FVec F S8x16x4096x384 .f32 :=
  concatenate S8x16x4096x384 3 [
    ⟨S8x16x4096x128, addf (Host.dotGeneral dot_S8x4096x16x64_S8x4096x128x16x64_S8x16x4096x128_3_4_n_2_021_031 none q kw)
      (broadcastInDim S8x16x4096x128 ![0, 1, 2, 3] bcast_S1x16x4096x128_S8x16x4096x128_0_1_2_3
        (broadcastInDim S1x16x4096x128 ![1, 2, 3] bcast_S16x4096x128_S1x16x4096x128_1_2_3 b))⟩,
    ⟨S8x16x4096x256, Host.dotGeneral dot_S8x4096x16x64_S8x256x16x64_S8x16x4096x256_3_3_1_1_02_02 none q kc⟩]
    concatenates_S8x16x4096x128_S8x16x4096x256_S8x16x4096x384_d3

/-- The exponential of the scores less their largest. -/
def expV (s : FVec F S8x16x4096x384 .f32) : FVec F S8x16x4096x384 .f32 :=
  Host.exp (subf s (broadcastInDim S8x16x4096x384 ![0, 1, 2, 3] bcast_S8x16x4096x1_S8x16x4096x384_0_1_2_3
    (broadcastInDim S8x16x4096x1 ![0, 1, 2] bcast_S8x16x4096_S8x16x4096x1_0_1_2
      (Host.reduce FloatOps.maximumf s (constant S_ .f32 0xFF800000#32) reducesTo_S8x16x4096x384_S8x16x4096_d3 h_S_))))

/-- The weights. -/
def probV (e : FVec F S8x16x4096x384 .f32) : FVec F S8x16x4096x384 .f32 :=
  mulf e (broadcastInDim S8x16x4096x384 ![0, 1, 2, 3] bcast_S8x16x4096x1_S8x16x4096x384_0_1_2_3
    (Host.divf (broadcastInDim S8x16x4096x1 ![] bcast_S_S8x16x4096x1 (constant S_ .f32 0x3F800000#32))
      (broadcastInDim S8x16x4096x1 ![0, 1, 2] bcast_S8x16x4096_S8x16x4096x1_0_1_2
        (Host.reduceAdd e (constant S_ .f32 0x00000000#32) reducesTo_S8x16x4096x384_S8x16x4096_d3 h_S_))))

/-- The weighted values. -/
def mixV (p : FVec F S8x16x4096x384 .f32) (vw : FVec F S8x4096x128x16x64 .f32) (vc : FVec F S8x256x16x64 .f32) : FVec F S8x4096x16x64 .f32 :=
  addf (Host.dotGeneral dot_S8x16x4096x128_S8x4096x128x16x64_S8x4096x16x64_3_2_n_4_021_013 none
      (extractStridedSlice S8x16x4096x128 ![0, 0, 0, 0] p slices_S8x16x4096x384_S8x16x4096x128_0_0_0_0) vw)
    (transpose S8x4096x16x64 [0, 3, 1, 2]
      (Host.dotGeneral dot_S8x256x16x64_S8x16x4096x256_S8x16x64x4096_1_3_3_2_02_01 none vc
        (extractStridedSlice S8x16x4096x256 ![0, 0, 0, 128] p slices_S8x16x4096x384_S8x16x4096x256_0_0_0_128))
      transposes_S8x16x64x4096_S8x4096x16x64_0_3_1_2)

/-- The gate's argument. -/
def gateV (z : FVec F S8x4096x8192 .bf16) : FVec F S8x4096x1024 .f32 :=
  extractStridedSlice S8x4096x1024 ![0, 0, 7168] (extf .f32 z bitsLt_bf16_f32) slices_S8x4096x8192_S8x4096x1024_0_0_7168

/-- One at every entry of the result. -/
def oneV : FVec F S8x4096x1024 .f32 := broadcastInDim S8x4096x1024 ![] bcast_S_S8x4096x1024 (constant S_ .f32 0x3F800000#32)

/-- `x · sigmoid x`. -/
def siluV (x : FVec F S8x4096x1024 .f32) : FVec F S8x4096x1024 .f32 := mulf x (Host.divf oneV (addf oneV (Host.exp (Host.negf x))))

/-- The whole result. -/
def resultV (z : FVec F S8x4096x8192 .bf16) (zc : FVec F S8x256x8192 .bf16) (rpb : FVec F S16x15x31 .f32) : FVec F S8x4096x1024 .bf16 :=
  truncf .bf16 (mulf (shapeCast S8x4096x1024
      (mixV (probV (expV (scoreV (queryV z) (windowV (keyV z)) (biasV rpb) (ctxKeyV zc)))) (windowV (valueV z)) (ctxValueV zc))
      shapeCasts_S8x4096x16x64_S8x4096x1024) (siluV (gateV z))) bitsLt_bf16_f32

set_option maxHeartbeats 4000000 in
theorem result_eq (m : (ℓ : Loc nD τ sig) → Buf (Elt F) ℓ) (c : Dev nD) :
    res_main_v97 m c = resultV (m ((c.tc : Thread nD τ).loc main_arg0)) (m ((c.tc : Thread nD τ).loc main_arg1)) (m ((c.tc : Thread nD τ).loc main_arg2)) := rfl

end Cert.ReferenceIdeal.Attn
-- ==== Proof.RefWords.lean ====
/-
  The reference's window tokens and bias coordinates as numbers, and what its gathers read.
-/
module

public import proofs.«01_k».proof.Proof.RefTerm
public import proofs.«01_k».proof.Proof.Window
public import Idealize.ShloMosaic.Lib.Pipeline.ValueKit

@[expose] public section

set_option maxRecDepth 16384

noncomputable section

namespace Cert.ReferenceIdeal.Attn

open Idealize.ShloMosaic Idealize.ShloMosaic.TcCoe Idealize.ShloMosaic.Tactic Idealize.SL.Sem
open Cert.ReferenceIdeal Cert.ReferenceIdeal.Gen Cert.Window

/-! ## The words, one query and window place at a time -/

theorem divsi64 : ∀ q : Fin 4096, IntOp.divsi ArithUnit.host (BitVec.ofNat 32 q.val) 64#32 = BitVec.ofNat 32 (q.val / 64) := by decide +kernel

theorem remsi64 : ∀ q : Fin 4096, IntOp.remsi ArithUnit.host (BitVec.ofNat 32 q.val) 64#32 = BitVec.ofNat 32 (q.val % 64) := by decide +kernel

theorem kRow_word : ∀ (r : Fin 64) (w : Fin 128), IntOp.addi (IntOp.minsi 56#32 (IntOp.maxsi 0#32 (IntOp.subi (BitVec.ofNat 32 r.val) 4#32)))
    (IntOp.divsi ArithUnit.host (BitVec.ofNat 32 w.val) 16#32) = BitVec.ofNat 32 (kRow r.val w.val) := by decide +kernel

theorem kCol_word : ∀ (c : Fin 64) (w : Fin 128), IntOp.addi (IntOp.minsi 48#32 (IntOp.maxsi 0#32 (IntOp.subi (BitVec.ofNat 32 c.val) 8#32)))
    (IntOp.remsi ArithUnit.host (BitVec.ofNat 32 w.val) 16#32) = BitVec.ofNat 32 (kCol c.val w.val) := by decide +kernel

theorem kTok_word : ∀ (r c : Fin 64), Scalar.select (IntOp.cmpi CmpIPredicate.slt (IntOp.addi (IntOp.muli (BitVec.ofNat 32 r.val) 64#32) (BitVec.ofNat 32 c.val)) 0#32)
    (IntOp.addi (IntOp.addi (IntOp.muli (BitVec.ofNat 32 r.val) 64#32) (BitVec.ofNat 32 c.val)) 4096#32)
    (IntOp.addi (IntOp.muli (BitVec.ofNat 32 r.val) 64#32) (BitVec.ofNat 32 c.val)) = BitVec.ofNat 32 (r.val * 64 + c.val) := by decide +kernel

theorem dRow_word : ∀ (r : Fin 64) (w : Fin 128), Scalar.select (IntOp.cmpi CmpIPredicate.slt (IntOp.addi (IntOp.subi (BitVec.ofNat 32 (kRow r.val w.val)) (BitVec.ofNat 32 r.val)) 7#32) 0#32)
    (IntOp.addi (IntOp.addi (IntOp.subi (BitVec.ofNat 32 (kRow r.val w.val)) (BitVec.ofNat 32 r.val)) 7#32) 15#32)
    (IntOp.addi (IntOp.subi (BitVec.ofNat 32 (kRow r.val w.val)) (BitVec.ofNat 32 r.val)) 7#32) = BitVec.ofNat 32 (dRow r.val w.val) := by decide +kernel

theorem dCol_word : ∀ (c : Fin 64) (w : Fin 128), Scalar.select (IntOp.cmpi CmpIPredicate.slt (IntOp.addi (IntOp.subi (BitVec.ofNat 32 (kCol c.val w.val)) (BitVec.ofNat 32 c.val)) 15#32) 0#32)
    (IntOp.addi (IntOp.addi (IntOp.subi (BitVec.ofNat 32 (kCol c.val w.val)) (BitVec.ofNat 32 c.val)) 15#32) 31#32)
    (IntOp.addi (IntOp.subi (BitVec.ofNat 32 (kCol c.val w.val)) (BitVec.ofNat 32 c.val)) 15#32) = BitVec.ofNat 32 (dCol c.val w.val) := by decide +kernel

theorem rowV_apply (q : Fin 4096) (w : Fin 128) : rowV (ix2 q w) = BitVec.ofNat 32 (q.val / 64) := by
  pointwise [rowV, wordV]; exact divsi64 q

theorem colV_apply (q : Fin 4096) (w : Fin 128) : colV (ix2 q w) = BitVec.ofNat 32 (q.val % 64) := by
  pointwise [colV, wordV]; exact remsi64 q

theorem kRowV_apply (q : Fin 4096) (w : Fin 128) : kRowV (ix2 q w) = BitVec.ofNat 32 (kRow (q.val / 64) w.val) := by
  pointwise [kRowV, wordV]; rw [rowV_apply]; exact kRow_word ⟨q.val / 64, by omega⟩ w

theorem kColV_apply (q : Fin 4096) (w : Fin 128) : kColV (ix2 q w) = BitVec.ofNat 32 (kCol (q.val % 64) w.val) := by
  pointwise [kColV, wordV]; rw [colV_apply]; exact kCol_word ⟨q.val % 64, by omega⟩ w

/-- The window's tokens, as the gathers take them. -/
theorem token_apply (q : Fin 4096) (w : Fin 128) :
    coordV (wrapV 4096#32 kTokV) (ix3 q w (0 : Fin 1)) = BitVec.ofNat 32 (kTok q.val w.val) := by
  pointwise [coordV, wrapV, kTokV, wordV]
  rw [kRowV_apply, kColV_apply]
  exact kTok_word ⟨_, kRow_lt w.isLt⟩ ⟨_, kCol_lt⟩

/-- The relative rows, as the bias's gather takes them. -/
theorem dRowV_apply (q : Fin 4096) (w : Fin 128) :
    coordV (wrapV 15#32 (addi (subi kRowV rowV) (wordV 7#32))) (ix3 q w (0 : Fin 1)) = BitVec.ofNat 32 (dRow (q.val / 64) w.val) := by
  pointwise [coordV, wrapV, wordV]
  rw [kRowV_apply, rowV_apply]
  exact dRow_word ⟨q.val / 64, by omega⟩ w

/-- The relative columns, as the bias's gather takes them. -/
theorem dColV_apply (q : Fin 4096) (w : Fin 128) :
    coordV (wrapV 31#32 (addi (subi kColV colV) (wordV 15#32))) (ix3 q w (0 : Fin 1)) = BitVec.ofNat 32 (dCol (q.val % 64) w.val) := by
  pointwise [coordV, wrapV, wordV]
  rw [kColV_apply, colV_apply]
  exact dCol_word ⟨q.val % 64, by omega⟩ w

/-! ## The gathers -/

/-- A small word read signed and clamped is its number. -/
theorem clamp_word {n N : ℕ} (h : n < N) (hN : N < 2 ^ 31) : min (BitVec.ofNat 32 n).toInt.toNat (N - 1) = n := by
  have e : (BitVec.ofNat 32 n).toInt = n := by
    rw [BitVec.toInt_eq_toNat_cond, BitVec.toNat_ofNat, Nat.mod_eq_of_lt (by omega)]
    rw [if_pos (by omega)]
  rw [e]; simp; omega

/-- The rows a window reads, at one key. -/
theorem window_gather {α : Type} (x : S8x4096x16x64.Idx → α) (idx : IVec S4096x128x1 32) (b : Fin 8) (q : Fin 4096) (w : Fin 128) (h : Fin 16) (d : Fin 64)
    (k : Fin 4096) (hk : idx (ix3 q w (0 : Fin 1)) = BitVec.ofNat 32 k.val) :
    Host.gather gather_S8x4096x16x64_S4096x128x1_S8x4096x128x16x64_034_1_n_n_1_2_811664 x idx (ix5 b q w h d) = x (ix4 b k h d) := by
  unfold Host.gather
  refine congrArg x (funext fun a => Fin.ext ?_)
  show GatherDims.start _ (ix5 b q w h d) idx a + GatherDims.batchCoord _ (ix5 b q w h d) a + GatherDims.offCoord _ (ix5 b q w h d) a = _
  rw [GatherDims.batchCoord_eq_zero _ _ _ List.not_mem_nil]
  match a with
  | ⟨0, _⟩ => exact (Nat.zero_add _).trans rfl
  | ⟨1, _⟩ =>
    show min (idx _).toInt.toNat (4096 - 1) + 0 + 0 = k.val
    refine (congrArg (fun v : BitVec 32 => min v.toInt.toNat (4096 - 1)) (Eq.trans (congrArg idx (funext fun c => Fin.ext ?_)) hk)).trans (clamp_word k.isLt (by omega))
    match c with
    | ⟨0, _⟩ => rfl
    | ⟨1, _⟩ => rfl
    | ⟨2, _⟩ => rfl
  | ⟨2, _⟩ => exact (Nat.zero_add _).trans rfl
  | ⟨3, _⟩ => exact (Nat.zero_add _).trans rfl

/-- The bias's gather, at one key. -/
theorem bias_gather {α : Type} (x : S16x15x31.Idx → α) (idx : IVec S4096x128x2 32) (h : Fin 16) (q : Fin 4096) (w : Fin 128)
    (r : Fin 15) (c : Fin 31) (hr : idx (ix3 q w (0 : Fin 2)) = BitVec.ofNat 32 r.val) (hc : idx (ix3 q w (1 : Fin 2)) = BitVec.ofNat 32 c.val) :
    Host.gather gather_S16x15x31_S4096x128x2_S16x4096x128_0_12_n_n_12_2_1611 x idx (ix3 h q w) = x (ix3 h r c) := by
  unfold Host.gather
  refine congrArg x (funext fun a => Fin.ext ?_)
  show GatherDims.start _ (ix3 h q w) idx a + GatherDims.batchCoord _ (ix3 h q w) a + GatherDims.offCoord _ (ix3 h q w) a = _
  rw [GatherDims.batchCoord_eq_zero _ _ _ List.not_mem_nil]
  match a with
  | ⟨0, _⟩ => exact (Nat.zero_add _).trans rfl
  | ⟨1, _⟩ =>
    show min (idx _).toInt.toNat (15 - 1) + 0 + 0 = r.val
    refine (congrArg (fun v : BitVec 32 => min v.toInt.toNat (15 - 1)) (Eq.trans (congrArg idx (funext fun c => Fin.ext ?_)) hr)).trans (clamp_word r.isLt (by omega))
    match c with
    | ⟨0, _⟩ => rfl
    | ⟨1, _⟩ => rfl
    | ⟨2, _⟩ => rfl
  | ⟨2, _⟩ =>
    show min (idx _).toInt.toNat (31 - 1) + 0 + 0 = c.val
    refine (congrArg (fun v : BitVec 32 => min v.toInt.toNat (31 - 1)) (Eq.trans (congrArg idx (funext fun c => Fin.ext ?_)) hc)).trans (clamp_word c.isLt (by omega))
    match c with
    | ⟨0, _⟩ => rfl
    | ⟨1, _⟩ => rfl
    | ⟨2, _⟩ => rfl

variable {F : FTy → Type} [FloatOps F]

/-- A window's rows, at one key. -/
theorem windowV_apply (x : FVec F S8x4096x16x64 .f32) (b : Fin 8) (q : Fin 4096) (w : Fin 128) (h : Fin 16) (d : Fin 64) :
    windowV x (ix5 b q w h d) = x (ix4 b (⟨kTok q.val w.val, kTok_lt w.isLt⟩ : Fin 4096) h d) :=
  window_gather x _ b q w h d ⟨_, kTok_lt w.isLt⟩ (token_apply q w)

/-- The bias, at one key. -/
theorem biasV_apply (rpb : FVec F S16x15x31 .f32) (h : Fin 16) (q : Fin 4096) (w : Fin 128) :
    biasV rpb (ix3 h q w) = rpb (ix3 h (⟨dRow (q.val / 64) w.val, dRow_lt (by omega) w.isLt⟩ : Fin 15) (⟨dCol (q.val % 64) w.val, dCol_lt (by omega)⟩ : Fin 31)) := by
  refine bias_gather rpb _ h q w ⟨_, dRow_lt (by omega) w.isLt⟩ ⟨_, dCol_lt (by omega)⟩ ?_ ?_
  · pointwise; exact dRowV_apply q w
  · pointwise; exact dColV_apply q w

end Cert.ReferenceIdeal.Attn
-- ==== Proof.RefValue.lean ====
/-
  The reference's result, one entry at a time: a softmax over the 128 keys of the query's window and the context's 256.
-/
module

public import proofs.«01_k».proof.Proof.RefWords
public import proofs.«01_k».proof.Proof.Softmax

@[expose] public section

set_option maxRecDepth 16384

noncomputable section

namespace Cert.ReferenceIdeal.Attn

open Idealize.ShloMosaic Idealize.ShloMosaic.TcCoe Idealize.ShloMosaic.Tactic Idealize.SL.Sem
open Cert.ReferenceIdeal Cert.ReferenceIdeal.Gen Cert.Window

theorem log_two : Ideal.log (Ideal.ofBits FTy.f32 1073741824#32) = ((Real.log 2 : ℝ) : EReal) := by
  have h : Ideal.ofBits FTy.f32 1073741824#32 = ((2 : ℝ) : EReal) := by
    simp [Ideal.ofBits, Ideal.ieee, -EReal.coe_mul]; norm_num
  rw [h]
  show (if (2 : ℝ) ≤ 0 then (⊥ : EReal) else ((Real.log 2 : ℝ) : EReal)) = _
  rw [if_neg (by norm_num)]

/-- A fold of maxima from the least value is the largest. -/
theorem fold_max_bot {K : Type} [Fintype K] (f : K → EReal) :
    Finset.fold max (Ideal.ofBits FTy.f32 4286578688#32) f Finset.univ = Finset.univ.sup f := by
  have h : Ideal.ofBits FTy.f32 4286578688#32 = (⊥ : EReal) := by simp [Ideal.ofBits, Ideal.ieee]
  rw [h]; rfl

/-- The score of place `j` of the window, or of the context after it, for query `t` and head `h`. -/
def scoreAt (z : S8x4096x8192.Idx → EReal) (zc : S8x256x8192.Idx → EReal) (rpb : S16x15x31.Idx → EReal)
    (b : Fin 8) (h : Fin 16) (t : Fin 4096) (j : Fin 384) : EReal :=
  if hj : j.val < 128 then
    (∑ d : Fin 64, z (ix3 b t ⟨4096 + (h.val * 64 + d.val), by omega⟩) * ((Real.log 2 : ℝ) : EReal)
        * z (ix3 b ⟨kTok t.val j.val, kTok_lt hj⟩ ⟨5120 + (h.val * 64 + d.val), by omega⟩))
      + rpb (ix3 h ⟨dRow (t.val / 64) j.val, dRow_lt (by omega) hj⟩ ⟨dCol (t.val % 64) j.val, dCol_lt (by omega)⟩)
  else ∑ d : Fin 64, z (ix3 b t ⟨4096 + (h.val * 64 + d.val), by omega⟩) * ((Real.log 2 : ℝ) : EReal)
        * zc (ix3 b ⟨j.val - 128, by omega⟩ ⟨5120 + (h.val * 64 + d.val), by omega⟩)

/-- The value of place `j`, at lane `d` of the head. -/
def valueAt (z : S8x4096x8192.Idx → EReal) (zc : S8x256x8192.Idx → EReal)
    (b : Fin 8) (h : Fin 16) (t : Fin 4096) (d : Fin 64) (j : Fin 384) : EReal :=
  if hj : j.val < 128 then z (ix3 b ⟨kTok t.val j.val, kTok_lt hj⟩ ⟨6144 + (h.val * 64 + d.val), by omega⟩)
  else zc (ix3 b ⟨j.val - 128, by omega⟩ ⟨6144 + (h.val * 64 + d.val), by omega⟩)

/-- The attention of query `t` and head `h`, at lane `d`. -/
def attnAt (z : S8x4096x8192.Idx → EReal) (zc : S8x256x8192.Idx → EReal) (rpb : S16x15x31.Idx → EReal)
    (b : Fin 8) (h : Fin 16) (t : Fin 4096) (d : Fin 64) : EReal :=
  ∑ j : Fin 384, Ideal.exp (scoreAt z zc rpb b h t j - Finset.univ.sup (scoreAt z zc rpb b h t))
    * Ideal.div 1 (∑ j : Fin 384, Ideal.exp (scoreAt z zc rpb b h t j - Finset.univ.sup (scoreAt z zc rpb b h t)))
    * valueAt z zc b h t d j

/-- The gated attention. -/
def resultAt (z : S8x4096x8192.Idx → EReal) (zc : S8x256x8192.Idx → EReal) (rpb : S16x15x31.Idx → EReal)
    (b : Fin 8) (t : Fin 4096) (n : Fin 1024) : EReal :=
  attnAt z zc rpb b ⟨n.val / 64, by omega⟩ t ⟨n.val % 64, by omega⟩
    * (z (ix3 b t ⟨7168 + n.val, by omega⟩) * Ideal.div 1 (1 + Ideal.exp (-z (ix3 b t ⟨7168 + n.val, by omega⟩))))

theorem queryV_apply (z : FVec Ideal S8x4096x8192 .bf16) (b : Fin 8) (q : Fin 4096) (h : Fin 16) (d : Fin 64) :
    queryV z (ix4 b q h d) = z (ix3 b q ⟨4096 + (h.val * 64 + d.val), by omega⟩) * ((Real.log 2 : ℝ) : EReal) := by
  pointwise [queryV]
  rw [log_two]

theorem keyV_apply (z : FVec Ideal S8x4096x8192 .bf16) (b : Fin 8) (q : Fin 4096) (h : Fin 16) (d : Fin 64) :
    keyV z (ix4 b q h d) = z (ix3 b q ⟨5120 + (h.val * 64 + d.val), by omega⟩) := by
  pointwise [keyV]

theorem valueV_apply (z : FVec Ideal S8x4096x8192 .bf16) (b : Fin 8) (q : Fin 4096) (h : Fin 16) (d : Fin 64) :
    valueV z (ix4 b q h d) = z (ix3 b q ⟨6144 + (h.val * 64 + d.val), by omega⟩) := by
  pointwise [valueV]

theorem ctxKeyV_apply (z : FVec Ideal S8x256x8192 .bf16) (b : Fin 8) (q : Fin 256) (h : Fin 16) (d : Fin 64) :
    ctxKeyV z (ix4 b q h d) = z (ix3 b q ⟨5120 + (h.val * 64 + d.val), by omega⟩) := by
  pointwise [ctxKeyV]

theorem ctxValueV_apply (z : FVec Ideal S8x256x8192 .bf16) (b : Fin 8) (q : Fin 256) (h : Fin 16) (d : Fin 64) :
    ctxValueV z (ix4 b q h d) = z (ix3 b q ⟨6144 + (h.val * 64 + d.val), by omega⟩) := by
  pointwise [ctxValueV]

theorem scoreV_apply (z : FVec Ideal S8x4096x8192 .bf16) (zc : FVec Ideal S8x256x8192 .bf16) (rpb : FVec Ideal S16x15x31 .f32)
    (b : Fin 8) (h : Fin 16) (t : Fin 4096) (j : Fin 384) :
    scoreV (queryV z) (windowV (keyV z)) (biasV rpb) (ctxKeyV zc) (ix4 b h t j) = scoreAt z zc rpb b h t j := by
  pointwise [scoreV]
  unfold scoreAt
  by_cases hj : j.val < 128
  · simp only [hj, dif_pos]
    rw [biasV_apply]
    simp only [queryV_apply, windowV_apply, keyV_apply]
  · simp only [hj, dif_neg, not_false_iff]
    simp only [queryV_apply, ctxKeyV_apply]

theorem expV_apply (s : FVec Ideal S8x16x4096x384 .f32) (b : Fin 8) (h : Fin 16) (t : Fin 4096) (j : Fin 384) :
    expV s (ix4 b h t j) = Ideal.exp (s (ix4 b h t j) - Finset.univ.sup fun x => s (ix4 b h t x)) := by
  pointwise [expV]
  rw [fold_max_bot]

theorem probV_apply (s : FVec Ideal S8x16x4096x384 .f32) (b : Fin 8) (h : Fin 16) (t : Fin 4096) (j : Fin 384) :
    probV s (ix4 b h t j) = s (ix4 b h t j) * Ideal.div 1 (∑ x : Fin 384, s (ix4 b h t x)) := by
  pointwise [probV]

theorem mixV_apply (p : FVec Ideal S8x16x4096x384 .f32) (z : FVec Ideal S8x4096x8192 .bf16) (zc : FVec Ideal S8x256x8192 .bf16)
    (b : Fin 8) (t : Fin 4096) (h : Fin 16) (d : Fin 64) :
    mixV p (windowV (valueV z)) (ctxValueV zc) (ix4 b t h d) = ∑ j : Fin 384, p (ix4 b h t j) * valueAt z zc b h t d j := by
  pointwise [mixV]
  rw [show (∑ j : Fin 384, p (ix4 b h t j) * valueAt z zc b h t d j)
      = ∑ j : Fin (128 + 256), p (ix4 b h t j) * valueAt z zc b h t d j from rfl, Fin.sum_univ_add]
  refine congrArg₂ (· + ·) (Finset.sum_congr rfl fun x _ => ?_) (Finset.sum_congr rfl fun x _ => ?_)
  · refine congrArg₂ (· * ·) rfl ?_
    rw [windowV_apply, valueV_apply]
    unfold valueAt
    rw [dif_pos (show (Fin.castAdd 256 x).val < 128 from x.isLt)]
    rfl
  · rw [mul_comm]
    refine congrArg₂ (· * ·) rfl ?_
    rw [ctxValueV_apply]
    unfold valueAt
    rw [dif_neg (show ¬ (Fin.natAdd 128 x).val < 128 by simp)]
    exact congrArg zc (congrArg (fun u => ix3 b u _) (Fin.ext (by simp)))

theorem resultV_apply (z : FVec Ideal S8x4096x8192 .bf16) (zc : FVec Ideal S8x256x8192 .bf16) (rpb : FVec Ideal S16x15x31 .f32)
    (b : Fin 8) (t : Fin 4096) (n : Fin 1024) : resultV z zc rpb (ix3 b t n) = resultAt z zc rpb b t n := by
  have hg : siluV (gateV z) (ix3 b t n)
      = z (ix3 b t ⟨7168 + n.val, by omega⟩) * Ideal.div 1 (1 + Ideal.exp (-z (ix3 b t ⟨7168 + n.val, by omega⟩))) := by
    pointwise [siluV, gateV, oneV]
  pointwise [resultV]
  rw [hg, mixV_apply]
  unfold resultAt attnAt
  simp only [probV_apply, expV_apply, scoreV_apply]

end Cert.ReferenceIdeal.Attn
-- ==== Proof.Match.lean ====
/-
  One tile of the kernel against the reference: where the band holds the keys of a query's window, which bias its table gives
  them, and the two softmaxes set equal.
-/
module

public import proofs.«01_k».proof.Proof.Piece
public import proofs.«01_k».proof.Proof.BiasValue
public import proofs.«01_k».proof.Proof.RefValue
public import proofs.«01_k».proof.Proof.Softmax

@[expose] public section

set_option maxRecDepth 16384

noncomputable section

namespace Cert.KernelIdeal.Attn

open Idealize.ShloMosaic Idealize.ShloMosaic.TcCoe Idealize.SL.Sem
open Cert.KernelIdeal Cert.KernelIdeal.Gen Cert.KernelIdeal.Table Cert.Window Cert.Attn

/-! ## Where a window's keys lie in the band -/

/-- The band's row of key `j` of the window of query `r` of tile `s`; the context's keys come after the band. -/
def keyAt (s : Fin 32) (r j : ℕ) : ℕ := if j < 128 then kTok (128 * s.val + r) j - 128 * band s else j + 512

/-- The window's keys lie in the band. -/
theorem kTok_band (s : Fin 32) {r j : ℕ} (hr : r < 128) (hj : j < 128) :
    128 * band s ≤ kTok (128 * s.val + r) j ∧ kTok (128 * s.val + r) j - 128 * band s < 640 := by
  have hs := s.isLt
  unfold kTok kRow kCol rs cs band
  omega

/-- The band's row, as a row and a column of the grid of keys. -/
theorem keyAt_row (s : Fin 32) {r j : ℕ} (hr : r < 128) (hj : j < 128) :
    keyAt s r j / 64 = kRow (2 * s.val + r / 64) j - 2 * band s ∧ 2 * band s ≤ kRow (2 * s.val + r / 64) j
      ∧ keyAt s r j % 64 = kCol (r % 64) j ∧ keyAt s r j < 640 := by
  have hb := kTok_band s hr hj
  have hs := s.isLt
  have e1 : (128 * s.val + r) / 64 = 2 * s.val + r / 64 := by omega
  have e2 : (128 * s.val + r) % 64 = r % 64 := by omega
  have hc : kCol (r % 64) j < 64 := kCol_lt
  unfold keyAt
  rw [if_pos hj]
  unfold kTok at hb ⊢
  rw [e1, e2] at hb ⊢
  generalize kRow (2 * s.val + r / 64) j = K at hb ⊢
  generalize kCol (r % 64) j = C at hb hc ⊢
  generalize band s = B at hb ⊢
  omega

theorem keyAt_lt (s : Fin 32) {r j : ℕ} (hr : r < 128) (hj : j < 384) : keyAt s r j < 896 := by
  by_cases h : j < 128
  · have := (keyAt_row s hr h).2.2.2; omega
  · unfold keyAt; rw [if_neg h]; omega

/-- The band's row of a window place. -/
def keyOf (s : Fin 32) (r : Fin 128) (j : Fin 384) : Fin 896 := ⟨keyAt s r.val j.val, keyAt_lt s r.isLt j.isLt⟩

theorem keyOf_injective (s : Fin 32) (r : Fin 128) : Function.Injective (keyOf s r) := by
  intro i j h
  have h : keyAt s r.val i.val = keyAt s r.val j.val := congrArg Fin.val h
  have hr := r.isLt
  refine Fin.ext ?_
  have big : ∀ k : Fin 384, ¬ k.val < 128 → keyAt s r.val k.val = k.val + 512 := fun k hk => by unfold keyAt; rw [if_neg hk]
  by_cases hi : i.val < 128 <;> by_cases hj : j.val < 128
  · have a := keyAt_row s hr hi
    have b := keyAt_row s hr hj
    rw [h] at a
    unfold kRow kCol at a b
    omega
  · have a := keyAt_row s hr hi
    have b := big j hj
    omega
  · have a := big i hi
    have b := keyAt_row s hr hj
    omega
  · have a := big i hi
    have b := big j hj
    omega

/-- The table's tile of a tile of queries: the tile itself at the edges, tile two between them. -/
theorem tile_variant (s : Fin 32) : (tileOf (variant s) = s.val ∧ (s.val < 2 ∨ 30 ≤ s.val)) ∨ (tileOf (variant s) = 2 ∧ 2 ≤ s.val ∧ s.val < 30) := by
  revert s; decide

/-- A key of the window: the table has it inside, at its relative row and column. -/
theorem window_key (s : Fin 32) {r j c : ℕ} (hr : r < 128) (hj : j < 128) (hc : c % 128 = r) :
    Inside (variant s) (keyAt s r j) c
      ∧ kr (variant s) (keyAt s r j) + 7 - qr (variant s) c = dRow (2 * s.val + r / 64) j
      ∧ keyAt s r j % 64 + 15 - c % 64 = dCol (r % 64) j := by
  obtain ⟨h1, h2, h3, h4⟩ := keyAt_row s hr hj
  have hs := s.isLt
  have hcc : c % 64 = r % 64 := by omega
  unfold Inside kr qr dRow dCol
  rw [h1, h3, hc, hcc]
  unfold kRow kCol rs cs band at *
  rcases tile_variant s with ⟨e, hs'⟩ | ⟨e, hs'⟩ <;> rw [e] <;> omega

/-- A key of the band that no place of the window is: the table has it outside. -/
theorem outside_key (s : Fin 32) (r : Fin 128) (n : Fin 896) {c : ℕ} (hn : n.val < 640) (hc : c % 128 = r.val)
    (h : ∀ j, keyOf s r j ≠ n) : ¬ Inside (variant s) n.val c := by
  intro hi
  have hr := r.isLt
  have hs := s.isLt
  obtain ⟨⟨⟨i1, i2⟩, i3⟩, i4⟩ := hi
  have hcc : c % 64 = r.val % 64 := by omega
  rw [hcc] at i3 i4
  have hj : (kr (variant s) n.val - rs (qr (variant s) c)) * 16 + (n.val % 64 - cs (r.val % 64)) < 128 := by omega
  refine h ⟨(kr (variant s) n.val - rs (qr (variant s) c)) * 16 + (n.val % 64 - cs (r.val % 64)), by omega⟩ (Fin.ext ?_)
  show keyAt s r.val _ = n.val
  obtain ⟨h1, h2, h3, h4⟩ := keyAt_row s hr hj
  generalize keyAt s r.val _ = K at *
  have ed : ((kr (variant s) n.val - rs (qr (variant s) c)) * 16 + (n.val % 64 - cs (r.val % 64))) / 16 = kr (variant s) n.val - rs (qr (variant s) c) := by omega
  have em : ((kr (variant s) n.val - rs (qr (variant s) c)) * 16 + (n.val % 64 - cs (r.val % 64))) % 16 = n.val % 64 - cs (r.val % 64) := by omega
  unfold kRow at h1 h2
  unfold kCol at h3
  rw [ed] at h1 h2
  rw [em] at h3
  have hm : K % 64 = n.val % 64 := by omega
  suffices hd : K / 64 = n.val / 64 by omega
  clear ed em h3 h4 hm hj
  unfold kr qr at *
  rw [hc] at *
  unfold rs band at *
  have ht := tile_variant s
  generalize tileOf (variant s) = T at *
  omega

/-! ## The arithmetic -/

/-- Sums over a head's half of the lanes. -/
theorem half_sum (l : Fin 128) (k q : Fin 128 → EReal) :
    (∑ d : Fin 128, k d * if (l.val < 64 ↔ d.val < 64) then q d else 0)
      = ∑ e : Fin 64, k ⟨64 * (l.val / 64) + e.val, by omega⟩ * q ⟨64 * (l.val / 64) + e.val, by omega⟩ := by
  have hl := l.isLt
  rw [show (∑ d : Fin 128, k d * if (l.val < 64 ↔ d.val < 64) then q d else 0)
      = ∑ d : Fin (64 + 64), k d * if (l.val < 64 ↔ d.val < 64) then q d else 0 from rfl, Fin.sum_univ_add]
  have hlo : ∀ e : Fin 64, (Fin.castAdd 64 e).val < 64 := fun e => e.isLt
  have hhi : ∀ e : Fin 64, ¬ (Fin.natAdd 64 e).val < 64 := fun e => by simp
  by_cases h : l.val < 64
  · have e0 : 64 * (l.val / 64) = 0 := by omega
    simp only [hlo, hhi, h, iff_self, iff_false, not_true, if_true, if_false, mul_zero, Finset.sum_const_zero, add_zero]
    refine Finset.sum_congr rfl fun e _ => ?_
    have : Fin.castAdd 64 e = (⟨64 * (l.val / 64) + e.val, by omega⟩ : Fin 128) := Fin.ext (by simp; omega)
    rw [← this]
  · have e0 : 64 * (l.val / 64) = 64 := by omega
    simp only [hlo, hhi, h, iff_self, false_iff, not_true, if_true, if_false, mul_zero, Finset.sum_const_zero, zero_add]
    refine Finset.sum_congr rfl fun e _ => ?_
    have : Fin.natAdd 64 e = (⟨64 * (l.val / 64) + e.val, by omega⟩ : Fin 128) := Fin.ext (by simp; omega)
    rw [← this]

theorem log_two_pos : 0 < Real.log 2 := Real.log_pos (by norm_num)

/-- The quotient by the logarithm of two, times it. -/
theorem log_two_mul_div (x : EReal) : ((Real.log 2 : ℝ) : EReal) * Ideal.div x ((Real.log 2 : ℝ) : EReal) = x := by
  have h := log_two_pos
  unfold Ideal.div
  rw [if_neg (by exact_mod_cast h.ne'), mul_comm, mul_assoc, ← EReal.coe_inv, ← EReal.coe_mul, inv_mul_cancel₀ h.ne']
  simp

/-- A score's sum, the logarithm of two moved onto the queries. -/
theorem log_two_mul_sum (k q : Fin 64 → EReal) :
    ((Real.log 2 : ℝ) : EReal) * ∑ e, k e * q e = ∑ e, q e * ((Real.log 2 : ℝ) : EReal) * k e := by
  rw [pos_mul_sum log_two_pos]
  exact Finset.sum_congr rfl fun e _ => by rw [mul_comm (k e), ← mul_assoc, mul_comm _ (q e)]

theorem colOf_mod (r l : Fin 128) : (colOf r l).val % 128 = r.val ∧ (colOf r l).val / 128 = l.val / 64 := by
  unfold colOf
  split <;> simp only <;> omega

/-! ## One tile -/

section
variable (z : FVec Ideal S8x4096x8192 .bf16) (zc : FVec Ideal S8x256x8192 .bf16) (rpb : FVec Ideal S16x15x31 .f32) (b p : Fin 8)
variable (x0 x1 x2 : Vec Ideal S1x4096x128 .bf16) (x3 x4 : Vec Ideal S1x256x128 .bf16) (x5 : Vec Ideal S1x4096x128 .bf16)
  (x6 : Vec Ideal S1x5x640x256 .f32)

open Cert.ReferenceIdeal.Attn (scoreAt valueAt attnAt resultAt)

/-- The scores at the window's keys and the context's. -/
theorem score_key (hx0 : ∀ (t : Fin 4096) (l : Fin 128), x0 (ix3 (0 : Fin 1) t l) = z (ix3 b t ⟨4096 + (128 * p.val + l.val), by omega⟩))
    (hx1 : ∀ (t : Fin 4096) (l : Fin 128), x1 (ix3 (0 : Fin 1) t l) = z (ix3 b t ⟨5120 + (128 * p.val + l.val), by omega⟩))
    (hx3 : ∀ (t : Fin 256) (l : Fin 128), x3 (ix3 (0 : Fin 1) t l) = zc (ix3 b t ⟨5120 + (128 * p.val + l.val), by omega⟩))
    (hx6 : ∀ (v : Fin 5) (n : Fin 640) (c : Fin 256), x6 (ix4 (0 : Fin 1) v n c) = tableV rpb (ix4 p v n c))
    (s : Fin 32) (r l : Fin 128) (j : Fin 384) :
    scoreAt z zc rpb b ⟨(128 * p.val + l.val) / 64, by omega⟩ ⟨128 * s.val + r.val, by omega⟩ j
      = (Real.log 2 : ℝ) * scoreOf x0 x1 x3 x6 s r l (keyOf s r j) := by
  have hr := r.isLt
  unfold scoreOf scoreAt
  by_cases hj : j.val < 128
  · obtain ⟨h1, h2, h3, h4⟩ := keyAt_row s hr hj
    obtain ⟨w1, w2, w3⟩ := window_key s hr hj (colOf_mod r l).1
    have hb := kTok_band s hr hj
    rw [dif_pos hj, dif_pos (show (keyOf s r j).val < 640 from h4), pos_mul_add log_two_pos, half_sum, log_two_mul_sum]
    refine congrArg₂ (· + ·) (Finset.sum_congr rfl fun e _ => ?_) ?_
    · unfold rowOf
      rw [dif_pos (show (keyOf s r j).val < 640 from h4), hx0, hx1]
      refine congrArg₂ (· * ·) (congrArg (· * _) (congrArg z (congrArg (fun u => ix3 b _ u) (Fin.ext ?_)))) (congrArg z (congrArg₂ (fun a u => ix3 b a u) (Fin.ext ?_) (Fin.ext ?_)))
      · simp only; omega
      · show kTok (128 * s.val + r.val) j.val = 128 * band s + keyAt s r.val j.val
        unfold keyAt
        rw [if_pos hj]
        omega
      · simp only; omega
    · refine ((congrArg (((Real.log 2 : ℝ) : EReal) * ·) ((hx6 _ _ _).trans (table_inside rpb p ⟨variant s, variant_lt s⟩ ⟨keyAt s r.val j.val, h4⟩
        (colOf r l) ⟨(128 * p.val + l.val) / 64, by omega⟩
        ⟨dRow ((128 * s.val + r.val) / 64) j.val, dRow_lt (by omega) hj⟩ ⟨dCol ((128 * s.val + r.val) % 64) j.val, dCol_lt (by omega)⟩
        ?_ ?_ ?_ w1))).trans (log_two_mul_div _)).symm
      · have := (colOf_mod r l).2
        show (128 * p.val + l.val) / 64 = 2 * p.val + (colOf r l).val / 128
        omega
      · refine Eq.trans ?_ w2.symm
        exact congrArg (fun u => dRow u j.val) (by omega)
      · refine Eq.trans ?_ w3.symm
        exact congrArg (fun u => dCol u j.val) (by omega)
  · have hk : ¬ (keyOf s r j).val < 640 := by show ¬ keyAt s r.val j.val < 640; unfold keyAt; rw [if_neg hj]; omega
    rw [dif_neg hj, dif_neg hk, half_sum, log_two_mul_sum]
    refine Finset.sum_congr rfl fun e _ => ?_
    unfold rowOf
    rw [dif_neg hk, hx0, hx3]
    refine congrArg₂ (· * ·) (congrArg (· * _) (congrArg z (congrArg (fun u => ix3 b _ u) (Fin.ext ?_)))) (congrArg zc (congrArg₂ (fun a u => ix3 b a u) (Fin.ext ?_) (Fin.ext ?_)))
    · simp only; omega
    · show j.val - 128 = keyAt s r.val j.val - 640
      unfold keyAt; rw [if_neg hj]; omega
    · simp only; omega

/-- A key of no place of the window is masked. -/
theorem score_off (hx6 : ∀ (v : Fin 5) (n : Fin 640) (c : Fin 256), x6 (ix4 (0 : Fin 1) v n c) = tableV rpb (ix4 p v n c))
    (s : Fin 32) (r l : Fin 128) (n : Fin 896) (h : ∀ j, keyOf s r j ≠ n) : scoreOf x0 x1 x3 x6 s r l n = ⊥ := by
  have hn : n.val < 640 := by
    by_contra hn
    refine h ⟨n.val - 512, by omega⟩ (Fin.ext ?_)
    show keyAt s r.val (n.val - 512) = n.val
    unfold keyAt; rw [if_neg (by omega)]; omega
  unfold scoreOf
  rw [dif_pos hn, hx6, table_outside rpb p ⟨variant s, variant_lt s⟩ ⟨n.val, hn⟩ (colOf r l) (outside_key s r n hn (colOf_mod r l).1 h), EReal.add_bot]

/-- The values at the window's keys and the context's. -/
theorem value_key (hx2 : ∀ (t : Fin 4096) (l : Fin 128), x2 (ix3 (0 : Fin 1) t l) = z (ix3 b t ⟨6144 + (128 * p.val + l.val), by omega⟩))
    (hx4 : ∀ (t : Fin 256) (l : Fin 128), x4 (ix3 (0 : Fin 1) t l) = zc (ix3 b t ⟨6144 + (128 * p.val + l.val), by omega⟩))
    (s : Fin 32) (r l : Fin 128) (j : Fin 384) :
    rowOf x2 x4 s (keyOf s r j) l
      = valueAt z zc b ⟨(128 * p.val + l.val) / 64, by omega⟩ ⟨128 * s.val + r.val, by omega⟩ ⟨(128 * p.val + l.val) % 64, by omega⟩ j := by
  have hr := r.isLt
  unfold rowOf valueAt
  by_cases hj : j.val < 128
  · obtain ⟨h1, h2, h3, h4⟩ := keyAt_row s hr hj
    have hb := kTok_band s hr hj
    rw [dif_pos hj, dif_pos (show (keyOf s r j).val < 640 from h4), hx2]
    refine congrArg z (congrArg₂ (fun a u => ix3 b a u) (Fin.ext ?_) (Fin.ext ?_))
    · show 128 * band s + keyAt s r.val j.val = kTok (128 * s.val + r.val) j.val
      unfold keyAt
      rw [if_pos hj]
      omega
    · simp only; omega
  · have hk : ¬ (keyOf s r j).val < 640 := by show ¬ keyAt s r.val j.val < 640; unfold keyAt; rw [if_neg hj]; omega
    rw [dif_neg hj, dif_neg hk, hx4]
    refine congrArg zc (congrArg₂ (fun a u => ix3 b a u) (Fin.ext ?_) (Fin.ext ?_))
    · show keyAt s r.val j.val - 640 = j.val - 128
      unfold keyAt; rw [if_neg hj]; omega
    · simp only; omega

/-- One entry of a tile is the reference's. -/
theorem tile_match (hx0 : ∀ (t : Fin 4096) (l : Fin 128), x0 (ix3 (0 : Fin 1) t l) = z (ix3 b t ⟨4096 + (128 * p.val + l.val), by omega⟩))
    (hx1 : ∀ (t : Fin 4096) (l : Fin 128), x1 (ix3 (0 : Fin 1) t l) = z (ix3 b t ⟨5120 + (128 * p.val + l.val), by omega⟩))
    (hx2 : ∀ (t : Fin 4096) (l : Fin 128), x2 (ix3 (0 : Fin 1) t l) = z (ix3 b t ⟨6144 + (128 * p.val + l.val), by omega⟩))
    (hx3 : ∀ (t : Fin 256) (l : Fin 128), x3 (ix3 (0 : Fin 1) t l) = zc (ix3 b t ⟨5120 + (128 * p.val + l.val), by omega⟩))
    (hx4 : ∀ (t : Fin 256) (l : Fin 128), x4 (ix3 (0 : Fin 1) t l) = zc (ix3 b t ⟨6144 + (128 * p.val + l.val), by omega⟩))
    (hx5 : ∀ (t : Fin 4096) (l : Fin 128), x5 (ix3 (0 : Fin 1) t l) = z (ix3 b t ⟨7168 + (128 * p.val + l.val), by omega⟩))
    (hx6 : ∀ (v : Fin 5) (n : Fin 640) (c : Fin 256), x6 (ix4 (0 : Fin 1) v n c) = tableV rpb (ix4 p v n c))
    (s : Fin 32) (r l : Fin 128) :
    outOf x0 x1 x2 x3 x4 x5 x6 s r l = resultAt z zc rpb b ⟨128 * s.val + r.val, by omega⟩ ⟨128 * p.val + l.val, by omega⟩ := by
  unfold outOf resultAt attnAt
  rw [hx5]
  refine congrArg (· * _) ?_
  exact softmax_eq (keyOf s r) (keyOf_injective s r) _ (fun n => rowOf x2 x4 s n l) _ _
    (score_key z zc rpb b p x0 x1 x3 x6 hx0 hx1 hx3 hx6 s r l) (score_off rpb p x0 x1 x3 x6 hx6 s r l)
    (value_key z zc b p x2 x4 hx2 hx4 s r l)

end

end Cert.KernelIdeal.Attn
-- ==== Proof.Final.lean ====
/-
  The kernel's result array after its run: the reference's result of the same arguments.
-/
module

public import proofs.«01_k».proof.Proof.Gen.KernelIdeal.Value
public import proofs.«01_k».proof.Proof.Block
public import proofs.«01_k».proof.Proof.Match
public import Idealize.ShloMosaic.Lib.Pipeline.ValueKit

@[expose] public section

set_option maxRecDepth 16384

noncomputable section

namespace Cert.KernelIdeal.Attn

open Idealize.ShloMosaic Idealize.ShloMosaic.TcCoe Idealize.SL.Sem
open Idealize.ShloMosaic.Pipeline (Dat)
open Cert.KernelIdeal Cert.KernelIdeal.Gen Cert.KernelIdeal.Table

variable (m : (ℓ : Loc nD τ sig) → Buf (Elt Ideal) ℓ)

/-- The windows' blocks at a grid point. -/
theorem idx : ∀ t : Fin cfg0.N,
    win0_0.index t = ![(grid0.coords t 1).val, 0, 32 + (grid0.coords t 0).val]
    ∧ win0_1.index t = ![(grid0.coords t 1).val, 0, 40 + (grid0.coords t 0).val]
    ∧ win0_2.index t = ![(grid0.coords t 1).val, 0, 48 + (grid0.coords t 0).val]
    ∧ win0_3.index t = ![(grid0.coords t 1).val, 0, 40 + (grid0.coords t 0).val]
    ∧ win0_4.index t = ![(grid0.coords t 1).val, 0, 48 + (grid0.coords t 0).val]
    ∧ win0_5.index t = ![(grid0.coords t 1).val, 0, 56 + (grid0.coords t 0).val]
    ∧ win0_6.index t = ![(grid0.coords t 0).val, 0, 0, 0]
    ∧ win0_7.index t = ![(grid0.coords t 1).val, 0, (grid0.coords t 0).val] :=
  (by decide +kernel : ∀ t : Fin grid0.N, _)

/-- The batch and the pair of heads of a grid point. -/
abbrev batchOf (t : Fin cfg0.N) : Fin 8 := ⟨(grid0.coords t 1).val, (grid0.coords t 1).isLt⟩

abbrev pairOf (t : Fin cfg0.N) : Fin 8 := ⟨(grid0.coords t 0).val, (grid0.coords t 0).isLt⟩

theorem q_block (c : Dev nD) (t : Fin cfg0.N) (u : Fin 4096) (l : Fin 128) :
    iblk m c 0 t (ix3 (0 : Fin 1) u l) = m ((c : Thread nD τ).loc main_arg0) (ix3 (batchOf t) u ⟨4096 + (128 * (pairOf t).val + l.val), by omega⟩) := by
  blk_ext [iblk, V, idx t]

theorem k_block (c : Dev nD) (t : Fin cfg0.N) (u : Fin 4096) (l : Fin 128) :
    iblk m c 1 t (ix3 (0 : Fin 1) u l) = m ((c : Thread nD τ).loc main_arg0) (ix3 (batchOf t) u ⟨5120 + (128 * (pairOf t).val + l.val), by omega⟩) := by
  blk_ext [iblk, V, idx t]

theorem v_block (c : Dev nD) (t : Fin cfg0.N) (u : Fin 4096) (l : Fin 128) :
    iblk m c 2 t (ix3 (0 : Fin 1) u l) = m ((c : Thread nD τ).loc main_arg0) (ix3 (batchOf t) u ⟨6144 + (128 * (pairOf t).val + l.val), by omega⟩) := by
  blk_ext [iblk, V, idx t]

set_option maxHeartbeats 1600000 in
theorem kc_block (c : Dev nD) (t : Fin cfg0.N) (u : Fin 256) (l : Fin 128) :
    iblk m c 3 t (ix3 (0 : Fin 1) u l) = m ((c : Thread nD τ).loc main_arg1) (ix3 (batchOf t) u ⟨5120 + (128 * (pairOf t).val + l.val), by omega⟩) := by
  blk_ext [iblk, V, idx t]

set_option maxHeartbeats 1600000 in
theorem vc_block (c : Dev nD) (t : Fin cfg0.N) (u : Fin 256) (l : Fin 128) :
    iblk m c 4 t (ix3 (0 : Fin 1) u l) = m ((c : Thread nD τ).loc main_arg1) (ix3 (batchOf t) u ⟨6144 + (128 * (pairOf t).val + l.val), by omega⟩) := by
  blk_ext [iblk, V, idx t]

theorem gate_block (c : Dev nD) (t : Fin cfg0.N) (u : Fin 4096) (l : Fin 128) :
    iblk m c 5 t (ix3 (0 : Fin 1) u l) = m ((c : Thread nD τ).loc main_arg0) (ix3 (batchOf t) u ⟨7168 + (128 * (pairOf t).val + l.val), by omega⟩) := by
  blk_ext [iblk, V, idx t]

set_option maxHeartbeats 1600000 in
theorem bias_block (c : Dev nD) (t : Fin cfg0.N) (v : Fin 5) (n : Fin 640) (r : Fin 256) :
    iblk m c 6 t (ix4 (0 : Fin 1) v n r) = tableV (F := Ideal) (m ((c : Thread nD τ).loc main_arg2)) (ix4 (pairOf t) v n r) := by
  refine Eq.trans ?_ (congrFun (table_eq m c) _)
  generalize hT : V m c main_v89 = T
  unfold iblk
  rw [show V m c (Pipeline.arrRef spec0 6) = T from hT]
  blk_ext [idx t]

/-- What a point leaves of the result. -/
theorem point (c : Dev nD) (t : Fin cfg0.N) (y : S1x4096x128.Idx) :
    blockOf (iblk m c 0 t) (iblk m c 1 t) (iblk m c 2 t) (iblk m c 3 t) (iblk m c 4 t) (iblk m c 5 t) (iblk m c 6 t) y
      = Cert.ReferenceIdeal.Attn.resultV (F := Ideal) (m ((c : Thread nD τ).loc main_arg0)) (m ((c : Thread nD τ).loc main_arg1))
          (m ((c : Thread nD τ).loc main_arg2)) (((cfg0.win 7).blk t).view.emb y) := by
  obtain ⟨a, u, l, rfl⟩ : ∃ (a : Fin 1) (u : Fin 4096) (l : Fin 128), y = ix3 a u l := ⟨y 0, y 1, y 2, eq_ix3 y⟩
  refine (tile_match (m ((c : Thread nD τ).loc main_arg0)) (m ((c : Thread nD τ).loc main_arg1)) (m ((c : Thread nD τ).loc main_arg2))
    (batchOf t) (pairOf t) _ _ _ _ _ _ _ (q_block m c t) (k_block m c t) (v_block m c t) (kc_block m c t) (vc_block m c t) (gate_block m c t)
    (bias_block m c t) ⟨u.val / 128, by omega⟩ ⟨u.val % 128, by omega⟩ l).trans ?_
  refine (Cert.ReferenceIdeal.Attn.resultV_apply _ _ _ _ _ _).symm.trans ?_
  blk_ext [idx t]

/-- The result array after the run. -/
theorem final (c : Dev nD) : (dats m 0 c).arrAt 7 (cfgs 0).N
    = Cert.ReferenceIdeal.Attn.resultV (F := Ideal) (m ((c : Thread nD τ).loc main_arg0)) (m ((c : Thread nD τ).loc main_arg1))
        (m ((c : Thread nD τ).loc main_arg2)) := by
  refine (dats m 0 c).arrAt_eq_of_covers 7 _ (by decide +kernel) fun t _ y => ?_
  blk_simp
  rw [after0_7]
  unfold outsAt0
  exact (out_block c (grid0.coords t) _ _ _ _ _ _ _ _ _ _ _ _ _ _ _ _ _ _ _ _ _ _ _ _ _ _ _ _ _ _ _ _ _ _ _ _ y).trans (point m c t y)

end Cert.KernelIdeal.Attn
-- ==== Proof.InProj.lean ====
/-
  The input projection of the even blocks: what the kernel leaves in its result is the reference's product of the modulated
  rows with the weights.
-/
module

public import proofs.«01_k».proof.Proof.Gen.Kernel2Ideal.Value
public import proofs.«01_k».proof.Proof.Gen.Reference2Ideal.Run
public import Idealize.ShloMosaic.Lib.Pipeline.ValueKit

@[expose] public section

set_option maxRecDepth 16384

noncomputable section

namespace Cert.Reference2Ideal.Proj

open Idealize.ShloMosaic Idealize.ShloMosaic.TcCoe Idealize.ShloMosaic.Tactic Idealize.SL.Sem
open Cert.Reference2Ideal Cert.Reference2Ideal.Gen

/-- The modulated rows: each row over its root mean square, times the gain, times one plus the scale, plus the shift. -/
def modV (h : FVec Ideal S8x4096x1024 .f32) (shift scale : FVec Ideal S8x1x1024 .f32) (g : FVec Ideal S1x1024 .f32) : FVec Ideal S8x4096x1024 .f32 :=
  addf (mulf (mulf (mulf h (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf h h) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![1, 2] bcast_S1x1024_S1x1x1024_1_2 g))) (broadcastInDim S8x4096x1024 ![0, 1, 2] bcast_S8x1x1024_S8x4096x1024_0_1_2 (addf (broadcastInDim S8x1x1024 ![] bcast_S_S8x1x1024 (constant S_ .f32 0x3F800000#32)) scale))) (broadcastInDim S8x4096x1024 ![0, 1, 2] bcast_S8x1x1024_S8x4096x1024_0_1_2 shift)

/-- The reference's result of its arguments. -/
def resultV (h : FVec Ideal S8x4096x1024 .f32) (shift scale : FVec Ideal S8x1x1024 .f32) (g : FVec Ideal S1x1024 .f32) (w : FVec Ideal S1024x8192 .bf16) : FVec Ideal S8x4096x8192 .bf16 :=
  truncf .bf16 (Host.dotGeneral dot_S8x4096x1024_S1024x8192_S8x4096x8192_2_0_01_1_n_n none (modV h shift scale g) (extf .f32 w bitsLt_bf16_f32)) bitsLt_bf16_f32

/-- The result at an entry: a row of the modulated rows against a column of the weights. -/
theorem resultV_apply (h : FVec Ideal S8x4096x1024 .f32) (shift scale : FVec Ideal S8x1x1024 .f32) (g : FVec Ideal S1x1024 .f32) (w : FVec Ideal S1024x8192 .bf16)
    (b : Fin 8) (r : Fin 4096) (e : Fin 8192) :
    resultV h shift scale g w (ix3 b r e) = ∑ k : Fin 1024, modV h shift scale g (ix3 b r k) * w (ix2 k e) := by
  pointwise [resultV]

end Cert.Reference2Ideal.Proj

namespace Cert.Kernel2Ideal.Proj

open Idealize.ShloMosaic Idealize.ShloMosaic.TcCoe Idealize.ShloMosaic.Tactic Idealize.SL.Sem
open Idealize.ShloMosaic.Pipeline (Dat)
open Cert.Kernel2Ideal Cert.Kernel2Ideal.Gen Cert.Reference2Ideal.Proj

variable (m : (ℓ : Loc nD τ sig) → Buf (Elt Ideal) ℓ)

/-- The windows' blocks at a grid point. -/
theorem idx : ∀ t : Fin cfg0.N,
    win0_0.index t = ![t.val / 16, t.val / 4 % 4, 0]
    ∧ win0_1.index t = ![t.val / 16, 0, 0]
    ∧ win0_2.index t = ![t.val / 16, 0, 0]
    ∧ win0_3.index t = ![0, 0]
    ∧ win0_4.index t = ![0, t.val % 4]
    ∧ win0_5.index t = ![t.val / 16, t.val / 4 % 4, t.val % 4]
    ∧ t.val / 16 < 8 :=
  (by decide +kernel : ∀ t : Fin grid0.N, _)

/-- The modulated rows of the arguments. -/
abbrev modOf (c : Dev nD) : FVec Ideal S8x4096x1024 .f32 :=
  modV (m ((c : Thread nD τ).loc main_arg0)) (m ((c : Thread nD τ).loc main_arg1)) (m ((c : Thread nD τ).loc main_arg2)) (m ((c : Thread nD τ).loc main_arg3))

/-- The tile of modulated rows a point at the head of its run computes. -/
theorem mod_point (c : Dev nD) (t : Fin cfg0.N) (r k : Fin 1024) (hb : t.val / 16 < 8) (hr : t.val / 4 % 4 * 1024 + r.val < 4096) :
    k0_pay1 (iblk m c 0 t) (iblk m c 3 t) (iblk m c 2 t) (iblk m c 1 t) (ix2 r k)
      = modOf m c (ix3 ⟨t.val / 16, hb⟩ ⟨t.val / 4 % 4 * 1024 + r.val, hr⟩ k) := by
  pointwise [k0_pay1, modV]
  blk_point [iblk, V, idx t]

/-- The scratch after every point: the modulated rows of the point's row block. -/
theorem scratch (c : Dev nD) : ∀ (n : ℕ) (hn : n < cfg0.N) (r k : Fin 1024) (hb : n / 16 < 8) (hr : n / 4 % 4 * 1024 + r.val < 4096),
    (outsAt0 m c n hn).2 (ix2 r k) = modOf m c (ix3 ⟨n / 16, hb⟩ ⟨n / 4 % 4 * 1024 + r.val, hr⟩ k) := by
  intro n
  induction n with
  | zero =>
    intro hn r k hb hr
    rw [outsAt0_A m c ⟨0, hn⟩ rfl]
    frame_out
    exact mod_point m c ⟨0, hn⟩ r k hb hr
  | succ n ih =>
    intro hn r k hb hr
    by_cases h0 : (n + 1) % 4 = 0
    · rw [outsAt0_A m c ⟨n + 1, hn⟩ h0]
      frame_out
      exact mod_point m c ⟨n + 1, hn⟩ r k hb hr
    · rw [outsAt0_B m c ⟨n + 1, hn⟩ h0]
      have e1 : n / 16 = (n + 1) / 16 := by omega
      have e2 : n / 4 = (n + 1) / 4 := by omega
      refine (ih (Nat.lt_of_succ_lt hn) r k (e1 ▸ hb) (e2 ▸ hr)).trans ?_
      simp only [e1, e2]

/-- The product a point stores: its row block of the scratch against its columns of the weights. -/
theorem prod_at (u : Vec Ideal S1024x1024 .bf16) (w : Vec Ideal S1024x2048 .bf16) (r : Fin 1024) (e : Fin 2048) :
    k0_pay2 u w (ix3 (0 : Fin 1) r e) = ∑ k : Fin 1024, u (ix2 r k) * w (ix2 k e) := by
  pointwise [k0_pay2]

/-- What a point leaves of the result: the product of what the scratch then holds. -/
theorem after_point (c : Dev nD) (t : Fin cfg0.N) (y : S1x1024x2048.Idx) :
    (outsAt0 m c t.val t.isLt).1 y = k0_pay2 (F := Ideal) (outsAt0 m c t.val t.isLt).2 (iblk m c 4 t) y := by
  by_cases h0 : t.val % 4 = 0
  · rw [outsAt0_A m c t h0]
    frame_out
  · rw [outsAt0_B m c t h0]
    frame_out
    exact congrArg (fun u => k0_pay2 (F := Ideal) u (iblk m c 4 t) y) (Memref.IsWhole.read_unread _ _)

/-- What a point leaves of the result is the reference's result at the place it lands. -/
theorem point (c : Dev nD) (t : Fin cfg0.N) (y : S1x1024x2048.Idx) :
    k0_pay2 (F := Ideal) (outsAt0 m c t.val t.isLt).2 (iblk m c 4 t) y
      = resultV (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
  obtain ⟨a, r, e, rfl⟩ : ∃ (a : Fin 1) (r : Fin 1024) (e : Fin 2048), y = ix3 a r e := ⟨y 0, y 1, y 2, eq_ix3 y⟩
  obtain rfl : a = 0 := Subsingleton.elim _ _
  have hb : t.val / 16 < 8 := (idx t).2.2.2.2.2.2
  refine (prod_at _ _ r e).trans ?_
  refine Eq.trans (b := resultV (m ((c : Thread nD τ).loc main_arg0)) (m ((c : Thread nD τ).loc main_arg1)) (m ((c : Thread nD τ).loc main_arg2))
          (m ((c : Thread nD τ).loc main_arg3)) (m ((c : Thread nD τ).loc main_arg4))
          (ix3 ⟨t.val / 16, hb⟩ ⟨t.val / 4 % 4 * 1024 + r.val, by omega⟩ ⟨t.val % 4 * 2048 + e.val, by omega⟩)) ?_ ?_
  · refine Eq.trans ?_ (resultV_apply _ _ _ _ _ _ _ _).symm
    refine Finset.sum_congr rfl fun k _ => congrArg₂ (· * ·) (scratch m c t.val t.isLt r k hb (by omega)) ?_
    blk_ext [iblk, V, idx t]
  · blk_ext [idx t]

/-- The result array after the run. -/
theorem final (c : Dev nD) : (dats m 0 c).arrAt 5 (cfgs 0).N
    = resultV (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  exact (after_point m c t y).trans (point m c t y)

end Cert.Kernel2Ideal.Proj
-- ==== Proof.EvenOut.lean ====
/-
  The output projection of the even blocks: what the kernel leaves in its result is the reference's rows plus the gated product
  of the short convolution's result, and the recurrence's, with the weights.
-/
module

public import proofs.«01_k».proof.Proof.Gen.Kernel3Ideal.Value
public import proofs.«01_k».proof.Proof.Gen.Reference3Ideal.Run
public import proofs.«01_k».proof.Proof.Softmax
public import Idealize.ShloMosaic.Lib.Pipeline.ValueKit
public import Idealize.ShloMosaic.Lib.Pipeline.ReadBack

@[expose] public section

set_option maxRecDepth 16384

noncomputable section

namespace Cert.Reference3Ideal.Mix

open Idealize.ShloMosaic Idealize.ShloMosaic.TcCoe Idealize.ShloMosaic.Tactic Idealize.SL.Sem
open Cert.Reference3Ideal Cert.Reference3Ideal.Gen

/-- The convolution's input: the product of the second and third part of the projection, with a row of zeros on either side. -/
def padV (z : FVec Ideal S8x4096x8192 .bf16) : FVec Ideal S8x4098x1024 .f32 :=
  pad S8x4098x1024 ![0, 1, 0] ![0, 1, 0] ![0, 0, 0] (mulf (extractStridedSlice S8x4096x1024 ![0, 0, 1024] (extf .f32 z bitsLt_bf16_f32) slices_S8x4096x8192_S8x4096x1024_0_0_1024) (extractStridedSlice S8x4096x1024 ![0, 0, 2048] (extf .f32 z bitsLt_bf16_f32) slices_S8x4096x8192_S8x4096x1024_0_0_2048)) (sitofp .f32 (constantI S_ 32 0#32)) pads_S8x4096x1024_S8x4098x1024_000_110_000 h_S_

/-- The gated short convolution. -/
def mixV (z : FVec Ideal S8x4096x8192 .bf16) (w : FVec Ideal S3x1024 .f32) : FVec Ideal S8x4096x1024 .f32 :=
  mulf (mulf (extractStridedSlice S8x4096x1024 ![0, 0, 0] (extf .f32 z bitsLt_bf16_f32) slices_S8x4096x8192_S8x4096x1024_0_0_0) (addf (addf (addf (broadcastInDim S8x4096x1024 ![] bcast_S_S8x4096x1024 (constant S_ .f32 0x00000000#32)) (mulf (broadcastInDim S8x4096x1024 ![0, 1, 2] bcast_S1x1x1024_S8x4096x1024_0_1_2 (broadcastInDim S1x1x1024 ![2] bcast_S1024_S1x1x1024_2 (shapeCast _ (extractStridedSlice S1x1024 ![0, 0] w slices_S3x1024_S1x1024_0_0) shapeCasts_S1x1024_S1024))) (extractStridedSlice S8x4096x1024 ![0, 0, 0] (padV z) slices_S8x4098x1024_S8x4096x1024_0_0_0))) (mulf (broadcastInDim S8x4096x1024 ![0, 1, 2] bcast_S1x1x1024_S8x4096x1024_0_1_2 (broadcastInDim S1x1x1024 ![2] bcast_S1024_S1x1x1024_2 (shapeCast _ (extractStridedSlice S1x1024 ![1, 0] w slices_S3x1024_S1x1024_1_0) shapeCasts_S1x1024_S1024))) (extractStridedSlice S8x4096x1024 ![0, 1, 0] (padV z) slices_S8x4098x1024_S8x4096x1024_0_1_0))) (mulf (broadcastInDim S8x4096x1024 ![0, 1, 2] bcast_S1x1x1024_S8x4096x1024_0_1_2 (broadcastInDim S1x1x1024 ![2] bcast_S1024_S1x1x1024_2 (shapeCast _ (extractStridedSlice S1x1024 ![2, 0] w slices_S3x1024_S1x1024_2_0) shapeCasts_S1x1024_S1024))) (extractStridedSlice S8x4096x1024 ![0, 2, 0] (padV z) slices_S8x4098x1024_S8x4096x1024_0_2_0)))) (mulf (extractStridedSlice S8x4096x1024 ![0, 0, 3072] (extf .f32 z bitsLt_bf16_f32) slices_S8x4096x8192_S8x4096x1024_0_0_3072) (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (extractStridedSlice S8x4096x1024 ![0, 0, 3072] (extf .f32 z bitsLt_bf16_f32) slices_S8x4096x8192_S8x4096x1024_0_0_3072))))))

/-- The reference's result of its arguments. -/
def resultV (z : FVec Ideal S8x4096x8192 .bf16) (yb : FVec Ideal S8x4096x1024 .bf16) (w : FVec Ideal S3x1024 .f32) (wo : FVec Ideal S2048x1024 .bf16)
    (h : FVec Ideal S8x4096x1024 .f32) (gate : FVec Ideal S8x1x1024 .f32) : FVec Ideal S8x4096x1024 .f32 :=
  addf h (mulf (broadcastInDim S8x4096x1024 ![0, 1, 2] bcast_S8x1x1024_S8x4096x1024_0_1_2 gate) (Host.dotGeneral dot_S8x4096x2048_S2048x1024_S8x4096x1024_2_0_01_1_n_n none (concatenate S8x4096x2048 2 [⟨S8x4096x1024, mixV z w⟩, ⟨S8x4096x1024, (extf .f32 yb bitsLt_bf16_f32)⟩] concatenates_S8x4096x1024_S8x4096x1024_S8x4096x2048_d2) (extf .f32 wo bitsLt_bf16_f32)))

/-- The convolution's input at a row, without the padding. -/
def xOf (z : FVec Ideal S8x4096x8192 .bf16) (b : Fin 8) (c : Fin 1024) (r : Fin 4096) : EReal :=
  z (ix3 b r ⟨1024 + c.val, by omega⟩) * z (ix3 b r ⟨2048 + c.val, by omega⟩)

/-- The row before a row, and the one after it: zero outside the array. -/
def prevOf (x : Fin 4096 → EReal) (r : Fin 4096) : EReal := if h : r.val = 0 then 0 else x ⟨r.val - 1, by omega⟩
def nextOf (x : Fin 4096 → EReal) (r : Fin 4096) : EReal := if h : r.val + 1 < 4096 then x ⟨r.val + 1, h⟩ else 0

/-- The gated short convolution at an entry. -/
def mixOf (a g p x n w0 w1 w2 : EReal) : EReal := a * (w0 * p + w1 * x + w2 * n) * (g * Ideal.div 1 (1 + Ideal.exp (-g)))

theorem mixOf_congr {a g p x n w0 w1 w2 a' g' p' x' n' w0' w1' w2' : EReal} (ha : a = a') (hg : g = g') (hp : p = p') (hx : x = x') (hn : n = n')
    (h0 : w0 = w0') (h1 : w1 = w1') (h2 : w2 = w2') : mixOf a g p x n w0 w1 w2 = mixOf a' g' p' x' n' w0' w1' w2' := by
  subst ha hg hp hx hn h0 h1 h2; rfl

theorem padV_apply (z : FVec Ideal S8x4096x8192 .bf16) (b : Fin 8) (j : Fin 4098) (c : Fin 1024) :
    padV z (ix3 b j c) = if h : 1 ≤ j.val ∧ j.val < 4097 then xOf z b c ⟨j.val - 1, by omega⟩ else 0 := by
  pointwise [padV, xOf]
  have e0 : (FloatOps.sitofp FTy.f32 0#32 : Ideal .f32) = (0 : EReal) := by
    show (((0#32 : BitVec 32).toInt : ℝ) : EReal) = 0
    simp
  by_cases h : 1 ≤ j.val ∧ j.val < 4097
  · rw [dif_pos h, dif_pos (by omega)]
  · rw [dif_neg h, dif_neg (by omega), e0]

theorem mixV_apply (z : FVec Ideal S8x4096x8192 .bf16) (w : FVec Ideal S3x1024 .f32) (b : Fin 8) (r : Fin 4096) (c : Fin 1024) :
    mixV z w (ix3 b r c) = mixOf (z (ix3 b r ⟨c.val, by omega⟩)) (z (ix3 b r ⟨3072 + c.val, by omega⟩)) (prevOf (xOf z b c) r) (xOf z b c r) (nextOf (xOf z b c) r)
      (w (ix2 0 c)) (w (ix2 1 c)) (w (ix2 2 c)) := by
  have h0 := padV_apply z b ⟨r.val, by omega⟩ c
  have h1 := padV_apply z b ⟨r.val + 1, by omega⟩ c
  have h2 := padV_apply z b ⟨r.val + 2, by omega⟩ c
  generalize hP : padV z = P at h0 h1 h2
  unfold mixV
  rw [hP]
  pointwise
  have e0 : P (ix3 b ⟨r.val, by omega⟩ c) = prevOf (xOf z b c) r := by
    rw [h0, prevOf]
    by_cases hr : r.val = 0
    · rw [dif_pos hr, dif_neg (by simp only [hr]; omega)]
    · rw [dif_neg hr, dif_pos (by show 1 ≤ r.val ∧ r.val < 4097; omega)]
  have e1 : P (ix3 b ⟨1 + r.val, by omega⟩ c) = xOf z b c r := by
    have e : (⟨1 + r.val, by omega⟩ : Fin 4098) = ⟨r.val + 1, by omega⟩ := Fin.ext (Nat.add_comm _ _)
    rw [e, h1, dif_pos (by show 1 ≤ r.val + 1 ∧ r.val + 1 < 4097; omega)]
    rfl
  have e2 : P (ix3 b ⟨2 + r.val, by omega⟩ c) = nextOf (xOf z b c) r := by
    have e : (⟨2 + r.val, by omega⟩ : Fin 4098) = ⟨r.val + 2, by omega⟩ := Fin.ext (Nat.add_comm _ _)
    rw [e, h2, nextOf]
    by_cases hr : r.val + 1 < 4096
    · rw [dif_pos hr, dif_pos (by show 1 ≤ r.val + 2 ∧ r.val + 2 < 4097; omega)]
      rfl
    · rw [dif_neg hr, dif_neg (by show ¬ (1 ≤ r.val + 2 ∧ r.val + 2 < 4097); omega)]
  rw [e0, e1, e2, mixOf]

theorem resultV_apply (z : FVec Ideal S8x4096x8192 .bf16) (yb : FVec Ideal S8x4096x1024 .bf16) (w : FVec Ideal S3x1024 .f32) (wo : FVec Ideal S2048x1024 .bf16)
    (h : FVec Ideal S8x4096x1024 .f32) (gate : FVec Ideal S8x1x1024 .f32) (b : Fin 8) (r : Fin 4096) (e : Fin 1024) :
    resultV z yb w wo h gate (ix3 b r e) = h (ix3 b r e) + gate (ix3 b 0 e) *
      ((∑ k : Fin 1024, mixV z w (ix3 b r k) * wo (ix2 ⟨k.val, by omega⟩ e)) + ∑ k : Fin 1024, yb (ix3 b r k) * wo (ix2 ⟨1024 + k.val, by omega⟩ e)) := by
  unfold resultV
  generalize mixV z w = M
  pointwise

end Cert.Reference3Ideal.Mix

namespace Cert.Kernel3Ideal.Mix

open Idealize.ShloMosaic Idealize.ShloMosaic.TcCoe Idealize.ShloMosaic.Tactic Idealize.SL.Sem
open Idealize.ShloMosaic.Pipeline (Dat)
open Cert.Kernel3Ideal Cert.Kernel3Ideal.Gen Cert.Reference3Ideal.Mix

/-- A tile of the gated short convolution, of its rows, the rows before and after them, the weights and the gates. -/
def tileV (i : grid0.Coords) (ac ax : Vec Ideal S1x512x256 .bf16) (acp axp acn axn : Vec Ideal S1x16x256 .bf16)
    (w0 w1 w2 : Vec Ideal S1x256 .f32) (ab ag : Vec Ideal S1x512x256 .bf16) : FVec Ideal S512x256 .bf16 :=
  k0_pay8 (iota .tc S512x256 32 [0] iota_S512x256_d0_w32) (k0_pay4 ac ax) (k0_pay5 i acp axp) (k0_pay6 i acn axn) k0_pay7 1#32 w0 w1 w2 ab ag

section
variable (i : grid0.Coords) (ac ax : Vec Ideal S1x512x256 .bf16) (acp axp acn axn : Vec Ideal S1x16x256 .bf16)
    (w0 w1 w2 : Vec Ideal S1x256 .f32) (ab ag : Vec Ideal S1x512x256 .bf16)

/-- The four slabs of columns are cut into payloads in different places, and are the same tile. -/
theorem tile_0 : k0_pay8 (F := Ideal) (iota .tc S512x256 32 [0] iota_S512x256_d0_w32) (k0_pay4 ac ax) (k0_pay5 i acp axp) (k0_pay6 i acn axn) k0_pay7 1#32 w0 w1 w2 ab ag
    = tileV i ac ax acp axp acn axn w0 w1 w2 ab ag := rfl

theorem tile_1 : k0_pay14 (F := Ideal) (k0_pay13 (k0_pay3 i) (iota .tc S512x256 32 [0] iota_S512x256_d0_w32) (k0_pay10 ac ax) (k0_pay11 (k0_pay2 i) acp axp) (k0_pay12 acn axn) w0 w1 w2 ab ag)
    = tileV i ac ax acp axp acn axn w0 w1 w2 ab ag := rfl

theorem tile_2 : k0_pay22 (F := Ideal) (k0_pay19 (k0_pay3 i) (iota .tc S512x256 32 [0] iota_S512x256_d0_w32) (k0_pay16 ac ax) (k0_pay17 (k0_pay2 i) acp axp) (k0_pay18 acn) axn w0 w1 w2 ab) (k0_pay20 ag) (k0_pay21 ag)
    = tileV i ac ax acp axp acn axn w0 w1 w2 ab ag := rfl

theorem tile_3 : k0_pay27 (F := Ideal) (k0_pay26 (k0_pay2 i) (k0_pay3 i) (iota .tc S512x256 32 [0] iota_S512x256_d0_w32) (k0_pay24 ac ax) (k0_pay25 acp axp) acn axn w0 w1 w2 ab) ag
    = tileV i ac ax acp axp acn axn w0 w1 w2 ab ag := rfl

theorem step_2 : (k0_pay23 : Vec Ideal S512x1024 .f32 → Vec Ideal S512x256 .bf16 → Vec Ideal S256x1024 .bf16 → FVec Ideal S512x1024 .f32) = k0_pay15 := rfl
theorem step_3 : (k0_pay28 : Vec Ideal S512x1024 .f32 → Vec Ideal S512x256 .bf16 → Vec Ideal S256x1024 .bf16 → FVec Ideal S512x1024 .f32) = k0_pay15 := rfl
theorem step_4 : (k0_pay29 : Vec Ideal S512x1024 .f32 → Vec Ideal S512x256 .bf16 → Vec Ideal S256x1024 .bf16 → FVec Ideal S512x1024 .f32) = k0_pay15 := rfl
end

/-- Whether a row block has one before it, and one after it, as a factor. -/
theorem before_eq (i : grid0.Coords) : (k0_pay2 i : Ideal .f32) = if (i 1).val = 0 then (0 : EReal) else 1 := by
  have h : ∀ j : Fin 8, (Scalar.extui (Scalar.cmpi .sgt (BitVec.ofNat 32 j.val) 0#32) : BitVec 32) = if j.val = 0 then 0#32 else 1#32 := by decide
  show (((Scalar.extui (Scalar.cmpi .sgt (BitVec.ofNat 32 (i 1).val) 0#32) : BitVec 32).toInt : ℝ) : EReal) = _
  rw [h (i 1)]
  split_ifs <;> simp

theorem behind_eq (i : grid0.Coords) : (k0_pay3 i : Ideal .f32) = if (i 1).val = 7 then (0 : EReal) else 1 := by
  have h : ∀ j : Fin 8, (Scalar.extui (Scalar.cmpi .slt (BitVec.ofNat 32 j.val) 7#32) : BitVec 32) = if j.val = 7 then 0#32 else 1#32 := by decide
  show (((Scalar.extui (Scalar.cmpi .slt (BitVec.ofNat 32 (i 1).val) 7#32) : BitVec 32).toInt : ℝ) : EReal) = _
  rw [h (i 1)]
  split_ifs <;> simp

/-- A choice by a row's number. -/
theorem select_row {n : ℕ} (hn : n < 2 ^ 32) {k : ℕ} (hk : k < 2 ^ 32) (a b : EReal) :
    Scalar.select (IntOp.cmpi .eq (BitVec.ofNat 32 n) (BitVec.ofNat 32 k)) a b = if n = k then a else b := by
  have e : (BitVec.ofNat 32 n == BitVec.ofNat 32 k) = decide (n = k) := by
    refine decide_eq_decide.2 ⟨fun h => ?_, fun h => h ▸ rfl⟩
    have := congrArg BitVec.toNat h
    rwa [BitVec.toNat_ofNat, BitVec.toNat_ofNat, Nat.mod_eq_of_lt hn, Nat.mod_eq_of_lt hk] at this
  by_cases h : n = k <;> simp [Scalar.select, IntOp.cmpi, e, h]

theorem tileV_apply (i : grid0.Coords) (ac ax : Vec Ideal S1x512x256 .bf16) (acp axp acn axn : Vec Ideal S1x16x256 .bf16)
    (w0 w1 w2 : Vec Ideal S1x256 .f32) (ab ag : Vec Ideal S1x512x256 .bf16) (r : Fin 512) (c : Fin 256) :
    tileV i ac ax acp axp acn axn w0 w1 w2 ab ag (ix2 r c) = mixOf (ab (ix3 0 r c)) (ag (ix3 0 r c))
      (if h : r.val = 0 then acp (ix3 0 15 c) * axp (ix3 0 15 c) * (if (i 1).val = 0 then 0 else 1) else ac (ix3 0 ⟨r.val - 1, by omega⟩ c) * ax (ix3 0 ⟨r.val - 1, by omega⟩ c))
      (ac (ix3 0 r c) * ax (ix3 0 r c))
      (if h : r.val + 1 < 512 then ac (ix3 0 ⟨r.val + 1, h⟩ c) * ax (ix3 0 ⟨r.val + 1, h⟩ c) else acn (ix3 0 0 c) * axn (ix3 0 0 c) * (if (i 1).val = 7 then 0 else 1))
      (w0 (ix2 0 c)) (w1 (ix2 0 c)) (w2 (ix2 0 c)) := by
  rw [← before_eq i, ← behind_eq i]
  unfold tileV k0_pay5 k0_pay6
  generalize (k0_pay2 i : Ideal .f32) = hp
  generalize (k0_pay3 i : Ideal .f32) = hn
  pointwise [k0_pay8, k0_pay4, k0_pay7, mixOf]
  have half : Ideal.ofBits FTy.f32 0x3F000000#32 = ((1 / 2 : ℝ) : EReal) := by
    simp [Ideal.ofBits, Ideal.ieee, -EReal.coe_mul]; norm_num
  have hr := r.isLt
  have s0 := fun a b : EReal => select_row (n := r.val) (by omega) (k := 0) (by norm_num) a b
  have s1 := fun a b : EReal => select_row (n := r.val) (by omega) (k := 511) (by norm_num) a b
  rw [half, Cert.Attn.tanh_logistic]
  refine congrArg₂ (· * ·) (congrArg _ (congrArg₂ (· + ·) (congrArg₂ (· + ·) (congrArg _ ?_) rfl) (congrArg _ ?_))) rfl
  · refine (s0 _ _).trans ?_
    by_cases h : r.val = 0
    · rw [if_pos h, dif_pos h]
    · have e : (r.val + 512 - 1) % 512 = r.val - 1 := by omega
      simp only [h, if_false, dif_neg, not_false_eq_true, e]
  · refine (s1 _ _).trans ?_
    by_cases h : r.val = 511
    · rw [if_pos h, dif_neg (by omega)]
    · have e : (r.val + 512 - 511) % 512 = r.val + 1 := by omega
      have h' : r.val + 1 < 512 := by omega
      simp only [h, if_false, h', dif_pos, e]

variable (m : (ℓ : Loc nD τ sig) → Buf (Elt Ideal) ℓ)

/-- The windows' blocks at a grid point. -/
theorem idx : ∀ t : Fin cfg0.N,
    win0_0.index t = ![t.val / 8, t.val % 8, 0]
    ∧ win0_1.index t = ![t.val / 8, t.val % 8, 1]
    ∧ win0_2.index t = ![t.val / 8, t.val % 8, 2]
    ∧ win0_3.index t = ![t.val / 8, t.val % 8, 3]
    ∧ win0_4.index t = ![t.val / 8, t.val % 8 * 32 - 1, 1]
    ∧ win0_5.index t = ![t.val / 8, t.val % 8 * 32 - 1, 2]
    ∧ win0_6.index t = ![t.val / 8, min (t.val % 8 * 32 + 32) 255, 1]
    ∧ win0_7.index t = ![t.val / 8, min (t.val % 8 * 32 + 32) 255, 2]
    ∧ win0_8.index t = ![t.val / 8, t.val % 8, 0]
    ∧ win0_9.index t = ![0, 0]
    ∧ win0_10.index t = ![0, 0]
    ∧ win0_11.index t = ![t.val / 8, t.val % 8, 0]
    ∧ win0_12.index t = ![t.val / 8, 0, 0]
    ∧ win0_13.index t = ![t.val / 8, t.val % 8, 0]
    ∧ t.val / 8 < 8 ∧ (grid0.coords t 1).val = t.val % 8 :=
  (by decide +kernel : ∀ t : Fin grid0.N, _)

/-- A slab of columns, or of rows, is inside the array it is read from. -/
theorem inb3 (n o : ℕ) (h : o + 256 ≤ 1024) : ∀ a : Fin 3, (![0, 0, o] : Fin 3 → ℕ) a + (![1, n, 256] : Fin 3 → ℕ) a ≤ (![1, n, 1024] : Fin 3 → ℕ) a := by
  intro a; fin_cases a
  · exact le_refl 1
  · show 0 + n ≤ n; omega
  · exact h

theorem inb2 (j o : ℕ) (hj : j < 3) (h : o + 256 ≤ 1024) : ∀ a : Fin 2, (![j, o] : Fin 2 → ℕ) a + (![1, 256] : Fin 2 → ℕ) a ≤ (![3, 1024] : Fin 2 → ℕ) a := by
  intro a; fin_cases a
  · show j + 1 ≤ 3; omega
  · exact h

theorem inbw (n o : ℕ) (h : o + n ≤ 2048) : ∀ a : Fin 2, (![o, 0] : Fin 2 → ℕ) a + (![n, 1024] : Fin 2 → ℕ) a ≤ (![2048, 1024] : Fin 2 → ℕ) a := by
  intro a; fin_cases a
  · exact h
  · exact le_refl 1024

theorem ld3 {e : EltTy} {n : ℕ} (X : Vec Ideal ⟨3, ![1, n, 1024]⟩ e) (o : ℕ) (h : o + 256 ≤ 1024) (r : Fin n) (c : Fin 256) :
    View.ld X (Rect.unit (s := ⟨3, ![1, n, 1024]⟩) ![0, 0, o] ![1, n, 256] (inb3 n o h)) (ix3 (0 : Fin 1) r c) = X (ix3 (0 : Fin 1) r (⟨o + c.val, by omega⟩ : Fin 1024)) := by
  refine congrArg X (funext fun a => Fin.ext ?_)
  rw [Rect.idx_unit_val]
  fin_cases a <;> simp

theorem ld2 {e : EltTy} (X : Vec Ideal ⟨2, ![3, 1024]⟩ e) (j o : ℕ) (hj : j < 3) (h : o + 256 ≤ 1024) (c : Fin 256) :
    View.ld X (Rect.unit (s := ⟨2, ![3, 1024]⟩) ![j, o] ![1, 256] (inb2 j o hj h)) (ix2 (0 : Fin 1) c) = X (ix2 (⟨j, hj⟩ : Fin 3) (⟨o + c.val, by omega⟩ : Fin 1024)) := by
  refine congrArg X (funext fun a => Fin.ext ?_)
  rw [Rect.idx_unit_val]
  fin_cases a <;> simp

theorem ldw {e : EltTy} {n : ℕ} (X : Vec Ideal ⟨2, ![2048, 1024]⟩ e) (o : ℕ) (h : o + n ≤ 2048) (k : Fin n) (c : Fin 1024) :
    View.ld X (Rect.unit (s := ⟨2, ![2048, 1024]⟩) ![o, 0] ![n, 1024] (inbw n o h)) (ix2 k c) = X (ix2 (⟨o + k.val, by omega⟩ : Fin 2048) c) := by
  refine congrArg X (funext fun a => Fin.ext ?_)
  rw [Rect.idx_unit_val]
  fin_cases a <;> simp

/-- The tile of a point's slab of columns. -/
def slabV (c : Dev nD) (t : Fin cfg0.N) (o : ℕ) (h : o + 256 ≤ 1024) : FVec Ideal S512x256 .bf16 :=
  tileV (grid0.coords t)
    (View.ld (iblk m c 1 t) (Rect.unit (s := S1x512x1024) ![0, 0, o] ![1, 512, 256] (inb3 512 o h)))
    (View.ld (iblk m c 2 t) (Rect.unit (s := S1x512x1024) ![0, 0, o] ![1, 512, 256] (inb3 512 o h)))
    (View.ld (iblk m c 4 t) (Rect.unit (s := S1x16x1024) ![0, 0, o] ![1, 16, 256] (inb3 16 o h)))
    (View.ld (iblk m c 5 t) (Rect.unit (s := S1x16x1024) ![0, 0, o] ![1, 16, 256] (inb3 16 o h)))
    (View.ld (iblk m c 6 t) (Rect.unit (s := S1x16x1024) ![0, 0, o] ![1, 16, 256] (inb3 16 o h)))
    (View.ld (iblk m c 7 t) (Rect.unit (s := S1x16x1024) ![0, 0, o] ![1, 16, 256] (inb3 16 o h)))
    (View.ld (iblk m c 9 t) (Rect.unit (s := S3x1024) ![0, o] ![1, 256] (inb2 0 o (by omega) h)))
    (View.ld (iblk m c 9 t) (Rect.unit (s := S3x1024) ![1, o] ![1, 256] (inb2 1 o (by omega) h)))
    (View.ld (iblk m c 9 t) (Rect.unit (s := S3x1024) ![2, o] ![1, 256] (inb2 2 o (by omega) h)))
    (View.ld (iblk m c 0 t) (Rect.unit (s := S1x512x1024) ![0, 0, o] ![1, 512, 256] (inb3 512 o h)))
    (View.ld (iblk m c 3 t) (Rect.unit (s := S1x512x1024) ![0, 0, o] ![1, 512, 256] (inb3 512 o h)))

/-- What a point leaves of the result. -/
def pointV (c : Dev nD) (t : Fin cfg0.N) : FVec Ideal S1x512x1024 .f32 :=
  k0_pay1 (iblk m c 11 t) (iblk m c 12 t)
    (k0_pay15 (k0_pay15 (k0_pay15 (k0_pay15
        (k0_pay9 (iblk m c 8 t) (View.ld (iblk m c 10 t) (Rect.unit (s := S2048x1024) ![1024, 0] ![1024, 1024] (inbw 1024 1024 (by omega)))))
      (slabV m c t 0 (by omega)) (View.ld (iblk m c 10 t) (Rect.unit (s := S2048x1024) ![0, 0] ![256, 1024] (inbw 256 0 (by omega)))))
      (slabV m c t 256 (by omega)) (View.ld (iblk m c 10 t) (Rect.unit (s := S2048x1024) ![256, 0] ![256, 1024] (inbw 256 256 (by omega)))))
      (slabV m c t 512 (by omega)) (View.ld (iblk m c 10 t) (Rect.unit (s := S2048x1024) ![512, 0] ![256, 1024] (inbw 256 512 (by omega)))))
      (slabV m c t 768 (by omega)) (View.ld (iblk m c 10 t) (Rect.unit (s := S2048x1024) ![768, 0] ![256, 1024] (inbw 256 768 (by omega)))))

set_option maxHeartbeats 1600000 in
theorem after_point (c : Dev nD) (t : Fin cfg0.N) (y : S1x512x1024.Idx) : outsAt0 m c t y = pointV m c t y := by
  unfold outsAt0
  frame_out
  simp (disch := decide) only [↓ View.readCov_skip, ↓ View.readCov_cons_toLoadRect]
  rw [tile_0, tile_1, tile_2, tile_3, step_2, step_3, step_4]
  rfl

theorem pay1_at (h : Vec Ideal S1x512x1024 .f32) (gate : Vec Ideal S1x1x1024 .f32) (a : Vec Ideal S512x1024 .f32) (r : Fin 512) (e : Fin 1024) :
    k0_pay1 h gate a (ix3 (0 : Fin 1) r e) = h (ix3 (0 : Fin 1) r e) + gate (ix3 (0 : Fin 1) (0 : Fin 1) e) * a (ix2 r e) := by
  pointwise [k0_pay1]

theorem pay9_at (y : Vec Ideal S1x512x1024 .bf16) (w : Vec Ideal S1024x1024 .bf16) (r : Fin 512) (e : Fin 1024) :
    k0_pay9 y w (ix2 r e) = ∑ k : Fin 1024, y (ix3 (0 : Fin 1) r k) * w (ix2 k e) := by
  pointwise [k0_pay9]

theorem pay15_at (a : Vec Ideal S512x1024 .f32) (y : Vec Ideal S512x256 .bf16) (w : Vec Ideal S256x1024 .bf16) (r : Fin 512) (e : Fin 1024) :
    k0_pay15 a y w (ix2 r e) = a (ix2 r e) + ∑ k : Fin 256, y (ix2 r k) * w (ix2 k e) := by
  pointwise [k0_pay15]

theorem sum_last (a b c d e : EReal) : a + b + c + d + e = b + c + d + e + a := by
  rw [add_assoc a b, add_assoc a, add_assoc a, add_comm a]

/-- A sum over the columns by slabs. -/
theorem sum_slabs (f : Fin 1024 → EReal) :
    ∑ k, f k = (∑ k : Fin 256, f ⟨0 + k.val, by omega⟩) + (∑ k : Fin 256, f ⟨256 + k.val, by omega⟩) + (∑ k : Fin 256, f ⟨512 + k.val, by omega⟩) + ∑ k : Fin 256, f ⟨768 + k.val, by omega⟩ := by
  have h1 := Fin.sum_univ_add (a := 768) (b := 256) f
  have h2 := Fin.sum_univ_add (a := 512) (b := 256) fun k => f (Fin.castAdd 256 k)
  have h3 := Fin.sum_univ_add (a := 256) (b := 256) fun k => f (Fin.castAdd 256 (Fin.castAdd 256 k))
  refine h1.trans (congrArg₂ (· + ·) (h2.trans (congrArg₂ (· + ·) (h3.trans (congrArg₂ (· + ·) ?_ rfl)) rfl)) rfl)
  refine Finset.sum_congr rfl fun k _ => congrArg f (Fin.ext ?_)
  simp

/-- A point's tile is the reference's convolution at the rows and columns it stands for. -/
theorem slab_point (c : Dev nD) (t : Fin cfg0.N) (o : ℕ) (h : o + 256 ≤ 1024) (r : Fin 512) (k : Fin 256) (hb : t.val / 8 < 8) (hr : t.val % 8 * 512 + r.val < 4096) :
    slabV m c t o h (ix2 r k) = mixV (m ((c : Thread nD τ).loc main_arg0)) (m ((c : Thread nD τ).loc main_arg2)) (ix3 ⟨t.val / 8, hb⟩ ⟨t.val % 8 * 512 + r.val, hr⟩ ⟨o + k.val, by omega⟩) := by
  have hi : (grid0.coords t 1).val = t.val % 8 := (idx t).2.2.2.2.2.2.2.2.2.2.2.2.2.2.2
  refine (tileV_apply _ _ _ _ _ _ _ _ _ _ _ _ r k).trans ?_
  refine Eq.trans ?_ (mixV_apply _ _ _ _ _).symm
  rw [hi]
  have hx : ∀ r' : Fin 512, (HMul.hMul (α := EReal) (β := EReal) (γ := EReal)
      (View.ld (iblk m c 1 t) (Rect.unit (s := S1x512x1024) ![0, 0, o] ![1, 512, 256] (inb3 512 o h)) (ix3 (0 : Fin 1) r' k))
      (View.ld (iblk m c 2 t) (Rect.unit (s := S1x512x1024) ![0, 0, o] ![1, 512, 256] (inb3 512 o h)) (ix3 (0 : Fin 1) r' k)))
        = xOf (m ((c : Thread nD τ).loc main_arg0)) ⟨t.val / 8, hb⟩ ⟨o + k.val, by omega⟩ ⟨t.val % 8 * 512 + r'.val, by omega⟩ := by
    intro r'
    refine congrArg₂ (· * ·) ((ld3 _ o h r' k).trans ?_) ((ld3 _ o h r' k).trans ?_)
    · blk_ext [iblk, V, idx t]
    · blk_ext [iblk, V, idx t]
  refine mixOf_congr ((ld3 _ o h r k).trans ?_) ((ld3 _ o h r k).trans ?_) ?_ (hx r) ?_
    ((ld2 _ 0 o (by omega) h k).trans ?_) ((ld2 _ 1 o (by omega) h k).trans ?_) ((ld2 _ 2 o (by omega) h k).trans ?_)
  · blk_ext [iblk, V, idx t]
  · blk_ext [iblk, V, idx t]
  · unfold prevOf
    by_cases h0 : r.val = 0
    · rw [dif_pos h0]
      by_cases h1 : t.val % 8 = 0
      · rw [if_pos h1, dif_pos (by show t.val % 8 * 512 + r.val = 0; omega)]
        exact mul_zero _
      · rw [if_neg h1, dif_neg (by show ¬ t.val % 8 * 512 + r.val = 0; omega)]
        refine (mul_one _).trans (congrArg₂ (· * ·) ((ld3 _ o h 15 k).trans ?_) ((ld3 _ o h 15 k).trans ?_))
        · blk_ext [iblk, V, idx t, h0]
        · blk_ext [iblk, V, idx t, h0]
    · rw [dif_neg h0, dif_neg (by show ¬ t.val % 8 * 512 + r.val = 0; omega)]
      refine (hx ⟨r.val - 1, by omega⟩).trans (congrArg _ (Fin.ext ?_))
      show t.val % 8 * 512 + (r.val - 1) = t.val % 8 * 512 + r.val - 1
      omega
  · unfold nextOf
    by_cases h0 : r.val + 1 < 512
    · rw [dif_pos h0, dif_pos (by show t.val % 8 * 512 + r.val + 1 < 4096; omega)]
      exact hx ⟨r.val + 1, h0⟩
    · rw [dif_neg h0]
      by_cases h1 : t.val % 8 = 7
      · rw [if_pos h1, dif_neg (by show ¬ t.val % 8 * 512 + r.val + 1 < 4096; omega)]
        exact mul_zero _
      · rw [if_neg h1, dif_pos (by show t.val % 8 * 512 + r.val + 1 < 4096; omega)]
        refine (mul_one _).trans (congrArg₂ (· * ·) ((ld3 _ o h 0 k).trans ?_) ((ld3 _ o h 0 k).trans ?_))
        · blk_ext [iblk, V, idx t]
        · blk_ext [iblk, V, idx t]
  · blk_ext [iblk, V, idx t]
  · blk_ext [iblk, V, idx t]
  · blk_ext [iblk, V, idx t]

/-- What a point leaves of the result is the reference's result at the place it lands. -/
theorem point (c : Dev nD) (t : Fin cfg0.N) (y : S1x512x1024.Idx) :
    pointV m c t y
      = resultV (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (((cfg0.win 13).blk t).view.emb y) := by
  obtain ⟨a, r, e, rfl⟩ : ∃ (a : Fin 1) (r : Fin 512) (e : Fin 1024), y = ix3 a r e := ⟨y 0, y 1, y 2, eq_ix3 y⟩
  obtain rfl : a = 0 := Subsingleton.elim _ _
  have hb : t.val / 8 < 8 := (idx t).2.2.2.2.2.2.2.2.2.2.2.2.2.2.1
  refine (pay1_at _ _ _ r e).trans ?_
  refine Eq.trans (b := resultV (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (ix3 ⟨t.val / 8, hb⟩ ⟨t.val % 8 * 512 + r.val, by omega⟩ e)) ?_ ?_
  · refine Eq.trans ?_ (resultV_apply _ _ _ _ _ _ _ _ _).symm
    rw [pay15_at, pay15_at, pay15_at, pay15_at, pay9_at]
    conv_rhs => rw [sum_slabs]
    refine congrArg₂ (· + ·) ?_ (congrArg₂ (· * ·) ?_ ?_)
    · blk_ext [iblk, V, idx t]
    · blk_ext [iblk, V, idx t]
    · have hs : ∀ (o : ℕ) (h : o + 256 ≤ 1024), (∑ k : Fin 256, HMul.hMul (α := EReal) (β := EReal) (γ := EReal) (slabV m c t o h (ix2 r k)) (View.ld (iblk m c 10 t) (Rect.unit (s := S2048x1024) ![o, 0] ![256, 1024] (inbw 256 o (by omega))) (ix2 k e)))
          = ∑ k : Fin 256, HMul.hMul (α := EReal) (β := EReal) (γ := EReal) (mixV (m ((c : Thread nD τ).loc main_arg0)) (m ((c : Thread nD τ).loc main_arg2)) (ix3 ⟨t.val / 8, hb⟩ ⟨t.val % 8 * 512 + r.val, by omega⟩ ⟨o + k.val, by omega⟩))
              (m ((c : Thread nD τ).loc main_arg3) (ix2 (⟨o + k.val, by omega⟩ : Fin 2048) e)) := by
        intro o h
        refine Finset.sum_congr rfl fun k _ => congrArg₂ (· * ·) (slab_point m c t o h r k hb (by omega)) ?_
        refine (ldw _ o (by omega) k e).trans ?_
        blk_ext [iblk, V, idx t]
      have hy : (∑ k : Fin 1024, HMul.hMul (α := EReal) (β := EReal) (γ := EReal) (iblk m c 8 t (ix3 (0 : Fin 1) r k)) (View.ld (iblk m c 10 t) (Rect.unit (s := S2048x1024) ![1024, 0] ![1024, 1024] (inbw 1024 1024 (by omega))) (ix2 k e)))
          = ∑ k : Fin 1024, HMul.hMul (α := EReal) (β := EReal) (γ := EReal) (m ((c : Thread nD τ).loc main_arg1) (ix3 (⟨t.val / 8, hb⟩ : Fin 8) (⟨t.val % 8 * 512 + r.val, by omega⟩ : Fin 4096) k))
              (m ((c : Thread nD τ).loc main_arg3) (ix2 (⟨1024 + k.val, by omega⟩ : Fin 2048) e)) := by
        refine Finset.sum_congr rfl fun k _ => congrArg₂ (· * ·) ?_ ?_
        · blk_ext [iblk, V, idx t]
        · refine (ldw _ 1024 (by omega) k e).trans ?_
          blk_ext [iblk, V, idx t]
      refine Eq.trans (congrArg₂ (· + ·) (congrArg₂ (· + ·) (congrArg₂ (· + ·) (congrArg₂ (· + ·) hy (hs 0 (by omega))) (hs 256 (by omega))) (hs 512 (by omega))) (hs 768 (by omega))) ?_
      exact sum_last _ _ _ _ _
  · blk_ext [idx t]

/-- The result array after the run. -/
theorem final (c : Dev nD) : (dats m 0 c).arrAt 13 (cfgs 0).N
    = resultV (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 13 _ (by decide +kernel) fun t _ y => ?_
  blk_simp
  rw [after0_13]
  exact (after_point m c t y).trans (point m c t y)

end Cert.Kernel3Ideal.Mix
-- ==== Proof.OddProj.lean ====
/-
  The input projection of the odd blocks: what the kernel leaves in its two results is the reference's convolution of the first
  half of the projected rows, and silu of the second half.
-/
module

public import proofs.«01_k».proof.Proof.Gen.Kernel4Ideal.Value
public import proofs.«01_k».proof.Proof.Gen.Reference4Ideal.Run
public import proofs.«01_k».proof.Proof.InProj
public import proofs.«01_k».proof.Proof.EvenOut
public import Idealize.ShloMosaic.Lib.Pipeline.ValueKit
public import Idealize.ShloMosaic.Lib.Pipeline.ReadBack

@[expose] public section

set_option maxRecDepth 16384

noncomputable section

namespace Cert.Reference4Ideal.Odd

open Idealize.ShloMosaic Idealize.ShloMosaic.TcCoe Idealize.ShloMosaic.Tactic Idealize.SL.Sem
open Cert.Reference4Ideal Cert.Reference4Ideal.Gen
open Cert.Reference2Ideal.Proj (modV)
open Cert.Reference3Ideal.Mix (prevOf nextOf)

/-- The projection of the modulated rows. -/
def projV (h : FVec Ideal S8x4096x1024 .f32) (shift scale : FVec Ideal S8x1x1024 .f32) (g : FVec Ideal S1x1024 .f32) (w : FVec Ideal S1024x4096 .bf16) : FVec Ideal S8x4096x4096 .f32 :=
  Host.dotGeneral dot_S8x4096x1024_S1024x4096_S8x4096x4096_2_0_01_1_n_n none (modV h shift scale g) (extf .f32 w bitsLt_bf16_f32)

theorem projV_apply (h : FVec Ideal S8x4096x1024 .f32) (shift scale : FVec Ideal S8x1x1024 .f32) (g : FVec Ideal S1x1024 .f32) (w : FVec Ideal S1024x4096 .bf16)
    (b : Fin 8) (r : Fin 4096) (e : Fin 4096) :
    projV h shift scale g w (ix3 b r e) = ∑ k : Fin 1024, modV h shift scale g (ix3 b r k) * w (ix2 k e) := by
  unfold projV
  generalize modV h shift scale g = M
  pointwise

/-- The first half of the columns, with a row of zeros before and two behind. -/
def padV (z : FVec Ideal S8x4096x4096 .f32) : FVec Ideal S8x4099x2048 .f32 :=
  pad S8x4099x2048 ![0, 1, 0] ![0, 2, 0] ![0, 0, 0] (extractStridedSlice S8x4096x2048 ![0, 0, 0] z slices_S8x4096x4096_S8x4096x2048_0_0_0) (sitofp .f32 (constantI S_ 32 0#32)) pads_S8x4096x2048_S8x4099x2048_000_120_000 h_S_

/-- The short convolution of it. -/
def convV (z : FVec Ideal S8x4096x4096 .f32) (cw : FVec Ideal S4x2048 .f32) (cb : FVec Ideal S2048 .f32) : FVec Ideal S8x4096x2048 .bf16 :=
  truncf .bf16 (addf (addf (addf (addf (addf (broadcastInDim S8x4096x2048 ![] bcast_S_S8x4096x2048 (constant S_ .f32 0x00000000#32)) (mulf (broadcastInDim S8x4096x2048 ![0, 1, 2] bcast_S1x1x2048_S8x4096x2048_0_1_2 (broadcastInDim S1x1x2048 ![2] bcast_S2048_S1x1x2048_2 (shapeCast _ (extractStridedSlice S1x2048 ![0, 0] cw slices_S4x2048_S1x2048_0_0) shapeCasts_S1x2048_S2048))) (extractStridedSlice S8x4096x2048 ![0, 0, 0] (padV z) slices_S8x4099x2048_S8x4096x2048_0_0_0))) (mulf (broadcastInDim S8x4096x2048 ![0, 1, 2] bcast_S1x1x2048_S8x4096x2048_0_1_2 (broadcastInDim S1x1x2048 ![2] bcast_S2048_S1x1x2048_2 (shapeCast _ (extractStridedSlice S1x2048 ![1, 0] cw slices_S4x2048_S1x2048_1_0) shapeCasts_S1x2048_S2048))) (extractStridedSlice S8x4096x2048 ![0, 1, 0] (padV z) slices_S8x4099x2048_S8x4096x2048_0_1_0))) (mulf (broadcastInDim S8x4096x2048 ![0, 1, 2] bcast_S1x1x2048_S8x4096x2048_0_1_2 (broadcastInDim S1x1x2048 ![2] bcast_S2048_S1x1x2048_2 (shapeCast _ (extractStridedSlice S1x2048 ![2, 0] cw slices_S4x2048_S1x2048_2_0) shapeCasts_S1x2048_S2048))) (extractStridedSlice S8x4096x2048 ![0, 2, 0] (padV z) slices_S8x4099x2048_S8x4096x2048_0_2_0))) (mulf (broadcastInDim S8x4096x2048 ![0, 1, 2] bcast_S1x1x2048_S8x4096x2048_0_1_2 (broadcastInDim S1x1x2048 ![2] bcast_S2048_S1x1x2048_2 (shapeCast _ (extractStridedSlice S1x2048 ![3, 0] cw slices_S4x2048_S1x2048_3_0) shapeCasts_S1x2048_S2048))) (extractStridedSlice S8x4096x2048 ![0, 3, 0] (padV z) slices_S8x4099x2048_S8x4096x2048_0_3_0))) (broadcastInDim S8x4096x2048 ![0, 1, 2] bcast_S1x1x2048_S8x4096x2048_0_1_2 (broadcastInDim S1x1x2048 ![2] bcast_S2048_S1x1x2048_2 cb))) bitsLt_bf16_f32

/-- Silu of the second half. -/
def gateV (z : FVec Ideal S8x4096x4096 .f32) : FVec Ideal S8x4096x2048 .bf16 :=
  truncf .bf16 (mulf (extractStridedSlice S8x4096x2048 ![0, 0, 2048] z slices_S8x4096x4096_S8x4096x2048_0_0_2048) (Host.divf (broadcastInDim S8x4096x2048 ![] bcast_S_S8x4096x2048 (constant S_ .f32 0x3F800000#32)) (addf (broadcastInDim S8x4096x2048 ![] bcast_S_S8x4096x2048 (constant S_ .f32 0x3F800000#32)) (Host.exp (Host.negf (extractStridedSlice S8x4096x2048 ![0, 0, 2048] z slices_S8x4096x4096_S8x4096x2048_0_0_2048)))))) bitsLt_bf16_f32

/-- The second row behind a row: zero outside the array. -/
def next2Of (x : Fin 4096 → EReal) (r : Fin 4096) : EReal := if h : r.val + 2 < 4096 then x ⟨r.val + 2, h⟩ else 0

/-- The convolution at an entry. -/
def convOf (p x n1 n2 w0 w1 w2 w3 b : EReal) : EReal := w0 * p + w1 * x + w2 * n1 + w3 * n2 + b

theorem convOf_congr {p x n1 n2 w0 w1 w2 w3 b p' x' n1' n2' w0' w1' w2' w3' b' : EReal} (hp : p = p') (hx : x = x') (h1 : n1 = n1') (h2 : n2 = n2')
    (e0 : w0 = w0') (e1 : w1 = w1') (e2 : w2 = w2') (e3 : w3 = w3') (hb : b = b') : convOf p x n1 n2 w0 w1 w2 w3 b = convOf p' x' n1' n2' w0' w1' w2' w3' b' := by
  subst hp hx h1 h2 e0 e1 e2 e3 hb; rfl

/-- A column of the projection. -/
def colOf (z : FVec Ideal S8x4096x4096 .f32) (b : Fin 8) (c : Fin 4096) (r : Fin 4096) : EReal := z (ix3 b r c)

theorem padV_apply (z : FVec Ideal S8x4096x4096 .f32) (b : Fin 8) (j : Fin 4099) (c : Fin 2048) :
    padV z (ix3 b j c) = if h : 1 ≤ j.val ∧ j.val < 4097 then colOf z b ⟨c.val, by omega⟩ ⟨j.val - 1, by omega⟩ else 0 := by
  pointwise [padV, colOf]
  have e0 : (FloatOps.sitofp FTy.f32 0#32 : Ideal .f32) = (0 : EReal) := by
    show (((0#32 : BitVec 32).toInt : ℝ) : EReal) = 0
    simp
  by_cases h : 1 ≤ j.val ∧ j.val < 4097
  · rw [dif_pos h, dif_pos (by omega)]
  · rw [dif_neg h, dif_neg (by omega), e0]

theorem convV_apply (z : FVec Ideal S8x4096x4096 .f32) (cw : FVec Ideal S4x2048 .f32) (cb : FVec Ideal S2048 .f32) (b : Fin 8) (r : Fin 4096) (c : Fin 2048) :
    convV z cw cb (ix3 b r c) = convOf (prevOf (colOf z b ⟨c.val, by omega⟩) r) (colOf z b ⟨c.val, by omega⟩ r) (nextOf (colOf z b ⟨c.val, by omega⟩) r)
      (next2Of (colOf z b ⟨c.val, by omega⟩) r) (cw (ix2 0 c)) (cw (ix2 1 c)) (cw (ix2 2 c)) (cw (ix2 3 c)) (cb (ix1 c)) := by
  have h0 := padV_apply z b ⟨r.val, by omega⟩ c
  have h1 := padV_apply z b ⟨1 + r.val, by omega⟩ c
  have h2 := padV_apply z b ⟨2 + r.val, by omega⟩ c
  have h3 := padV_apply z b ⟨3 + r.val, by omega⟩ c
  generalize hP : padV z = P at h0 h1 h2 h3
  unfold convV
  rw [hP]
  pointwise
  have e0 : P (ix3 b ⟨r.val, by omega⟩ c) = prevOf (colOf z b ⟨c.val, by omega⟩) r := by
    rw [h0, prevOf]
    by_cases hr : r.val = 0
    · rw [dif_pos hr, dif_neg (by simp only [hr]; omega)]
    · rw [dif_neg hr, dif_pos (by show 1 ≤ r.val ∧ r.val < 4097; omega)]
  have e1 : P (ix3 b ⟨1 + r.val, by omega⟩ c) = colOf z b ⟨c.val, by omega⟩ r := by
    rw [h1, dif_pos (by show 1 ≤ 1 + r.val ∧ 1 + r.val < 4097; omega)]
    exact congrArg _ (Fin.ext (by show 1 + r.val - 1 = r.val; omega))
  have e2 : P (ix3 b ⟨2 + r.val, by omega⟩ c) = nextOf (colOf z b ⟨c.val, by omega⟩) r := by
    rw [h2, nextOf]
    by_cases hr : r.val + 1 < 4096
    · rw [dif_pos hr, dif_pos (by show 1 ≤ 2 + r.val ∧ 2 + r.val < 4097; omega)]
      exact congrArg _ (Fin.ext (by show 2 + r.val - 1 = r.val + 1; omega))
    · rw [dif_neg hr, dif_neg (by show ¬ (1 ≤ 2 + r.val ∧ 2 + r.val < 4097); omega)]
  have e3 : P (ix3 b ⟨3 + r.val, by omega⟩ c) = next2Of (colOf z b ⟨c.val, by omega⟩) r := by
    rw [h3, next2Of]
    by_cases hr : r.val + 2 < 4096
    · rw [dif_pos hr, dif_pos (by show 1 ≤ 3 + r.val ∧ 3 + r.val < 4097; omega)]
      exact congrArg _ (Fin.ext (by show 3 + r.val - 1 = r.val + 2; omega))
    · rw [dif_neg hr, dif_neg (by show ¬ (1 ≤ 3 + r.val ∧ 3 + r.val < 4097); omega)]
  rw [e0, e1, e2, e3, convOf]

theorem gateV_apply (z : FVec Ideal S8x4096x4096 .f32) (b : Fin 8) (r : Fin 4096) (c : Fin 2048) :
    gateV z (ix3 b r c) = colOf z b ⟨2048 + c.val, by omega⟩ r * Ideal.div 1 (1 + Ideal.exp (-colOf z b ⟨2048 + c.val, by omega⟩ r)) := by
  pointwise [gateV, colOf]

end Cert.Reference4Ideal.Odd

namespace Cert.Kernel4Ideal.Odd

open Idealize.ShloMosaic Idealize.ShloMosaic.TcCoe Idealize.ShloMosaic.Tactic Idealize.SL.Sem
open Idealize.ShloMosaic.Pipeline (Dat)
open Cert.Kernel4Ideal Cert.Kernel4Ideal.Gen Cert.Reference4Ideal.Odd
open Cert.Reference2Ideal.Proj (modV)
open Cert.Reference3Ideal.Mix (prevOf nextOf)
open Cert.Kernel3Ideal.Mix (select_row)

/-- The row numbers of a tile. -/
abbrev rows : IVec S1024x256 32 := iota .tc S1024x256 32 [0] iota_S1024x256_d0_w32

/-- A tile of the convolution, of its rows, the row before and the two behind, the weights and the bias. -/
def tileV (hp hn : Ideal .f32) (z : Vec Ideal S1024x256 .f32) (p n1 n2 c0 c1 c2 c3 cb : Vec Ideal S1x256 .f32) : FVec Ideal S1x1024x256 .bf16 :=
  k0_pay17 z (k0_pay14 hn rows z n1) (k0_pay15 hn rows z n1 n2) (k0_pay16 hp rows z p c0) c1 c2 c3 cb

section
variable (hp hn : Ideal .f32) (z : Vec Ideal S1024x256 .f32) (p n1 n2 c0 c1 c2 c3 cb : Vec Ideal S1x256 .f32)

/-- The eight slabs of columns are cut into payloads in different places, and are the same tile. -/
theorem tile_0 : k0_pay17 (F := Ideal) z (k0_pay14 hn rows z n1) (k0_pay15 hn rows z n1 n2) (k0_pay16 hp rows z p c0) c1 c2 c3 cb = tileV hp hn z p n1 n2 c0 c1 c2 c3 cb := rfl

theorem tile_1 : k0_pay28 (F := Ideal) rows z (k0_pay22 hn n1) (k0_pay23 hn n2) (k0_pay24 hp rows z p) (k0_pay25 hn rows z n1) (k0_pay26 rows) k0_pay27 c0 c1 c2 c3 cb
    = tileV hp hn z p n1 n2 c0 c1 c2 c3 cb := rfl

theorem tile_2 : k0_pay37 (F := Ideal) rows z (k0_pay32 hn n1) (k0_pay33 hn n2) (k0_pay34 rows) (k0_pay35 z) (k0_pay36 hp p) c0 c1 c2 c3 cb
    = tileV hp hn z p n1 n2 c0 c1 c2 c3 cb := rfl

theorem tile_3 : k0_pay46 (F := Ideal) (k0_pay43 hn rows z n1 n2) (k0_pay44 hn rows z (k0_pay41 hp p) n1 c0 c1 c2) (k0_pay45 c3) cb
    = tileV hp hn z p n1 n2 c0 c1 c2 c3 cb := rfl

theorem tile_4 : k0_pay55 (F := Ideal) z (k0_pay52 hn rows z n1) (k0_pay53 hn rows z n1 n2) (k0_pay54 hp rows z p c0) c1 c2 c3 cb
    = tileV hp hn z p n1 n2 c0 c1 c2 c3 cb := rfl

theorem tile_5 : k0_pay66 (F := Ideal) rows z (k0_pay60 hn n1) (k0_pay61 hn n2) (k0_pay62 hp rows z p) (k0_pay63 hn rows z n1) (k0_pay64 rows) k0_pay65 c0 c1 c2 c3 cb
    = tileV hp hn z p n1 n2 c0 c1 c2 c3 cb := rfl

theorem tile_6 : k0_pay75 (F := Ideal) rows z (k0_pay70 hn n1) (k0_pay71 hn n2) (k0_pay72 rows) (k0_pay73 z) (k0_pay74 hp p) c0 c1 c2 c3 cb
    = tileV hp hn z p n1 n2 c0 c1 c2 c3 cb := rfl

theorem tile_7 : k0_pay1 (F := Ideal) (k0_pay81 hn rows z n1 n2) (k0_pay82 hn rows z (k0_pay79 hp p) n1 c0 c1 c2) (k0_pay83 c3) cb
    = tileV hp hn z p n1 n2 c0 c1 c2 c3 cb := rfl

theorem tileV_apply (r : Fin 1024) (c : Fin 256) :
    tileV hp hn z p n1 n2 c0 c1 c2 c3 cb (ix3 (0 : Fin 1) r c) = convOf
      (if h : r.val = 0 then p (ix2 (0 : Fin 1) c) * hp else z (ix2 (⟨r.val - 1, by omega⟩ : Fin 1024) c))
      (z (ix2 r c))
      (if h : r.val + 1 < 1024 then z (ix2 (⟨r.val + 1, h⟩ : Fin 1024) c) else n1 (ix2 (0 : Fin 1) c) * hn)
      (if h : r.val + 2 < 1024 then z (ix2 (⟨r.val + 2, h⟩ : Fin 1024) c) else if r.val = 1022 then n1 (ix2 (0 : Fin 1) c) * hn else n2 (ix2 (0 : Fin 1) c) * hn)
      (c0 (ix2 (0 : Fin 1) c)) (c1 (ix2 (0 : Fin 1) c)) (c2 (ix2 (0 : Fin 1) c)) (c3 (ix2 (0 : Fin 1) c)) (cb (ix2 (0 : Fin 1) c)) := by
  pointwise [tileV, k0_pay17, k0_pay14, k0_pay15, k0_pay16, k0_pay13, convOf]
  have hr := r.isLt
  have s0 := fun a b : EReal => select_row (n := r.val) (by omega) (k := 0) (by norm_num) a b
  have s1 := fun a b : EReal => select_row (n := r.val) (by omega) (k := 1023) (by norm_num) a b
  have s2 := fun a b : EReal => select_row (n := r.val) (by omega) (k := 1022) (by norm_num) a b
  refine congrArg₂ (· + ·) (congrArg₂ (· + ·) (congrArg₂ (· + ·) (congrArg₂ (· + ·) (congrArg _ ?_) rfl) (congrArg _ ?_)) (congrArg _ ?_)) rfl
  · refine (s0 _ _).trans ?_
    by_cases h : r.val = 0
    · rw [if_pos h, dif_pos h]
    · have e : (r.val + 1024 - 1) % 1024 = r.val - 1 := by omega
      simp only [h, if_false, dif_neg, not_false_eq_true, e]
  · refine (s1 _ _).trans ?_
    by_cases h : r.val = 1023
    · rw [if_pos h, dif_neg (by omega)]
    · have e : (r.val + 1024 - 1023) % 1024 = r.val + 1 := by omega
      have h' : r.val + 1 < 1024 := by omega
      simp only [h, if_false, h', dif_pos, e]
  · refine (s1 _ _).trans ?_
    by_cases h : r.val = 1023
    · rw [if_pos h, dif_neg (by omega), if_neg (by omega)]
    · rw [if_neg h]
      refine (s2 _ _).trans ?_
      by_cases h1 : r.val = 1022
      · rw [if_pos h1, dif_neg (by omega), if_pos h1]
      · have e : (r.val + 1024 - 1022) % 1024 = r.val + 2 := by omega
        have h' : r.val + 2 < 1024 := by omega
        simp only [h1, if_false, h', dif_pos, e]
end

/-- Silu of a tile: the eight slabs again. -/
theorem gate_0 (z : Vec Ideal S1024x256 .f32) : k0_pay20 (F := Ideal) (k0_pay19 z) = k0_pay2 z := rfl
theorem gate_1 : (k0_pay30 : Vec Ideal S1024x256 .f32 → FVec Ideal S1x1024x256 .bf16) = k0_pay2 := rfl
theorem gate_2 : (k0_pay39 : Vec Ideal S1024x256 .f32 → FVec Ideal S1x1024x256 .bf16) = k0_pay2 := rfl
theorem gate_3 : (k0_pay48 : Vec Ideal S1024x256 .f32 → FVec Ideal S1x1024x256 .bf16) = k0_pay2 := rfl
theorem gate_4 (z : Vec Ideal S1024x256 .f32) : k0_pay58 (F := Ideal) (k0_pay57 z) = k0_pay2 z := rfl
theorem gate_5 : (k0_pay68 : Vec Ideal S1024x256 .f32 → FVec Ideal S1x1024x256 .bf16) = k0_pay2 := rfl
theorem gate_6 : (k0_pay77 : Vec Ideal S1024x256 .f32 → FVec Ideal S1x1024x256 .bf16) = k0_pay2 := rfl

theorem gate_at (z : Vec Ideal S1024x256 .f32) (r : Fin 1024) (c : Fin 256) :
    k0_pay2 z (ix3 (0 : Fin 1) r c) = HMul.hMul (α := EReal) (β := EReal) (γ := EReal) (z (ix2 r c)) (Ideal.div 1 (1 + Ideal.exp (-(show EReal from z (ix2 r c))))) := by
  pointwise [k0_pay2]
  have half : Ideal.ofBits FTy.f32 0x3F000000#32 = ((1 / 2 : ℝ) : EReal) := by
    simp [Ideal.ofBits, Ideal.ieee, -EReal.coe_mul]; norm_num
  rw [half, Cert.Attn.tanh_logistic]

/-- The sixteen products are one operation. -/
theorem dot_1 (w : Vec Ideal S1024x256 .bf16) (u : Vec Ideal S1040x1024 .bf16) : k0_pay12 (F := Ideal) (k0_pay11 w u) = k0_pay10 w u := rfl
theorem dot_9 (w : Vec Ideal S1024x256 .bf16) (u : Vec Ideal S1040x1024 .bf16) : k0_pay50 (F := Ideal) (k0_pay49 w u) = k0_pay10 w u := rfl
theorem dot_p18 : (k0_pay18 : Vec Ideal S1024x256 .bf16 → Vec Ideal S1040x1024 .bf16 → FVec Ideal S1040x256 .f32) = k0_pay10 := rfl
theorem dot_p21 : (k0_pay21 : Vec Ideal S1024x256 .bf16 → Vec Ideal S1040x1024 .bf16 → FVec Ideal S1040x256 .f32) = k0_pay10 := rfl
theorem dot_p29 : (k0_pay29 : Vec Ideal S1024x256 .bf16 → Vec Ideal S1040x1024 .bf16 → FVec Ideal S1040x256 .f32) = k0_pay10 := rfl
theorem dot_p31 : (k0_pay31 : Vec Ideal S1024x256 .bf16 → Vec Ideal S1040x1024 .bf16 → FVec Ideal S1040x256 .f32) = k0_pay10 := rfl
theorem dot_p38 : (k0_pay38 : Vec Ideal S1024x256 .bf16 → Vec Ideal S1040x1024 .bf16 → FVec Ideal S1040x256 .f32) = k0_pay10 := rfl
theorem dot_p40 : (k0_pay40 : Vec Ideal S1024x256 .bf16 → Vec Ideal S1040x1024 .bf16 → FVec Ideal S1040x256 .f32) = k0_pay10 := rfl
theorem dot_p47 : (k0_pay47 : Vec Ideal S1024x256 .bf16 → Vec Ideal S1040x1024 .bf16 → FVec Ideal S1040x256 .f32) = k0_pay10 := rfl
theorem dot_p56 : (k0_pay56 : Vec Ideal S1024x256 .bf16 → Vec Ideal S1040x1024 .bf16 → FVec Ideal S1040x256 .f32) = k0_pay10 := rfl
theorem dot_p59 : (k0_pay59 : Vec Ideal S1024x256 .bf16 → Vec Ideal S1040x1024 .bf16 → FVec Ideal S1040x256 .f32) = k0_pay10 := rfl
theorem dot_p67 : (k0_pay67 : Vec Ideal S1024x256 .bf16 → Vec Ideal S1040x1024 .bf16 → FVec Ideal S1040x256 .f32) = k0_pay10 := rfl
theorem dot_p69 : (k0_pay69 : Vec Ideal S1024x256 .bf16 → Vec Ideal S1040x1024 .bf16 → FVec Ideal S1040x256 .f32) = k0_pay10 := rfl
theorem dot_p76 : (k0_pay76 : Vec Ideal S1024x256 .bf16 → Vec Ideal S1040x1024 .bf16 → FVec Ideal S1040x256 .f32) = k0_pay10 := rfl
theorem dot_p78 : (k0_pay78 : Vec Ideal S1024x256 .bf16 → Vec Ideal S1040x1024 .bf16 → FVec Ideal S1040x256 .f32) = k0_pay10 := rfl

theorem dot_at (w : Vec Ideal S1024x256 .bf16) (u : Vec Ideal S1040x1024 .bf16) (r : Fin 1040) (e : Fin 256) :
    k0_pay10 w u (ix2 r e) = ∑ k : Fin 1024, HMul.hMul (α := EReal) (β := EReal) (γ := EReal) (u (ix2 r k)) (w (ix2 k e)) := by
  pointwise [k0_pay10]

variable (m : (ℓ : Loc nD τ sig) → Buf (Elt Ideal) ℓ)

/-- The windows' blocks at a grid point. -/
theorem idx : ∀ t : Fin cfg0.N,
    win0_0.index t = ![t.val / 4, t.val % 4, 0]
    ∧ win0_1.index t = ![t.val / 4, t.val % 4 * 128 - 1, 0]
    ∧ win0_2.index t = ![t.val / 4, min (t.val % 4 * 128 + 128) 511, 0]
    ∧ win0_3.index t = ![t.val / 4, 0, 0]
    ∧ win0_4.index t = ![t.val / 4, 0, 0]
    ∧ win0_5.index t = ![0, 0]
    ∧ win0_6.index t = ![0, 0]
    ∧ win0_7.index t = ![0, 0]
    ∧ win0_8.index t = ![0, 0]
    ∧ win0_9.index t = ![t.val / 4, t.val % 4, 0]
    ∧ win0_10.index t = ![t.val / 4, t.val % 4, 0]
    ∧ t.val / 4 < 8 ∧ (grid0.coords t 1).val = t.val % 4 :=
  (by decide +kernel : ∀ t : Fin grid0.N, _)

/-- Whether a row block has one before it, and one behind it, as a factor. -/
theorem before_eq (n : ℕ) (h : n < 4) : (k0_pay8 (BitVec.ofNat 32 n) : Ideal .f32) = if n = 0 then (0 : EReal) else 1 := by
  have e : ∀ j : Fin 4, (Scalar.extui (Scalar.cmpi .sgt (BitVec.ofNat 32 j.val) 0#32) : BitVec 32) = if j.val = 0 then 0#32 else 1#32 := by decide
  show (((Scalar.extui (Scalar.cmpi .sgt (BitVec.ofNat 32 n) 0#32) : BitVec 32).toInt : ℝ) : EReal) = _
  rw [e ⟨n, h⟩]
  split_ifs <;> simp

theorem behind_eq (n : ℕ) (h : n < 4) : (k0_pay9 (BitVec.ofNat 32 n) : Ideal .f32) = if n = 3 then (0 : EReal) else 1 := by
  have e : ∀ j : Fin 4, (Scalar.extui (Scalar.cmpi .slt (BitVec.ofNat 32 j.val) 3#32) : BitVec 32) = if j.val = 3 then 0#32 else 1#32 := by decide
  show (((Scalar.extui (Scalar.cmpi .slt (BitVec.ofNat 32 n) 3#32) : BitVec 32).toInt : ℝ) : EReal) = _
  rw [e ⟨n, h⟩]
  split_ifs <;> simp

/-- The modulated rows of the arguments, and their projection. -/
abbrev modOf (c : Dev nD) : FVec Ideal S8x4096x1024 .f32 :=
  modV (m ((c : Thread nD τ).loc main_arg0)) (m ((c : Thread nD τ).loc main_arg1)) (m ((c : Thread nD τ).loc main_arg2)) (m ((c : Thread nD τ).loc main_arg3))

abbrev projOf (c : Dev nD) : FVec Ideal Cert.Reference4Ideal.S8x4096x4096 .f32 :=
  projV (m ((c : Thread nD τ).loc main_arg0)) (m ((c : Thread nD τ).loc main_arg1)) (m ((c : Thread nD τ).loc main_arg2)) (m ((c : Thread nD τ).loc main_arg3)) (m ((c : Thread nD τ).loc main_arg4))

/-- The scratch of modulated rows: the row block's, and its halo's behind them. -/
def scrV (c : Dev nD) (t : Fin cfg0.N) : Vec Ideal S1040x1024 .bf16 :=
  (View.whole cc0_scratch0).readCov
    [⟨Rect.unit ![1024, 0] ![16, 1024] inb_S1040x1024_S16x1024_1024_0, k0_pay7 (iblk m c 5 t) (k0_pay3 (iblk m c 4 t)) (k0_pay4 (iblk m c 3 t)) (k0_pay6 (iblk m c 1 t) (iblk m c 2 t))⟩,
      ⟨Rect.unit ![0, 0] ![1024, 1024] inb_S1040x1024_S1024x1024_0_0, k0_pay5 (iblk m c 5 t) (iblk m c 4 t) (iblk m c 3 t) (iblk m c 0 t)⟩]
    (Rect.unit ![0, 0] ![1040, 1024] inb_S1040x1024_S1040x1024_0_0).toLoadRect

theorem main_point (c : Dev nD) (t : Fin cfg0.N) (r k : Fin 1024) (hb : t.val / 4 < 8) (hr : t.val % 4 * 1024 + r.val < 4096) :
    k0_pay5 (iblk m c 5 t) (iblk m c 4 t) (iblk m c 3 t) (iblk m c 0 t) (ix2 r k) = modOf m c (ix3 ⟨t.val / 4, hb⟩ ⟨t.val % 4 * 1024 + r.val, hr⟩ k) := by
  pointwise [k0_pay5, k0_pay3, k0_pay4, modV]
  blk_point [iblk, V, idx t]

/-- A row of the halo, of the two blocks it is joined from. -/
theorem halo_at (hp hn : Vec Ideal S1x8x1024 .f32) (r : Fin 16) (k : Fin 1024) :
    k0_pay6 hp hn (ix2 r k) = if h : r.val < 8 then hp (ix3 (0 : Fin 1) ⟨r.val, h⟩ k) else hn (ix3 (0 : Fin 1) ⟨r.val - 8, by omega⟩ k) := by
  pointwise [k0_pay6]

/-- A row of the halo block modulated, when it is a row of the array. -/
theorem halo_point (c : Dev nD) (t : Fin cfg0.N) (x : FVec Ideal S16x1024 .f32) (r : Fin 16) (R : Fin 4096) (k : Fin 1024) (hb : t.val / 4 < 8)
    (hx : ∀ k : Fin 1024, x (ix2 r k) = m ((c : Thread nD τ).loc main_arg0) (ix3 (⟨t.val / 4, hb⟩ : Fin 8) R k)) :
    k0_pay7 (F := Ideal) (iblk m c 5 t) (k0_pay3 (iblk m c 4 t)) (k0_pay4 (iblk m c 3 t)) x (ix2 r k) = modOf m c (ix3 ⟨t.val / 4, hb⟩ R k) := by
  pointwise [k0_pay7, k0_pay3, k0_pay4, modV, hx]
  blk_point [iblk, V, idx t]

/-- What the scratch holds at an index is what its rectangle wrote. -/
theorem scr_canon (c : Dev nD) (t : Fin cfg0.N) (y : S1040x1024.Idx) : scrV m c t y = View.canon
    [⟨Rect.unit ![1024, 0] ![16, 1024] inb_S1040x1024_S16x1024_1024_0, k0_pay7 (F := Ideal) (iblk m c 5 t) (k0_pay3 (iblk m c 4 t)) (k0_pay4 (iblk m c 3 t)) (k0_pay6 (iblk m c 1 t) (iblk m c 2 t))⟩,
      ⟨Rect.unit ![0, 0] ![1024, 1024] inb_S1040x1024_S1024x1024_0_0, k0_pay5 (F := Ideal) (iblk m c 5 t) (iblk m c 4 t) (iblk m c 3 t) (iblk m c 0 t)⟩] y := by
  unfold scrV
  rw [View.readCov_eq_canon']
  refine congrArg _ (funext fun a => Fin.ext ?_)
  rw [Rect.idx_unit_val]
  fin_cases a <;> simp

theorem scr_main (c : Dev nD) (t : Fin cfg0.N) (r k : Fin 1024) (hb : t.val / 4 < 8) (hr : t.val % 4 * 1024 + r.val < 4096) :
    scrV m c t (ix2 (⟨r.val, by omega⟩ : Fin 1040) k) = modOf m c (ix3 ⟨t.val / 4, hb⟩ ⟨t.val % 4 * 1024 + r.val, hr⟩ k) := by
  refine (scr_canon m c t _).trans ?_
  refine (View.canon_cons_of_not_mem _ _ fun hm => ?_).trans ?_
  · have h0 : 1024 ≤ r.val := ((Rect.mem_set_unit (inb := inb_S1040x1024_S16x1024_1024_0)).1 hm 0).1
    omega
  · have e : (ix2 (⟨r.val, by omega⟩ : Fin 1040) k : S1040x1024.Idx) = (Rect.unit (s := S1040x1024) ![0, 0] ![1024, 1024] inb_S1040x1024_S1024x1024_0_0).emb (ix2 r k) := by
      refine funext fun a => Fin.ext ?_
      rw [Rect.emb_apply]
      fin_cases a <;> simp
    rw [e]
    exact (View.canon_cons_emb _ _ _ _).trans (main_point m c t r k hb hr)

theorem scr_halo (c : Dev nD) (t : Fin cfg0.N) (r : Fin 16) (k : Fin 1024) :
    scrV m c t (ix2 (⟨1024 + r.val, by omega⟩ : Fin 1040) k)
      = k0_pay7 (F := Ideal) (iblk m c 5 t) (k0_pay3 (iblk m c 4 t)) (k0_pay4 (iblk m c 3 t)) (k0_pay6 (iblk m c 1 t) (iblk m c 2 t)) (ix2 r k) := by
  refine (scr_canon m c t _).trans ?_
  have e : (ix2 (⟨1024 + r.val, by omega⟩ : Fin 1040) k : S1040x1024.Idx) = (Rect.unit (s := S1040x1024) ![1024, 0] ![16, 1024] inb_S1040x1024_S16x1024_1024_0).emb (ix2 r k) := by
    refine funext fun a => Fin.ext ?_
    rw [Rect.emb_apply]
    fin_cases a <;> simp
  rw [e]
  exact View.canon_cons_emb _ _ _ _

/-- The three rows of the halo that are read. -/
theorem scr_before (c : Dev nD) (t : Fin cfg0.N) (k : Fin 1024) (hb : t.val / 4 < 8) (h : ¬ t.val % 4 = 0) :
    scrV m c t (ix2 (⟨1031, by omega⟩ : Fin 1040) k) = modOf m c (ix3 ⟨t.val / 4, hb⟩ ⟨t.val % 4 * 1024 - 1, by omega⟩ k) := by
  refine (scr_halo m c t 7 k).trans (halo_point m c t _ 7 _ k hb fun k => ?_)
  rw [halo_at, dif_pos (by decide)]
  blk_ext [iblk, V, idx t]

theorem scr_behind (c : Dev nD) (t : Fin cfg0.N) (j : Fin 2) (k : Fin 1024) (hb : t.val / 4 < 8) (h : ¬ t.val % 4 = 3) :
    scrV m c t (ix2 (⟨1032 + j.val, by omega⟩ : Fin 1040) k) = modOf m c (ix3 ⟨t.val / 4, hb⟩ ⟨t.val % 4 * 1024 + 1024 + j.val, by omega⟩ k) := by
  have e : (⟨1032 + j.val, by omega⟩ : Fin 1040) = ⟨1024 + (⟨8 + j.val, by omega⟩ : Fin 16).val, by show 1024 + (8 + j.val) < 1040; omega⟩ := Fin.ext (by show 1032 + j.val = 1024 + (8 + j.val); omega)
  rw [e]
  refine (scr_halo m c t ⟨8 + j.val, by omega⟩ k).trans (halo_point m c t _ _ _ k hb fun k => ?_)
  rw [halo_at, dif_neg (by show ¬ 8 + j.val < 8; omega)]
  blk_ext [iblk, V, idx t]

/-- A rectangle of columns, or of rows, is inside the array it is read from. -/
theorem inbw (o : ℕ) (h : o + 256 ≤ 4096) : ∀ a : Fin 2, (![0, o] : Fin 2 → ℕ) a + (![1024, 256] : Fin 2 → ℕ) a ≤ (![1024, 4096] : Fin 2 → ℕ) a := by
  intro a; fin_cases a
  · exact le_refl 1024
  · exact h

theorem inbz (o n : ℕ) (h : o + n ≤ 1040) : ∀ a : Fin 2, (![o, 0] : Fin 2 → ℕ) a + (![n, 256] : Fin 2 → ℕ) a ≤ (![1040, 256] : Fin 2 → ℕ) a := by
  intro a; fin_cases a
  · exact h
  · exact le_refl 256

theorem inbc (n j o : ℕ) (hj : j < n) (h : o + 256 ≤ 2048) : ∀ a : Fin 2, (![j, o] : Fin 2 → ℕ) a + (![1, 256] : Fin 2 → ℕ) a ≤ (![n, 2048] : Fin 2 → ℕ) a := by
  intro a; fin_cases a
  · exact hj
  · exact h

theorem ldw {e : EltTy} (X : Vec Ideal ⟨2, ![1024, 4096]⟩ e) (o : ℕ) (h : o + 256 ≤ 4096) (k : Fin 1024) (c : Fin 256) :
    View.ld X (Rect.unit (s := ⟨2, ![1024, 4096]⟩) ![0, o] ![1024, 256] (inbw o h)) (ix2 k c) = X (ix2 k (⟨o + c.val, by omega⟩ : Fin 4096)) := by
  refine congrArg X (funext fun a => Fin.ext ?_)
  rw [Rect.idx_unit_val]
  fin_cases a <;> simp

theorem ldz {e : EltTy} (X : Vec Ideal ⟨2, ![1040, 256]⟩ e) (o n : ℕ) (h : o + n ≤ 1040) (r : Fin n) (c : Fin 256) :
    View.ld X (Rect.unit (s := ⟨2, ![1040, 256]⟩) ![o, 0] ![n, 256] (inbz o n h)) (ix2 r c) = X (ix2 (⟨o + r.val, by omega⟩ : Fin 1040) c) := by
  refine congrArg X (funext fun a => Fin.ext ?_)
  rw [Rect.idx_unit_val]
  fin_cases a <;> simp

theorem ldc {e : EltTy} {n : ℕ} (X : Vec Ideal ⟨2, ![n, 2048]⟩ e) (j o : ℕ) (hj : j < n) (h : o + 256 ≤ 2048) (c : Fin 256) :
    View.ld X (Rect.unit (s := ⟨2, ![n, 2048]⟩) ![j, o] ![1, 256] (inbc n j o hj h)) (ix2 (0 : Fin 1) c) = X (ix2 (⟨j, hj⟩ : Fin n) (⟨o + c.val, by omega⟩ : Fin 2048)) := by
  refine congrArg X (funext fun a => Fin.ext ?_)
  rw [Rect.idx_unit_val]
  fin_cases a <;> simp

/-- A slab of columns of the projection: the scratch against its columns of the weights. -/
def slabV (c : Dev nD) (t : Fin cfg0.N) (o : ℕ) (h : o + 256 ≤ 4096) : FVec Ideal S1040x256 .f32 :=
  k0_pay10 (View.ld (iblk m c 6 t) (Rect.unit (s := S1024x4096) ![0, o] ![1024, 256] (inbw o h))) (scrV m c t)

/-- A row of a slab is a row of the projection, when the scratch holds there that row modulated. -/
theorem slab_at (c : Dev nD) (t : Fin cfg0.N) (o : ℕ) (h : o + 256 ≤ 4096) (r : Fin 1040) (e : Fin 256) (R : Fin 4096) (hb : t.val / 4 < 8)
    (hu : ∀ k : Fin 1024, scrV m c t (ix2 r k) = modOf m c (ix3 ⟨t.val / 4, hb⟩ R k)) :
    slabV m c t o h (ix2 r e) = colOf (projOf m c) ⟨t.val / 4, hb⟩ ⟨o + e.val, by omega⟩ R := by
  refine (dot_at _ _ r e).trans (Eq.trans ?_ (projV_apply _ _ _ _ _ _ _ _).symm)
  refine Finset.sum_congr rfl fun k _ => congrArg₂ (· * ·) (hu k) ((ldw _ o h k e).trans ?_)
  blk_ext [iblk, V, idx t]

/-- The tile of a slab's rows. -/
abbrev rowsOf (Z : FVec Ideal S1040x256 .f32) : Vec Ideal S1024x256 .f32 := View.ld Z (Rect.unit (s := S1040x256) ![0, 0] ![1024, 256] (inbz 0 1024 (by omega)))
abbrev rowOf (Z : FVec Ideal S1040x256 .f32) (o : ℕ) (h : o + 1 ≤ 1040) : Vec Ideal S1x256 .f32 := View.ld Z (Rect.unit (s := S1040x256) ![o, 0] ![1, 256] (inbz o 1 h))

/-- A slab of the convolution a point stores. -/
def convTile (c : Dev nD) (t : Fin cfg0.N) (o : ℕ) (h : o + 256 ≤ 2048) : FVec Ideal S1x1024x256 .bf16 :=
  tileV (k0_pay8 (BitVec.ofNat 32 (grid0.coords t 1).val)) (k0_pay9 (BitVec.ofNat 32 (grid0.coords t 1).val))
    (rowsOf (slabV m c t o (by omega))) (rowOf (slabV m c t o (by omega)) 1031 (by omega)) (rowOf (slabV m c t o (by omega)) 1032 (by omega)) (rowOf (slabV m c t o (by omega)) 1033 (by omega))
    (View.ld (iblk m c 7 t) (Rect.unit (s := S4x2048) ![0, o] ![1, 256] (inbc 4 0 o (by omega) h)))
    (View.ld (iblk m c 7 t) (Rect.unit (s := S4x2048) ![1, o] ![1, 256] (inbc 4 1 o (by omega) h)))
    (View.ld (iblk m c 7 t) (Rect.unit (s := S4x2048) ![2, o] ![1, 256] (inbc 4 2 o (by omega) h)))
    (View.ld (iblk m c 7 t) (Rect.unit (s := S4x2048) ![3, o] ![1, 256] (inbc 4 3 o (by omega) h)))
    (View.ld (iblk m c 8 t) (Rect.unit (s := S1x2048) ![0, o] ![1, 256] (inbc 1 0 o (by omega) h)))

/-- The bias as the kernel's host hands it over. -/
theorem bias_at (c : Dev nD) (t : Fin cfg0.N) (e : Fin 2048) : iblk m c 8 t (ix2 (0 : Fin 1) e) = m ((c : Thread nD τ).loc main_arg6) (ix1 e) := by
  have hV : V m c main_v0 = shapeCast S1x2048 (m ((c : Thread nD τ).loc main_arg6)) shapeCasts_S2048_S1x2048 := by
    unfold V; after_results; try rfl
  refine Eq.trans (b := V m c main_v0 (ix2 (0 : Fin 1) e)) ?_ ?_
  · generalize hT : V m c main_v0 = T
    blk_ext [iblk, hT, idx t]
  · rw [hV]
    pointwise

/-- A slab of the convolution is the reference's convolution where it lands. -/
theorem conv_point (c : Dev nD) (t : Fin cfg0.N) (o : ℕ) (h : o + 256 ≤ 2048) (r : Fin 1024) (k : Fin 256) (hb : t.val / 4 < 8) (hr : t.val % 4 * 1024 + r.val < 4096) :
    convTile m c t o h (ix3 (0 : Fin 1) r k) = convV (projOf m c) (m ((c : Thread nD τ).loc main_arg5)) (m ((c : Thread nD τ).loc main_arg6))
      (ix3 ⟨t.val / 4, hb⟩ ⟨t.val % 4 * 1024 + r.val, hr⟩ ⟨o + k.val, by omega⟩) := by
  have hi : (grid0.coords t 1).val = t.val % 4 := (idx t).2.2.2.2.2.2.2.2.2.2.2.2
  refine (tileV_apply _ _ _ _ _ _ _ _ _ _ _ r k).trans (Eq.trans ?_ (convV_apply _ _ _ _ _ _).symm)
  rw [hi, before_eq _ (by omega), behind_eq _ (by omega)]
  have hx : ∀ r' : Fin 1024, rowsOf (slabV m c t o (by omega)) (ix2 r' k) = colOf (projOf m c) ⟨t.val / 4, hb⟩ ⟨o + k.val, by omega⟩ ⟨t.val % 4 * 1024 + r'.val, by omega⟩ := by
    intro r'
    refine (ldz _ 0 1024 (by omega) r' k).trans (slab_at m c t o (by omega) _ k _ hb fun k => ?_)
    refine (congrArg (fun q => scrV m c t (ix2 q k)) (Fin.ext (Nat.zero_add _))).trans (scr_main m c t r' k hb (by omega))
  have hp : ∀ h0 : ¬ t.val % 4 = 0, rowOf (slabV m c t o (by omega)) 1031 (by omega) (ix2 (0 : Fin 1) k)
      = colOf (projOf m c) ⟨t.val / 4, hb⟩ ⟨o + k.val, by omega⟩ ⟨t.val % 4 * 1024 - 1, by omega⟩ := fun h0 =>
    (ldz _ 1031 1 (by omega) 0 k).trans (slab_at m c t o (by omega) _ k _ hb fun k => scr_before m c t k hb h0)
  have hn : ∀ (j : Fin 2) (h0 : ¬ t.val % 4 = 3), rowOf (slabV m c t o (by omega)) (1032 + j.val) (by omega) (ix2 (0 : Fin 1) k)
      = colOf (projOf m c) ⟨t.val / 4, hb⟩ ⟨o + k.val, by omega⟩ ⟨t.val % 4 * 1024 + 1024 + j.val, by omega⟩ := fun j h0 =>
    (ldz _ (1032 + j.val) 1 (by omega) 0 k).trans (slab_at m c t o (by omega) _ k _ hb fun k => scr_behind m c t j k hb h0)
  refine convOf_congr ?_ (hx r) ?_ ?_ ((ldc _ 0 o (by omega) h k).trans ?_) ((ldc _ 1 o (by omega) h k).trans ?_) ((ldc _ 2 o (by omega) h k).trans ?_)
    ((ldc _ 3 o (by omega) h k).trans ?_) ((ldc _ 0 o (by omega) h k).trans (bias_at m c t _))
  · unfold prevOf
    by_cases h0 : r.val = 0
    · rw [dif_pos h0]
      by_cases h1 : t.val % 4 = 0
      · rw [if_pos h1, dif_pos (by show t.val % 4 * 1024 + r.val = 0; omega)]
        exact mul_zero _
      · rw [if_neg h1, dif_neg (by show ¬ t.val % 4 * 1024 + r.val = 0; omega)]
        refine (mul_one _).trans ((hp h1).trans (congrArg _ (Fin.ext ?_)))
        show t.val % 4 * 1024 - 1 = t.val % 4 * 1024 + r.val - 1
        omega
    · rw [dif_neg h0, dif_neg (by show ¬ t.val % 4 * 1024 + r.val = 0; omega)]
      refine (hx ⟨r.val - 1, by omega⟩).trans (congrArg _ (Fin.ext ?_))
      show t.val % 4 * 1024 + (r.val - 1) = t.val % 4 * 1024 + r.val - 1
      omega
  · unfold nextOf
    by_cases h0 : r.val + 1 < 1024
    · rw [dif_pos h0, dif_pos (by show t.val % 4 * 1024 + r.val + 1 < 4096; omega)]
      exact hx ⟨r.val + 1, h0⟩
    · rw [dif_neg h0]
      by_cases h1 : t.val % 4 = 3
      · rw [if_pos h1, dif_neg (by show ¬ t.val % 4 * 1024 + r.val + 1 < 4096; omega)]
        exact mul_zero _
      · rw [if_neg h1, dif_pos (by show t.val % 4 * 1024 + r.val + 1 < 4096; omega)]
        refine (mul_one _).trans ((hn 0 h1).trans (congrArg _ (Fin.ext ?_)))
        show t.val % 4 * 1024 + 1024 + 0 = t.val % 4 * 1024 + r.val + 1
        omega
  · unfold next2Of
    by_cases h0 : r.val + 2 < 1024
    · rw [dif_pos h0, dif_pos (by show t.val % 4 * 1024 + r.val + 2 < 4096; omega)]
      exact hx ⟨r.val + 2, h0⟩
    · rw [dif_neg h0]
      by_cases h1 : t.val % 4 = 3
      · rw [if_pos h1, dif_neg (by show ¬ t.val % 4 * 1024 + r.val + 2 < 4096; omega)]
        split_ifs
        · exact mul_zero _
        · exact mul_zero _
      · rw [if_neg h1, dif_pos (by show t.val % 4 * 1024 + r.val + 2 < 4096; omega)]
        by_cases h2 : r.val = 1022
        · rw [if_pos h2]
          refine (mul_one _).trans ((hn 0 h1).trans (congrArg _ (Fin.ext ?_)))
          show t.val % 4 * 1024 + 1024 + 0 = t.val % 4 * 1024 + r.val + 2
          omega
        · rw [if_neg h2]
          refine (mul_one _).trans ((hn 1 h1).trans (congrArg _ (Fin.ext ?_)))
          show t.val % 4 * 1024 + 1024 + 1 = t.val % 4 * 1024 + r.val + 2
          omega
  · blk_ext [iblk, V, idx t]
  · blk_ext [iblk, V, idx t]
  · blk_ext [iblk, V, idx t]
  · blk_ext [iblk, V, idx t]

/-- A slab of the gates a point stores is the reference's where it lands. -/
theorem gate_point (c : Dev nD) (t : Fin cfg0.N) (o : ℕ) (h : o + 256 ≤ 2048) (r : Fin 1024) (k : Fin 256) (hb : t.val / 4 < 8) (hr : t.val % 4 * 1024 + r.val < 4096) :
    k0_pay2 (F := Ideal) (rowsOf (slabV m c t (2048 + o) (by omega))) (ix3 (0 : Fin 1) r k)
      = gateV (projOf m c) (ix3 ⟨t.val / 4, hb⟩ ⟨t.val % 4 * 1024 + r.val, hr⟩ ⟨o + k.val, by omega⟩) := by
  have hx : rowsOf (slabV m c t (2048 + o) (by omega)) (ix2 r k) = colOf (projOf m c) ⟨t.val / 4, hb⟩ ⟨2048 + (o + k.val), by omega⟩ ⟨t.val % 4 * 1024 + r.val, by omega⟩ := by
    refine (ldz _ 0 1024 (by omega) r k).trans ((slab_at m c t (2048 + o) (by omega) _ k _ hb fun k => ?_).trans (congrArg (fun q => colOf (projOf m c) ⟨t.val / 4, hb⟩ q _) (Fin.ext (Nat.add_assoc _ _ _))))
    refine (congrArg (fun q => scrV m c t (ix2 q k)) (Fin.ext (Nat.zero_add _))).trans (scr_main m c t r k hb hr)
  refine (gate_at _ r k).trans (Eq.trans ?_ (gateV_apply _ _ _ _).symm)
  exact congrArg (fun q : EReal => q * Ideal.div 1 (1 + Ideal.exp (-q))) hx

set_option maxHeartbeats 3200000 in
/-- What a point leaves of the convolution is the reference's convolution at the place it lands. -/
theorem after_conv (c : Dev nD) (t : Fin cfg0.N) (y : S1x1024x2048.Idx) :
    (outsAt0 m c t).1 y = convV (projOf m c) (m ((c : Thread nD τ).loc main_arg5)) (m ((c : Thread nD τ).loc main_arg6))
      (((cfg0.win 9).blk t).view.emb y) := by
  have hb : t.val / 4 < 8 := (idx t).2.2.2.2.2.2.2.2.2.2.2.1
  have key : ∀ (o : ℕ) (h : o + 256 ≤ 2048) (x : S1x1024x256.Idx), (y 0).val = (x 0).val → (y 1).val = (x 1).val → (y 2).val = o + (x 2).val →
      convTile m c t o h x = convV (projOf m c) (m ((c : Thread nD τ).loc main_arg5)) (m ((c : Thread nD τ).loc main_arg6)) (((cfg0.win 9).blk t).view.emb y) := by
    intro o h x h0 h1 h2
    obtain ⟨a, r, e, rfl⟩ : ∃ (a : Fin 1) (r : Fin 1024) (e : Fin 256), x = ix3 a r e := ⟨x 0, x 1, x 2, eq_ix3 x⟩
    obtain rfl : a = 0 := Subsingleton.elim _ _
    have h1 : (y 1).val = r.val := h1
    have h2 : (y 2).val = o + e.val := h2
    refine (conv_point m c t o h r e hb (by omega)).trans ?_
    blk_ext [idx t]
  unfold outsAt0
  dsimp only
  frame_out
  simp (disch := decide) only [↓ View.readCov_skip, ↓ View.readCov_cons_toLoadRect, ↓ View.readCov_fill]
  simp only [dot_p18, dot_p29, dot_p38, dot_p47, dot_p56, dot_p67, dot_p76, tile_1, tile_2, tile_3, tile_4, tile_5, tile_6, tile_7]
  rw [tile_0]
  canon_tiles x h
  · exact key 1792 (by omega) x h0 h1 h2
  · exact key 1536 (by omega) x h0 h1 h2
  · exact key 1280 (by omega) x h0 h1 h2
  · exact key 1024 (by omega) x h0 h1 h2
  · exact key 768 (by omega) x h0 h1 h2
  · exact key 512 (by omega) x h0 h1 h2
  · exact key 256 (by omega) x h0 h1 h2
  · exact key 0 (by omega) x h0 h1 (h2.trans (Nat.zero_add _).symm)

set_option maxHeartbeats 3200000 in
/-- And of the gates. -/
theorem after_gate (c : Dev nD) (t : Fin cfg0.N) (y : S1x1024x2048.Idx) :
    (outsAt0 m c t).2 y = gateV (projOf m c) (((cfg0.win 10).blk t).view.emb y) := by
  have hb : t.val / 4 < 8 := (idx t).2.2.2.2.2.2.2.2.2.2.2.1
  have key : ∀ (o : ℕ) (h : o + 256 ≤ 2048) (x : S1x1024x256.Idx), (y 0).val = (x 0).val → (y 1).val = (x 1).val → (y 2).val = o + (x 2).val →
      k0_pay2 (F := Ideal) (rowsOf (slabV m c t (2048 + o) (by omega))) x = gateV (projOf m c) (((cfg0.win 10).blk t).view.emb y) := by
    intro o h x h0 h1 h2
    obtain ⟨a, r, e, rfl⟩ : ∃ (a : Fin 1) (r : Fin 1024) (e : Fin 256), x = ix3 a r e := ⟨x 0, x 1, x 2, eq_ix3 x⟩
    obtain rfl : a = 0 := Subsingleton.elim _ _
    have h1 : (y 1).val = r.val := h1
    have h2 : (y 2).val = o + e.val := h2
    refine (gate_point m c t o h r e hb (by omega)).trans ?_
    blk_ext [idx t]
  unfold outsAt0
  dsimp only
  frame_out
  simp (disch := decide) only [↓ View.readCov_skip, ↓ View.readCov_cons_toLoadRect, ↓ View.readCov_fill]
  simp only [dot_1, dot_p21, dot_p31, dot_p40, dot_9, dot_p59, dot_p69, dot_p78, gate_0, gate_1, gate_2, gate_3, gate_4, gate_5, gate_6]
  canon_tiles x h
  · exact key 1792 (by omega) x h0 h1 h2
  · exact key 1536 (by omega) x h0 h1 h2
  · exact key 1280 (by omega) x h0 h1 h2
  · exact key 1024 (by omega) x h0 h1 h2
  · exact key 768 (by omega) x h0 h1 h2
  · exact key 512 (by omega) x h0 h1 h2
  · exact key 256 (by omega) x h0 h1 h2
  · exact key 0 (by omega) x h0 h1 (h2.trans (Nat.zero_add _).symm)

/-- The two result arrays after the run. -/
theorem final_conv (c : Dev nD) : (dats m 0 c).arrAt 9 (cfgs 0).N
    = convV (projOf m c) (m ((c : Thread nD τ).loc main_arg5)) (m ((c : Thread nD τ).loc main_arg6)) := by
  refine (dats m 0 c).arrAt_eq_of_covers 9 _ (by decide +kernel) fun t _ y => ?_
  blk_simp
  rw [after0_9]
  exact after_conv m c t y

theorem final_gate (c : Dev nD) : (dats m 0 c).arrAt 10 (cfgs 0).N = gateV (projOf m c) := by
  refine (dats m 0 c).arrAt_eq_of_covers 10 _ (by decide +kernel) fun t _ y => ?_
  blk_simp
  rw [after0_10]
  exact after_gate m c t y

end Cert.Kernel4Ideal.Odd
-- ==== Proof.CtxAttn.lean ====
/-
  The context's attention: what the kernel leaves in its result, a pair of heads and a batch a point, is the reference's gated
  softmax over the 256 context keys.
-/
module

public import proofs.«01_k».proof.Proof.Gen.Kernel5Ideal.Value
public import proofs.«01_k».proof.Proof.Gen.Reference5Ideal.Run
public import proofs.«01_k».proof.Proof.Match
public import Idealize.ShloMosaic.Lib.Pipeline.ValueKit
public import Idealize.ShloMosaic.Lib.Pipeline.ReadBack

@[expose] public section

set_option maxRecDepth 16384

noncomputable section

namespace Cert.Reference5Ideal.Ctx

open Idealize.ShloMosaic Idealize.ShloMosaic.TcCoe Idealize.ShloMosaic.Tactic Idealize.SL.Sem
open Cert.Reference5Ideal Cert.Reference5Ideal.Gen

/-- The heads' columns from `o` on. -/
def headsV (z : FVec Ideal S8x256x8192 .bf16) (o : Fin 3 → ℕ) (h : S8x256x8192.Slices o S8x256x1024) : FVec Ideal S8x256x16x64 .f32 :=
  shapeCast S8x256x16x64 (extractStridedSlice S8x256x1024 o (extf .f32 z bitsLt_bf16_f32) h) shapeCasts_S8x256x1024_S8x256x16x64

/-- The queries, times the logarithm of two. -/
def queryV (z : FVec Ideal S8x256x8192 .bf16) : FVec Ideal S8x256x16x64 .f32 :=
  mulf (headsV z ![0, 0, 4096] slices_S8x256x8192_S8x256x1024_0_0_4096) (broadcastInDim S8x256x16x64 ![] bcast_S_S8x256x16x64 (Host.log (constant S_ .f32 0x40000000#32)))

def keyV (z : FVec Ideal S8x256x8192 .bf16) : FVec Ideal S8x256x16x64 .f32 := headsV z ![0, 0, 5120] slices_S8x256x8192_S8x256x1024_0_0_5120

def valueV (z : FVec Ideal S8x256x8192 .bf16) : FVec Ideal S8x256x16x64 .f32 := headsV z ![0, 0, 6144] slices_S8x256x8192_S8x256x1024_0_0_6144

/-- The scores. -/
def scoreV (q k : FVec Ideal S8x256x16x64 .f32) : FVec Ideal S8x16x256x256 .f32 :=
  Host.dotGeneral dot_S8x256x16x64_S8x256x16x64_S8x16x256x256_3_3_1_1_02_02 none q k

/-- The exponential of the scores less their largest. -/
def expV (s : FVec Ideal S8x16x256x256 .f32) : FVec Ideal S8x16x256x256 .f32 :=
  Host.exp (subf s (broadcastInDim S8x16x256x256 ![0, 1, 2, 3] bcast_S8x16x256x1_S8x16x256x256_0_1_2_3
    (broadcastInDim S8x16x256x1 ![0, 1, 2] bcast_S8x16x256_S8x16x256x1_0_1_2
      (Host.reduce FloatOps.maximumf s (constant S_ .f32 0xFF800000#32) reducesTo_S8x16x256x256_S8x16x256_d3 h_S_))))

/-- The weights. -/
def probV (e : FVec Ideal S8x16x256x256 .f32) : FVec Ideal S8x16x256x256 .f32 :=
  mulf e (broadcastInDim S8x16x256x256 ![0, 1, 2, 3] bcast_S8x16x256x1_S8x16x256x256_0_1_2_3
    (Host.divf (broadcastInDim S8x16x256x1 ![] bcast_S_S8x16x256x1 (constant S_ .f32 0x3F800000#32))
      (broadcastInDim S8x16x256x1 ![0, 1, 2] bcast_S8x16x256_S8x16x256x1_0_1_2
        (Host.reduceAdd e (constant S_ .f32 0x00000000#32) reducesTo_S8x16x256x256_S8x16x256_d3 h_S_))))

/-- The weighted values. -/
def mixV (p : FVec Ideal S8x16x256x256 .f32) (v : FVec Ideal S8x256x16x64 .f32) : FVec Ideal S8x256x16x64 .f32 :=
  transpose S8x256x16x64 [0, 3, 1, 2] (Host.dotGeneral dot_S8x256x16x64_S8x16x256x256_S8x16x64x256_1_3_3_2_02_01 none v p) transposes_S8x16x64x256_S8x256x16x64_0_3_1_2

/-- The gate. -/
def gateV (z : FVec Ideal S8x256x8192 .bf16) : FVec Ideal S8x256x1024 .f32 :=
  mulf (extractStridedSlice S8x256x1024 ![0, 0, 7168] (extf .f32 z bitsLt_bf16_f32) slices_S8x256x8192_S8x256x1024_0_0_7168)
    (Host.divf (broadcastInDim S8x256x1024 ![] bcast_S_S8x256x1024 (constant S_ .f32 0x3F800000#32))
      (addf (broadcastInDim S8x256x1024 ![] bcast_S_S8x256x1024 (constant S_ .f32 0x3F800000#32))
        (Host.exp (Host.negf (extractStridedSlice S8x256x1024 ![0, 0, 7168] (extf .f32 z bitsLt_bf16_f32) slices_S8x256x8192_S8x256x1024_0_0_7168)))))

/-- The reference's result of its argument. -/
def resultV (z : FVec Ideal S8x256x8192 .bf16) : FVec Ideal S8x256x1024 .bf16 :=
  truncf .bf16 (mulf (shapeCast S8x256x1024 (mixV (probV (expV (scoreV (queryV z) (keyV z)))) (valueV z)) shapeCasts_S8x256x16x64_S8x256x1024) (gateV z)) bitsLt_bf16_f32

/-- The score of key `j` for query `t` and head `h`. -/
def scoreAt (z : S8x256x8192.Idx → EReal) (b : Fin 8) (h : Fin 16) (t j : Fin 256) : EReal :=
  ∑ d : Fin 64, z (ix3 b t ⟨4096 + (h.val * 64 + d.val), by omega⟩) * ((Real.log 2 : ℝ) : EReal) * z (ix3 b j ⟨5120 + (h.val * 64 + d.val), by omega⟩)

/-- The gated attention. -/
def resultAt (z : S8x256x8192.Idx → EReal) (b : Fin 8) (t : Fin 256) (n : Fin 1024) : EReal :=
  (∑ j : Fin 256, Ideal.exp (scoreAt z b ⟨n.val / 64, by omega⟩ t j - Finset.univ.sup (scoreAt z b ⟨n.val / 64, by omega⟩ t))
      * Ideal.div 1 (∑ j : Fin 256, Ideal.exp (scoreAt z b ⟨n.val / 64, by omega⟩ t j - Finset.univ.sup (scoreAt z b ⟨n.val / 64, by omega⟩ t)))
      * z (ix3 b j ⟨6144 + n.val, by omega⟩))
    * (z (ix3 b t ⟨7168 + n.val, by omega⟩) * Ideal.div 1 (1 + Ideal.exp (-z (ix3 b t ⟨7168 + n.val, by omega⟩))))

theorem queryV_apply (z : FVec Ideal S8x256x8192 .bf16) (b : Fin 8) (q : Fin 256) (h : Fin 16) (d : Fin 64) :
    queryV z (ix4 b q h d) = z (ix3 b q ⟨4096 + (h.val * 64 + d.val), by omega⟩) * ((Real.log 2 : ℝ) : EReal) := by
  pointwise [queryV, headsV]
  rw [Cert.ReferenceIdeal.Attn.log_two]

theorem keyV_apply (z : FVec Ideal S8x256x8192 .bf16) (b : Fin 8) (q : Fin 256) (h : Fin 16) (d : Fin 64) :
    keyV z (ix4 b q h d) = z (ix3 b q ⟨5120 + (h.val * 64 + d.val), by omega⟩) := by
  pointwise [keyV, headsV]

theorem valueV_apply (z : FVec Ideal S8x256x8192 .bf16) (b : Fin 8) (q : Fin 256) (h : Fin 16) (d : Fin 64) :
    valueV z (ix4 b q h d) = z (ix3 b q ⟨6144 + (h.val * 64 + d.val), by omega⟩) := by
  pointwise [valueV, headsV]

theorem scoreV_apply (z : FVec Ideal S8x256x8192 .bf16) (b : Fin 8) (h : Fin 16) (t j : Fin 256) :
    scoreV (queryV z) (keyV z) (ix4 b h t j) = scoreAt z b h t j := by
  pointwise [scoreV]
  unfold scoreAt
  simp only [queryV_apply, keyV_apply]

theorem expV_apply (s : FVec Ideal S8x16x256x256 .f32) (b : Fin 8) (h : Fin 16) (t j : Fin 256) :
    expV s (ix4 b h t j) = Ideal.exp (s (ix4 b h t j) - Finset.univ.sup fun x => s (ix4 b h t x)) := by
  pointwise [expV]
  rw [Cert.ReferenceIdeal.Attn.fold_max_bot]

theorem probV_apply (s : FVec Ideal S8x16x256x256 .f32) (b : Fin 8) (h : Fin 16) (t j : Fin 256) :
    probV s (ix4 b h t j) = s (ix4 b h t j) * Ideal.div 1 (∑ x : Fin 256, s (ix4 b h t x)) := by
  pointwise [probV]

theorem mixV_apply (p : FVec Ideal S8x16x256x256 .f32) (v : FVec Ideal S8x256x16x64 .f32) (b : Fin 8) (t : Fin 256) (h : Fin 16) (d : Fin 64) :
    mixV p v (ix4 b t h d) = ∑ j : Fin 256, v (ix4 b j h d) * p (ix4 b h t j) := by
  pointwise [mixV]

theorem gateV_apply (z : FVec Ideal S8x256x8192 .bf16) (b : Fin 8) (t : Fin 256) (n : Fin 1024) :
    gateV z (ix3 b t n) = z (ix3 b t ⟨7168 + n.val, by omega⟩) * Ideal.div 1 (1 + Ideal.exp (-z (ix3 b t ⟨7168 + n.val, by omega⟩))) := by
  pointwise [gateV]

theorem resultV_apply (z : FVec Ideal S8x256x8192 .bf16) (b : Fin 8) (t : Fin 256) (n : Fin 1024) : resultV z (ix3 b t n) = resultAt z b t n := by
  pointwise [resultV]
  rw [gateV_apply, mixV_apply]
  unfold resultAt
  simp only [probV_apply, expV_apply, scoreV_apply, valueV_apply]
  refine congrArg (· * _) (Finset.sum_congr rfl fun j _ => ?_)
  rw [mul_comm]
  exact congrArg₂ (· * ·) rfl (congrArg (fun u => z (ix3 b j u)) (Fin.ext (by simp only; omega)))

end Cert.Reference5Ideal.Ctx

namespace Cert.Kernel5Ideal.Ctx

open Idealize.ShloMosaic Idealize.ShloMosaic.TcCoe Idealize.ShloMosaic.Tactic Idealize.SL.Sem
open Idealize.ShloMosaic.Pipeline (Dat)
open Cert.Kernel5Ideal Cert.Kernel5Ideal.Gen Cert.Reference5Ideal.Ctx
open Cert.KernelIdeal.Attn (fold_max_bot lane_lt half_sum log_two_mul_sum)

/-! ## What a point computes, as vector expressions -/

/-- The queries, each head's over its own lanes and zero elsewhere, one head below the other. -/
def splitV (q : Vec Ideal S1x256x128 .bf16) : FVec Ideal S512x128 .bf16 :=
  concatenate S512x128 0 [⟨S256x128, k0_pay9 q⟩, ⟨S256x128, select k0_pay7 (k0_pay8 (F := Ideal)) (k0_pay5 q)⟩] concatenates_S256x128_S256x128_S512x128_d0

/-- The scores, keys down and queries across. -/
def dotV (k q : Vec Ideal S1x256x128 .bf16) : FVec Ideal S256x512 .f32 :=
  matmul dot_S256x128_S512x128_S256x512_1_1_0_0_n_n none (k0_pay6 k) (splitV q) (constant S256x512 .f32 0x00000000#32)

/-- The weights before their division. -/
def weightV (s : FVec Ideal S256x512 .f32) : FVec Ideal S256x512 .f32 :=
  exp2 (subf s (broadcastTo S256x512
    (shapeCast S1x512 (multiReduction .maximumf [0] S512 s 0xFF800000#32 reduces_S256x512_S512 (.inl rfl) rfl) shapeCasts_S512_S1x512)
    broadcasts_S1x512_S256x512))

/-- One over the sum of the weights. -/
def invV (e : FVec Ideal S256x512 .f32) : FVec Ideal S1x512 .f32 :=
  divf (broadcast S1x512 (Scalar.ofBits .f32 0x3F800000#32))
    (shapeCast S1x512 (multiReduction .add [0] S512 e 0x00000000#32 reduces_S256x512_S512 (.inl rfl) rfl) shapeCasts_S512_S1x512)

/-- The weighted values of both heads, transposed. -/
def weightedV (vt : FVec Ideal S128x256 .bf16) (e : FVec Ideal S256x512 .f32) : FVec Ideal S128x512 .f32 :=
  mulf (matmul dot_S128x256_S256x512_S128x512_1_0_0_1_n_n none vt (truncf .bf16 e bitsLt_bf16_f32) (constant S128x512 .f32 0x00000000#32))
    (broadcastTo S128x512 (invV e) broadcasts_S1x512_S128x512)

/-- The gate, by a hyperbolic tangent. -/
def tanhV (bg : Vec Ideal S1x256x128 .bf16) : FVec Ideal S256x128 .f32 :=
  mulf (extf .f32 (shapeCast S256x128 bg shapeCasts_S1x256x128_S256x128) bitsLt_bf16_f32)
    (addf (mulf (broadcast S256x128 (Scalar.ofBits .f32 0x3F000000#32))
      (tanh (mulf (broadcast S256x128 (Scalar.ofBits .f32 0x3F000000#32)) (extf .f32 (shapeCast S256x128 bg shapeCasts_S1x256x128_S256x128) bitsLt_bf16_f32))))
      (broadcast S256x128 (Scalar.ofBits .f32 0x3F000000#32)))

/-- The block: each lane from its own head, times the gate. -/
def outV (w : FVec Ideal S128x512 .f32) (bg : Vec Ideal S1x256x128 .bf16) : FVec Ideal S1x256x128 .bf16 :=
  shapeCast S1x256x128
    (truncf .bf16
      (mulf
        (transpose S256x128 [1, 0]
          (select (cmpi .slt (iota .tc S128x256 32 [0] iota_S128x256_d0_w32) (broadcast S128x256 64#32))
            (extractStridedSlice S128x256 ![0, 0] w slices_S128x512_o0_0_S128x256)
            (extractStridedSlice S128x256 ![0, 256] w slices_S128x512_o0_256_S128x256))
          transposes_S128x256_p1_0_S256x128)
        (tanhV bg))
      bitsLt_bf16_f32)
    shapeCasts_S256x128_S1x256x128

/-- The body's payload is these. -/
theorem pay_eq (vt : FVec Ideal S128x256 .bf16) (q k bg : Vec Ideal S1x256x128 .bf16) :
    k0_pay1 vt (k0_pay5 q) (k0_pay6 k) k0_pay7 (k0_pay8 (F := Ideal)) (k0_pay9 q) bg = outV (weightedV vt (weightV (dotV k q))) bg := rfl

/-! ## Their entries -/

/-- The column of a query for the head that lane `l` is of. -/
def colOf (r : Fin 256) (l : Fin 128) : Fin 512 := if l.val < 64 then ⟨r.val, by omega⟩ else ⟨256 + r.val, by omega⟩

theorem splitV_apply (q : Vec Ideal S1x256x128 .bf16) (r : Fin 256) (l d : Fin 128) :
    splitV q (ix2 (colOf r l) d) = if (l.val < 64 ↔ d.val < 64) then q (ix3 (0 : Fin 1) r d) else 0 := by
  by_cases hl : l.val < 64 <;> by_cases hd : d.val < 64 <;>
    (simp only [colOf, hl, if_true, if_false]; pointwise [splitV, k0_pay9, k0_pay8, k0_pay7, k0_pay5]; rw [lane_lt d]; simp [Scalar.select, hd])

theorem dotV_apply (k q : Vec Ideal S1x256x128 .bf16) (n : Fin 256) (c : Fin 512) :
    dotV k q (ix2 n c) = ∑ d : Fin 128, k (ix3 (0 : Fin 1) n d) * splitV q (ix2 c d) := by
  pointwise [dotV, k0_pay6, dot_S256x128_S512x128_S256x512_1_1_0_0_n_n]

theorem weightV_apply (s : FVec Ideal S256x512 .f32) (n : Fin 256) (c : Fin 512) :
    weightV s (ix2 n c) = Ideal.exp2 (s (ix2 n c) - Finset.univ.sup fun k : Fin 256 => s (ix2 k c)) := by
  pointwise [weightV]
  rw [fold_max_bot]
  rfl

theorem invV_apply (e : FVec Ideal S256x512 .f32) (c : Fin 512) : invV e (ix2 (0 : Fin 1) c) = Ideal.div 1 (∑ n : Fin 256, e (ix2 n c)) := by
  pointwise [invV]

theorem weightedV_apply (vt : FVec Ideal S128x256 .bf16) (e : FVec Ideal S256x512 .f32) (l : Fin 128) (c : Fin 512) :
    weightedV vt e (ix2 l c) = (∑ n : Fin 256, vt (ix2 l n) * e (ix2 n c)) * invV e (ix2 (0 : Fin 1) c) := by
  pointwise [weightedV, dot_S128x256_S256x512_S128x512_1_0_0_1_n_n]

theorem tanhV_apply (bg : Vec Ideal S1x256x128 .bf16) (r : Fin 256) (l : Fin 128) :
    tanhV bg (ix2 r l) = bg (ix3 (0 : Fin 1) r l) * Ideal.div 1 (1 + Ideal.exp (-(bg (ix3 (0 : Fin 1) r l) : EReal))) := by
  pointwise [tanhV]
  have h : Ideal.ofBits FTy.f32 0x3F000000#32 = ((1 / 2 : ℝ) : EReal) := by
    simp [Ideal.ofBits, Ideal.ieee, -EReal.coe_mul]; norm_num
  rw [h, Cert.Attn.tanh_logistic]

theorem outV_apply (w : FVec Ideal S128x512 .f32) (bg : Vec Ideal S1x256x128 .bf16) (r : Fin 256) (l : Fin 128) :
    outV w bg (ix3 (0 : Fin 1) r l) = w (ix2 l (colOf r l)) * tanhV bg (ix2 r l) := by
  by_cases hl : l.val < 64 <;> (pointwise [outV, colOf]; rw [lane_lt l]; simp [Scalar.select, hl])

/-- The values, transposed, as they are read back. -/
theorem values_apply (x : Vec Ideal S1x256x128 .bf16) (l : Fin 128) (n : Fin 256) :
    k0_pay4 (F := Ideal)
      (k0_pay2 (View.ld x (Rect.unit (s := S1x256x128) ![0, 0, 0] S1x128x128.size inb_S1x256x128_S1x128x128_0_0_0)))
      (k0_pay3 (View.ld x (Rect.unit (s := S1x256x128) ![0, 128, 0] S1x128x128.size inb_S1x256x128_S1x128x128_0_128_0))) (ix2 l n) = x (ix3 (0 : Fin 1) n l) := by
  have ld0 : ∀ r d : Fin 128, View.ld x (Rect.unit (s := S1x256x128) ![0, 0, 0] S1x128x128.size inb_S1x256x128_S1x128x128_0_0_0) (ix3 (0 : Fin 1) r d)
      = x (ix3 (0 : Fin 1) (⟨r.val, by omega⟩ : Fin 256) d) := fun r d => by
    refine congrArg x (funext fun a => Fin.ext ?_)
    rw [Rect.idx_unit_val]
    fin_cases a <;> simp
  have ld1 : ∀ r d : Fin 128, View.ld x (Rect.unit (s := S1x256x128) ![0, 128, 0] S1x128x128.size inb_S1x256x128_S1x128x128_0_128_0) (ix3 (0 : Fin 1) r d)
      = x (ix3 (0 : Fin 1) (⟨128 + r.val, by omega⟩ : Fin 256) d) := fun r d => by
    refine congrArg x (funext fun a => Fin.ext ?_)
    rw [Rect.idx_unit_val]
    fin_cases a <;> simp
  generalize View.ld x (Rect.unit (s := S1x256x128) ![0, 0, 0] S1x128x128.size inb_S1x256x128_S1x128x128_0_0_0) = X at ld0 ⊢
  generalize View.ld x (Rect.unit (s := S1x256x128) ![0, 128, 0] S1x128x128.size inb_S1x256x128_S1x128x128_0_128_0) = Y at ld1 ⊢
  pointwise [k0_pay4, k0_pay2, k0_pay3]
  by_cases h : n.val < 128
  · rw [dif_pos h]
    exact ld0 ⟨n.val, h⟩ l
  · rw [dif_neg h]
    refine (ld1 ⟨n.val - 128, by omega⟩ l).trans (congrArg x (congrArg (fun u => ix3 (0 : Fin 1) u l) (Fin.ext ?_)))
    show 128 + (n.val - 128) = n.val
    omega

/-- A point's block, of the columns of a pair of heads, is the reference's result at them. -/
theorem block_match (z : FVec Ideal S8x256x8192 .bf16) (b p : Fin 8) (q k v bg : Vec Ideal S1x256x128 .bf16) (vt : FVec Ideal S128x256 .bf16)
    (hq : ∀ (t : Fin 256) (l : Fin 128), q (ix3 (0 : Fin 1) t l) = z (ix3 b t ⟨4096 + (128 * p.val + l.val), by omega⟩))
    (hk : ∀ (t : Fin 256) (l : Fin 128), k (ix3 (0 : Fin 1) t l) = z (ix3 b t ⟨5120 + (128 * p.val + l.val), by omega⟩))
    (hv : ∀ (t : Fin 256) (l : Fin 128), vt (ix2 l t) = z (ix3 b t ⟨6144 + (128 * p.val + l.val), by omega⟩))
    (hg : ∀ (t : Fin 256) (l : Fin 128), bg (ix3 (0 : Fin 1) t l) = z (ix3 b t ⟨7168 + (128 * p.val + l.val), by omega⟩))
    (r : Fin 256) (l : Fin 128) :
    outV (weightedV vt (weightV (dotV k q))) bg (ix3 (0 : Fin 1) r l) = resultAt z b r ⟨128 * p.val + l.val, by omega⟩ := by
  rw [outV_apply, weightedV_apply, invV_apply, tanhV_apply, hg]
  simp only [weightV_apply]
  unfold resultAt
  refine congrArg (· * _) ?_
  refine Cert.Attn.softmax_eq (fun j : Fin 256 => j) (fun _ _ h => h) (fun n => dotV k q (ix2 n (colOf r l))) (fun n => vt (ix2 l n)) _ _ (fun j => ?_)
    (fun n h => absurd rfl (h n)) (fun j => hv j l)
  rw [dotV_apply]
  simp only [splitV_apply]
  refine Eq.trans ?_ (congrArg _ (half_sum l (fun d => k (ix3 (0 : Fin 1) j d)) (fun d => q (ix3 (0 : Fin 1) r d))).symm)
  rw [log_two_mul_sum]
  unfold scoreAt
  refine Finset.sum_congr rfl fun d _ => congrArg₂ (· * ·) (congrArg (· * _) ?_) ?_
  · refine Eq.trans (congrArg (fun u => z (ix3 b r u)) (Fin.ext ?_)) (hq r _).symm
    simp only
    omega
  · refine Eq.trans (congrArg (fun u => z (ix3 b j u)) (Fin.ext ?_)) (hk j _).symm
    simp only
    omega

/-! ## The points -/

variable (m : (ℓ : Loc nD τ sig) → Buf (Elt Ideal) ℓ)

/-- The windows' blocks at a grid point. -/
theorem idx : ∀ t : Fin cfg0.N,
    win0_0.index t = ![t.val / 8, 0, 32 + t.val % 8]
    ∧ win0_1.index t = ![t.val / 8, 0, 40 + t.val % 8]
    ∧ win0_2.index t = ![t.val / 8, 0, 48 + t.val % 8]
    ∧ win0_3.index t = ![t.val / 8, 0, 56 + t.val % 8]
    ∧ win0_4.index t = ![t.val / 8, 0, t.val % 8]
    ∧ t.val / 8 < 8 :=
  (by decide +kernel : ∀ t : Fin grid0.N, _)

/-- The batch and the pair of heads of a grid point. -/
abbrev batchOf (t : Fin cfg0.N) : Fin 8 := ⟨t.val / 8, (idx t).2.2.2.2.2⟩

abbrev pairOf (t : Fin cfg0.N) : Fin 8 := ⟨t.val % 8, by omega⟩

theorem q_block (c : Dev nD) (t : Fin cfg0.N) (u : Fin 256) (l : Fin 128) :
    iblk m c 0 t (ix3 (0 : Fin 1) u l) = m ((c : Thread nD τ).loc main_arg0) (ix3 (batchOf t) u ⟨4096 + (128 * (pairOf t).val + l.val), by omega⟩) := by
  blk_ext [iblk, V, idx t]

theorem k_block (c : Dev nD) (t : Fin cfg0.N) (u : Fin 256) (l : Fin 128) :
    iblk m c 1 t (ix3 (0 : Fin 1) u l) = m ((c : Thread nD τ).loc main_arg0) (ix3 (batchOf t) u ⟨5120 + (128 * (pairOf t).val + l.val), by omega⟩) := by
  blk_ext [iblk, V, idx t]

theorem v_block (c : Dev nD) (t : Fin cfg0.N) (u : Fin 256) (l : Fin 128) :
    iblk m c 2 t (ix3 (0 : Fin 1) u l) = m ((c : Thread nD τ).loc main_arg0) (ix3 (batchOf t) u ⟨6144 + (128 * (pairOf t).val + l.val), by omega⟩) := by
  blk_ext [iblk, V, idx t]

theorem gate_block (c : Dev nD) (t : Fin cfg0.N) (u : Fin 256) (l : Fin 128) :
    iblk m c 3 t (ix3 (0 : Fin 1) u l) = m ((c : Thread nD τ).loc main_arg0) (ix3 (batchOf t) u ⟨7168 + (128 * (pairOf t).val + l.val), by omega⟩) := by
  blk_ext [iblk, V, idx t]

/-- What a point leaves of the result. -/
theorem point (c : Dev nD) (t : Fin cfg0.N) (y : S1x256x128.Idx) (vt : FVec Ideal S128x256 .bf16)
    (hv : ∀ (u : Fin 256) (l : Fin 128), vt (ix2 l u) = iblk m c 2 t (ix3 (0 : Fin 1) u l)) :
    outV (weightedV vt (weightV (dotV (iblk m c 1 t) (iblk m c 0 t)))) (iblk m c 3 t) y
      = resultV (m ((c : Thread nD τ).loc main_arg0)) (((cfg0.win 4).blk t).view.emb y) := by
  obtain ⟨a, u, l, rfl⟩ : ∃ (a : Fin 1) (u : Fin 256) (l : Fin 128), y = ix3 a u l := ⟨y 0, y 1, y 2, eq_ix3 y⟩
  obtain rfl : a = 0 := Subsingleton.elim _ _
  refine (block_match (m ((c : Thread nD τ).loc main_arg0)) (batchOf t) (pairOf t) _ _ (iblk m c 2 t) _ vt (q_block m c t) (k_block m c t)
    (fun u l => (hv u l).trans (v_block m c t u l)) (gate_block m c t) u l).trans ?_
  refine (resultV_apply _ _ _ _).symm.trans ?_
  blk_ext [idx t]

/-- The result array after the run. -/
theorem final (c : Dev nD) : (dats m 0 c).arrAt 4 (cfgs 0).N = resultV (m ((c : Thread nD τ).loc main_arg0)) := by
  refine (dats m 0 c).arrAt_eq_of_covers 4 _ (by decide +kernel) fun t _ y => ?_
  blk_simp
  rw [after0_4]
  refine Eq.trans ?_ (point m c t y _ fun u l => values_apply (iblk m c 2 t) l u)
  rw [← pay_eq]
  unfold outsAt0
  dsimp only
  frame_out
  simp (disch := decide) only [↓ View.readCov_skip, ↓ View.readCov_cons_toLoadRect, ↓ View.readCov_fill]

end Cert.Kernel5Ideal.Ctx
-- ==== Proof.Mods.lean ====
/-
  The modulation of all layers: what the kernel leaves in its result is the reference's product of the rows' silu with every
  layer's weights, plus the bias; and the host's two scatters that place the rows are the reference's concatenation.
-/
module

public import proofs.«01_k».proof.Proof.Gen.Kernel6Ideal.Value
public import proofs.«01_k».proof.Proof.Gen.Reference6Ideal.Run
public import proofs.«01_k».proof.Proof.Softmax
public import Idealize.ShloMosaic.Lib.Pipeline.ValueKit
public import Idealize.ShloMosaic.Lib.Routing.OpsOne

@[expose] public section

set_option maxRecDepth 16384

noncomputable section

namespace Cert.Reference6Ideal.Mods

open Idealize.ShloMosaic Idealize.ShloMosaic.TcCoe Idealize.ShloMosaic.Tactic Idealize.SL.Sem
open Cert.Reference6Ideal Cert.Reference6Ideal.Gen

/-- The rows: a batch's each, the context's, and rows of zeros. -/
def rowsV (c : FVec Ideal S8x1024 .f32) (cc : FVec Ideal S1024 .f32) : FVec Ideal S16x1024 .f32 :=
  concatenate S16x1024 0 [⟨S8x1024, c⟩, ⟨S1x1024, broadcastInDim S1x1024 ![1] bcast_S1024_S1x1024_1 cc⟩,
    ⟨S7x1024, broadcastInDim S7x1024 ![] bcast_S_S7x1024 (constant S_ .f32 0x00000000#32)⟩] concatenates_S8x1024_S1x1024_S7x1024_S16x1024_d0

/-- The silu of rows. -/
def siluV (x : FVec Ideal S16x1024 .f32) : FVec Ideal S16x1024 .f32 :=
  mulf x (Host.divf (broadcastInDim S16x1024 ![] bcast_S_S16x1024 (constant S_ .f32 0x3F800000#32))
    (addf (broadcastInDim S16x1024 ![] bcast_S_S16x1024 (constant S_ .f32 0x3F800000#32)) (Host.exp (Host.negf x))))

/-- The reference's result of its rows, weights and biases. -/
def resultV (x : FVec Ideal S16x1024 .f32) (w : FVec Ideal S4x1024x3072 .f32) (b : FVec Ideal S4x3072 .f32) : FVec Ideal S4x16x3072 .f32 :=
  addf (transpose S4x16x3072 [0, 2, 1] (Host.dotGeneral dot_S4x1024x3072_S16x1024_S4x3072x16_1_1_02_0_n_n none w (siluV x)) transposes_S4x3072x16_S4x16x3072_0_2_1)
    (broadcastInDim S4x16x3072 ![0, 1, 2] bcast_S4x1x3072_S4x16x3072_0_1_2 (broadcastInDim S4x1x3072 ![0, 2] bcast_S4x3072_S4x1x3072_0_2 b))

theorem rowsV_apply (c : FVec Ideal S8x1024 .f32) (cc : FVec Ideal S1024 .f32) (r : Fin 16) (k : Fin 1024) :
    rowsV c cc (ix2 r k) = if h : r.val < 8 then c (ix2 ⟨r.val, h⟩ k) else if r.val = 8 then cc (ix1 k) else 0 := by
  pointwise [rowsV]
  fin_cases r <;> simp

theorem siluV_apply (x : FVec Ideal S16x1024 .f32) (r : Fin 16) (k : Fin 1024) :
    siluV x (ix2 r k) = x (ix2 r k) * Ideal.div 1 (1 + Ideal.exp (-(x (ix2 r k) : EReal))) := by
  pointwise [siluV]

theorem resultV_apply (x : FVec Ideal S16x1024 .f32) (w : FVec Ideal S4x1024x3072 .f32) (b : FVec Ideal S4x3072 .f32)
    (l : Fin 4) (r : Fin 16) (e : Fin 3072) :
    resultV x w b (ix3 l r e) = (∑ k : Fin 1024, w (ix3 l k e) * siluV x (ix2 r k)) + b (ix2 l e) := by
  pointwise [resultV]

end Cert.Reference6Ideal.Mods

namespace Cert.Kernel6Ideal.Mods

open Idealize.ShloMosaic Idealize.ShloMosaic.TcCoe Idealize.ShloMosaic.Tactic Idealize.SL.Sem
open Idealize.ShloMosaic.Pipeline (Dat)
open Cert.Kernel6Ideal Cert.Kernel6Ideal.Gen Cert.Reference6Ideal.Mods

variable (m : (ℓ : Loc nD τ sig) → Buf (Elt Ideal) ℓ)

/-! ## The rows the host places -/

/-- A block of rows lands from the first row on. -/
theorem lands_block (idx : IVec S1 32) (h0 : idx (ix1 (0 : Fin 1)) = 0#32) (a : Fin 8) (k : Fin 1024) (r : Fin 16) (e : Fin 1024) :
    scatter_S16x1024_S1_S8x1024_01_n_0_0.resultIdx? (ix2 a k) idx = some (ix2 r e) ↔ a.val = r.val ∧ k = e := by
  have hw0 : scatter_S16x1024_S1_S8x1024_01_n_0_0.window (ix2 a k) 0 = a.val := rfl
  have hw1 : scatter_S16x1024_S1_S8x1024_01_n_0_0.window (ix2 a k) 1 = k.val := rfl
  have hs0 : scatter_S16x1024_S1_S8x1024_01_n_0_0.start (ix2 a k) idx 0 = 0 := by
    refine Eq.trans (b := (idx (ix1 (0 : Fin 1))).toInt) ?_ (by rw [h0]; rfl)
    show (idx _).toInt = _
    exact congrArg (fun j => (idx j).toInt) (funext fun b => match b with | ⟨0, _⟩ => Subsingleton.elim (α := Fin 1) _ _)
  have hs1 : scatter_S16x1024_S1_S8x1024_01_n_0_0.start (ix2 a k) idx 1 = 0 := rfl
  refine (Routing.resultIdx?_ix2 _ _ _ r e).trans ?_
  rw [hs0, hs1, hw0, hw1, Fin.ext_iff (a := k)]
  omega

/-- A row lands at the ninth. -/
theorem lands_row (idx : IVec S1 32) (h8 : idx (ix1 (0 : Fin 1)) = 8#32) (k : Fin 1024) (r : Fin 16) (e : Fin 1024) :
    scatter_S16x1024_S1_S1024_0_0_0_0.resultIdx? (ix1 k) idx = some (ix2 r e) ↔ 8 = r.val ∧ k = e := by
  have hw0 : scatter_S16x1024_S1_S1024_0_0_0_0.window (ix1 k) 0 = 0 := rfl
  have hw1 : scatter_S16x1024_S1_S1024_0_0_0_0.window (ix1 k) 1 = k.val := rfl
  have hs0 : scatter_S16x1024_S1_S1024_0_0_0_0.start (ix1 k) idx 0 = 8 := by
    refine Eq.trans (b := (idx (ix1 (0 : Fin 1))).toInt) ?_ (by rw [h8]; rfl)
    show (idx _).toInt = _
    exact congrArg (fun j => (idx j).toInt) (funext fun b => match b with | ⟨0, _⟩ => Subsingleton.elim (α := Fin 1) _ _)
  have hs1 : scatter_S16x1024_S1_S1024_0_0_0_0.start (ix1 k) idx 1 = 0 := rfl
  refine (Routing.resultIdx?_ix2 _ _ _ r e).trans ?_
  rw [hs0, hs1, hw0, hw1, Fin.ext_iff (a := k)]
  omega

theorem block_apply (x : FVec Ideal S16x1024 .f32) (idx : IVec S1 32) (h0 : idx (ix1 (0 : Fin 1)) = 0#32) (u : FVec Ideal S8x1024 .f32) (r : Fin 16) (e : Fin 1024) :
    Host.scatter scatter_S16x1024_S1_S8x1024_01_n_0_0 (fun _ b => b) x idx u (ix2 r e) = if h : r.val < 8 then u (ix2 ⟨r.val, h⟩ e) else x (ix2 r e) := by
  have lands : ∀ j : S8x1024.Idx, scatter_S16x1024_S1_S8x1024_01_n_0_0.resultIdx? j idx = some (ix2 r e) → (j 0).val = r.val ∧ j 1 = e := fun j hj => by
    rw [eq_ix2 j] at hj
    exact (lands_block idx h0 (j 0) (j 1) r e).1 hj
  by_cases h : r.val < 8
  · rw [dif_pos h]
    refine Routing.scatter_set_hit _ x idx u _ _ (fun j hj => ?_) (ix2 ⟨r.val, h⟩ e) ((lands_block idx h0 _ _ r e).2 ⟨rfl, rfl⟩)
    obtain ⟨h1, h2⟩ := lands j hj
    rw [eq_ix2 j]
    exact congrArg u (congrArg₂ ix2 (Fin.ext h1) h2)
  · rw [dif_neg h]
    exact Routing.scatter_set_miss _ x idx u _ fun j hj => h ((lands j hj).1 ▸ (j 0).isLt)

theorem row_apply (x : FVec Ideal S16x1024 .f32) (idx : IVec S1 32) (h8 : idx (ix1 (0 : Fin 1)) = 8#32) (u : FVec Ideal S1024 .f32) (r : Fin 16) (e : Fin 1024) :
    Host.scatter scatter_S16x1024_S1_S1024_0_0_0_0 (fun _ b => b) x idx u (ix2 r e) = if r.val = 8 then u (ix1 e) else x (ix2 r e) := by
  have lands : ∀ j : S1024.Idx, scatter_S16x1024_S1_S1024_0_0_0_0.resultIdx? j idx = some (ix2 r e) → 8 = r.val ∧ j 0 = e := fun j hj => by
    rw [eq_ix1 j] at hj
    exact (lands_row idx h8 (j 0) r e).1 hj
  by_cases h : r.val = 8
  · rw [if_pos h]
    refine Routing.scatter_set_hit _ x idx u _ _ (fun j hj => ?_) (ix1 e) ((lands_row idx h8 _ r e).2 ⟨h.symm, rfl⟩)
    rw [eq_ix1 j]
    exact congrArg u (congrArg ix1 (lands j hj).2)
  · rw [if_neg h]
    exact Routing.scatter_set_miss _ x idx u _ fun j hj => h (lands j hj).1.symm

/-- The rows of the arguments. -/
abbrev rowsOf (c : Dev nD) : FVec Ideal S16x1024 .f32 :=
  rowsV (m ((c : Thread nD τ).loc main_arg0)) (m ((c : Thread nD τ).loc main_arg1))

/-- The array of rows as the call finds it. -/
theorem rows_eq (c : Dev nD) : V m c main_v4 = rowsOf m c := by
  have e : V m c main_v4 = Host.scatter scatter_S16x1024_S1_S1024_0_0_0_0 (fun _ b => b)
      (Host.scatter scatter_S16x1024_S1_S8x1024_01_n_0_0 (fun _ b => b) (broadcastInDim S16x1024 ![] bcast_S_S16x1024 (constant (F := Ideal) S_ .f32 0x00000000#32))
        (broadcastInDim S1 ![] bcast_S_S1 (constantI S_ 32 0#32)) (m ((c : Thread nD τ).loc main_arg0)))
      (broadcastInDim S1 ![] bcast_S_S1 (constantI S_ 32 8#32)) (m ((c : Thread nD τ).loc main_arg1)) := by
    unfold V
    after_results <;> rfl
  rw [e]
  funext y
  rw [show y = ix2 (y 0) (y 1) from eq_ix2 y]
  refine (row_apply _ _ rfl _ (y 0) (y 1)).trans ((congrArg _ (block_apply _ _ rfl _ (y 0) (y 1))).trans (Eq.trans ?_ (rowsV_apply _ _ (y 0) (y 1)).symm))
  by_cases h : (y 0).val = 8
  · rw [if_pos h, dif_neg (by omega), if_pos h]
  · rw [if_neg h, if_neg h]
    refine congrArg (fun x => dite ((y 0).val < 8) _ fun _ => x) ?_
    pointwise []

/-! ## The points -/

/-- The windows' blocks at a grid point. -/
theorem idx : ∀ t : Fin cfg0.N,
    win0_0.index t = ![0, 0]
    ∧ win0_1.index t = ![t.val / 3, 0, t.val % 3]
    ∧ win0_2.index t = ![t.val / 3, 0, t.val % 3]
    ∧ win0_3.index t = ![t.val / 3, 0, t.val % 3]
    ∧ t.val / 3 < 4 :=
  (by decide +kernel : ∀ t : Fin grid0.N, _)

/-- What a point computes of its blocks. -/
theorem pay_at (x : Vec Ideal S16x1024 .f32) (w : Vec Ideal S1x1024x1024 .f32) (b : Vec Ideal S1x1x1024 .f32) (r : Fin 16) (e : Fin 1024) :
    k0_pay1 x w b (ix3 (0 : Fin 1) r e) = (∑ k : Fin 1024, w (ix3 (0 : Fin 1) k e) * siluV x (ix2 r k)) + b (ix3 (0 : Fin 1) (0 : Fin 1) e) := by
  simp only [siluV_apply]
  pointwise [k0_pay1, dot_S16x1024_S1024x1024_S16x1024_1_0_0_1_n_n]
  have h : Ideal.ofBits FTy.f32 0x3F000000#32 = ((1 / 2 : ℝ) : EReal) := by
    simp [Ideal.ofBits, Ideal.ieee, -EReal.coe_mul]; norm_num
  refine congrArg (· + b (ix3 (0 : Fin 1) (0 : Fin 1) e)) (Finset.sum_congr rfl fun k _ => ?_)
  rw [h, Cert.Attn.tanh_logistic, mul_comm]

/-- The blocks of a point. -/
theorem rows_blk (c : Dev nD) (t : Fin cfg0.N) (r : Fin 16) (k : Fin 1024) : iblk m c 0 t (ix2 r k) = rowsOf m c (ix2 r k) := by
  rw [← rows_eq m c]
  blk_ext [iblk, idx t]

theorem w_blk (c : Dev nD) (t : Fin cfg0.N) (k e : Fin 1024) (hl : t.val / 3 < 4) :
    iblk m c 1 t (ix3 (0 : Fin 1) k e) = m ((c : Thread nD τ).loc main_arg2) (ix3 ⟨t.val / 3, hl⟩ k ⟨t.val % 3 * 1024 + e.val, by omega⟩) := by
  blk_ext [iblk, V, idx t]

theorem b_blk (c : Dev nD) (t : Fin cfg0.N) (e : Fin 1024) (hl : t.val / 3 < 4) :
    iblk m c 2 t (ix3 (0 : Fin 1) (0 : Fin 1) e) = m ((c : Thread nD τ).loc main_arg3) (ix2 ⟨t.val / 3, hl⟩ ⟨t.val % 3 * 1024 + e.val, by omega⟩) := by
  have e5 : V m c main_v5 = shapeCast S4x1x3072 (m ((c : Thread nD τ).loc main_arg3)) shapeCasts_S4x3072_S4x1x3072 := by
    unfold V
    after_results <;> rfl
  show V m c main_v5 _ = _
  rw [e5]
  refine Eq.trans (b := shapeCast S4x1x3072 (m ((c : Thread nD τ).loc main_arg3)) shapeCasts_S4x3072_S4x1x3072
    (ix3 (⟨t.val / 3, hl⟩ : Fin 4) (0 : Fin 1) (⟨t.val % 3 * 1024 + e.val, by omega⟩ : Fin 3072))) ?_ ?_
  · blk_ext [idx t]
  · pointwise []

/-- What a point leaves of the result is the reference's result at the place it lands. -/
theorem point (c : Dev nD) (t : Fin cfg0.N) (y : S1x16x1024.Idx) :
    k0_pay1 (F := Ideal) (iblk m c 0 t) (iblk m c 1 t) (iblk m c 2 t) y
      = resultV (rowsOf m c) (m ((c : Thread nD τ).loc main_arg2)) (m ((c : Thread nD τ).loc main_arg3)) (((cfg0.win 3).blk t).view.emb y) := by
  obtain ⟨a, r, e, rfl⟩ : ∃ (a : Fin 1) (r : Fin 16) (e : Fin 1024), y = ix3 a r e := ⟨y 0, y 1, y 2, eq_ix3 y⟩
  obtain rfl : a = 0 := Subsingleton.elim _ _
  have hl : t.val / 3 < 4 := (idx t).2.2.2.2
  refine (pay_at _ _ _ r e).trans ?_
  refine Eq.trans (b := resultV (rowsOf m c) (m ((c : Thread nD τ).loc main_arg2)) (m ((c : Thread nD τ).loc main_arg3))
          (ix3 ⟨t.val / 3, hl⟩ r ⟨t.val % 3 * 1024 + e.val, by omega⟩)) ?_ ?_
  · refine Eq.trans ?_ (resultV_apply _ _ _ _ _ _).symm
    refine congrArg₂ (· + ·) (Finset.sum_congr rfl fun k _ => congrArg₂ (· * ·) (w_blk m c t k e hl) ?_) (b_blk m c t e hl)
    rw [siluV_apply, siluV_apply, rows_blk m c t r k]
  · blk_ext [idx t]

/-- The result array after the run. -/
theorem final (c : Dev nD) : (dats m 0 c).arrAt 3 (cfgs 0).N
    = resultV (rowsOf m c) (m ((c : Thread nD τ).loc main_arg2)) (m ((c : Thread nD τ).loc main_arg3)) := by
  refine (dats m 0 c).arrAt_eq_of_covers 3 _ (by decide +kernel) fun t _ y => ?_
  blk_simp
  rw [after0_3]
  refine Eq.trans ?_ (point m c t y)
  unfold out0_3
  frame_out

end Cert.Kernel6Ideal.Mods
-- ==== Proof.lean ====
module

public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.KernelFrame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Final
public import proofs.«01_k».proof.Proof.RefTerm
public import proofs.«01_k».proof.Proof.InProj
public import proofs.«01_k».proof.Proof.EvenOut
public import proofs.«01_k».proof.Proof.OddProj
public import proofs.«01_k».proof.Proof.CtxAttn
public import proofs.«01_k».proof.Proof.Mods
public import Idealize.ShloMosaic.Adequacy
public import Idealize.ShloMosaic.Init

@[expose] public section

noncomputable section

namespace Cert.Proof

open Idealize.ShloMosaic Idealize.ShloMosaic.TcCoe Idealize.SL.Sem

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result and the reference's are one function of the arguments. -/
theorem algebraic : Cert.algebraic_KernelIdeal_ReferenceIdeal := fun m g m' g' _ hargs =>
  ⟨fun c => Cert.ReferenceIdeal.Attn.resultV (F := Ideal) (m (c.tc.loc Cert.KernelIdeal.main_arg0)) (m (c.tc.loc Cert.KernelIdeal.main_arg1))
      (m (c.tc.loc Cert.KernelIdeal.main_arg2)),
    (θ_run _ _ _).mono (fun r h c => ⟨(h c).1.trans (Cert.KernelIdeal.Attn.final m c), (h c).2⟩) (Cert.KernelIdeal.Value.run_blocks m g),
    (θ_run _ _ _).mono (fun r h c => ⟨(h c).1.trans ((Cert.ReferenceIdeal.Attn.result_eq m' c).trans (by
      rw [(hargs c).1, (hargs c).2.1, (hargs c).2.2])), (h c).2⟩) (Cert.ReferenceIdeal.Value.run (F := Ideal) m' g')⟩

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The input projection of an even layer. -/
theorem algebraic2 : Cert.algebraic_Kernel2Ideal_Reference2Ideal := fun m g m' g' _ hargs =>
  ⟨fun c => Cert.Reference2Ideal.Proj.resultV (m (c.tc.loc Cert.Kernel2Ideal.main_arg0)) (m (c.tc.loc Cert.Kernel2Ideal.main_arg1))
      (m (c.tc.loc Cert.Kernel2Ideal.main_arg2)) (m (c.tc.loc Cert.Kernel2Ideal.main_arg3)) (m (c.tc.loc Cert.Kernel2Ideal.main_arg4)),
    (θ_run _ _ _).mono (fun r h c => ⟨(h c).1.trans (Cert.Kernel2Ideal.Proj.final m c), (h c).2⟩) (Cert.Kernel2Ideal.Value.run_blocks m g),
    (θ_run _ _ _).mono (fun r h c => ⟨(h c).1.trans (by
      rw [(hargs c).1, (hargs c).2.1, (hargs c).2.2.1, (hargs c).2.2.2.1, (hargs c).2.2.2.2]; rfl), (h c).2⟩)
      (Cert.Reference2Ideal.Value.run (F := Ideal) m' g')⟩

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The convolution and the output projection of an even layer. -/
theorem algebraic3 : Cert.algebraic_Kernel3Ideal_Reference3Ideal := fun m g m' g' _ hargs =>
  ⟨fun c => Cert.Reference3Ideal.Mix.resultV (m (c.tc.loc Cert.Kernel3Ideal.main_arg0)) (m (c.tc.loc Cert.Kernel3Ideal.main_arg1))
      (m (c.tc.loc Cert.Kernel3Ideal.main_arg2)) (m (c.tc.loc Cert.Kernel3Ideal.main_arg3)) (m (c.tc.loc Cert.Kernel3Ideal.main_arg4))
      (m (c.tc.loc Cert.Kernel3Ideal.main_arg5)),
    (θ_run _ _ _).mono (fun r h c => ⟨(h c).1.trans (Cert.Kernel3Ideal.Mix.final m c), (h c).2⟩) (Cert.Kernel3Ideal.Value.run_blocks m g),
    (θ_run _ _ _).mono (fun r h c => ⟨(h c).1.trans (by
      rw [(hargs c).1, (hargs c).2.1, (hargs c).2.2.1, (hargs c).2.2.2.1, (hargs c).2.2.2.2.1, (hargs c).2.2.2.2.2]; rfl), (h c).2⟩)
      (Cert.Reference3Ideal.Value.run (F := Ideal) m' g')⟩

theorem frame_reference4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- The input projection, the convolution and the gate of an odd layer. -/
theorem algebraic4 : Cert.algebraic_Kernel4Ideal_Reference4Ideal := fun m g m' g' _ hargs =>
  ⟨fun c => Cert.Reference4Ideal.Odd.convV (Cert.Kernel4Ideal.Odd.projOf m c) (m (c.tc.loc Cert.Kernel4Ideal.main_arg5)) (m (c.tc.loc Cert.Kernel4Ideal.main_arg6)),
    fun c => Cert.Reference4Ideal.Odd.gateV (Cert.Kernel4Ideal.Odd.projOf m c),
    (θ_run _ _ _).mono (fun r h c => ⟨(h c).1.trans (Cert.Kernel4Ideal.Odd.final_conv m c), (h c).2.1.trans (Cert.Kernel4Ideal.Odd.final_gate m c), (h c).2.2⟩)
      (Cert.Kernel4Ideal.Value.run_blocks m g),
    (θ_run _ _ _).mono (fun r h c => ⟨(h c).1.trans (by
      unfold Cert.Reference4Ideal.Value.res_main_v55
      rw [(hargs c).1, (hargs c).2.1, (hargs c).2.2.1, (hargs c).2.2.2.1, (hargs c).2.2.2.2.1, (hargs c).2.2.2.2.2.1, (hargs c).2.2.2.2.2.2]; rfl),
      (h c).2.1.trans (by
      rw [(hargs c).1, (hargs c).2.1, (hargs c).2.2.1, (hargs c).2.2.2.1, (hargs c).2.2.2.2.1]; rfl), (h c).2.2⟩)
      (Cert.Reference4Ideal.Value.run (F := Ideal) m' g')⟩

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The context's attention. -/
theorem algebraic5 : Cert.algebraic_Kernel5Ideal_Reference5Ideal := fun m g m' g' _ hargs =>
  ⟨fun c => Cert.Reference5Ideal.Ctx.resultV (m (c.tc.loc Cert.Kernel5Ideal.main_arg0)),
    (θ_run _ _ _).mono (fun r h c => ⟨(h c).1.trans (Cert.Kernel5Ideal.Ctx.final m c), (h c).2⟩) (Cert.Kernel5Ideal.Value.run_blocks m g),
    (θ_run _ _ _).mono (fun r h c => ⟨(h c).1.trans (by
      unfold Cert.Reference5Ideal.Value.res_main_v28
      rw [hargs c]; rfl), (h c).2⟩)
      (Cert.Reference5Ideal.Value.run (F := Ideal) m' g')⟩

theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The modulation of all layers. -/
theorem algebraic6 : Cert.algebraic_Kernel6Ideal_Reference6Ideal := fun m g m' g' _ hargs =>
  ⟨fun c => Cert.Reference6Ideal.Mods.resultV (Cert.Kernel6Ideal.Mods.rowsOf m c) (m (c.tc.loc Cert.Kernel6Ideal.main_arg2))
      (m (c.tc.loc Cert.Kernel6Ideal.main_arg3)),
    (θ_run _ _ _).mono (fun r h c => ⟨(h c).1.trans (Cert.Kernel6Ideal.Mods.final m c), (h c).2⟩) (Cert.Kernel6Ideal.Value.run_blocks m g),
    (θ_run _ _ _).mono (fun r h c => ⟨(h c).1.trans (by
      rw [(hargs c).1, (hargs c).2.1, (hargs c).2.2.1, (hargs c).2.2.2]; rfl), (h c).2⟩)
      (Cert.Reference6Ideal.Value.run (F := Ideal) m' g')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  trivial, algebraic, trivial, algebraic2, trivial, algebraic3, trivial, algebraic4, trivial, algebraic5, trivial, algebraic6⟩

end Cert.Proof

end
